-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks_as_drawn [hPre_masks_as_drawn : Cert.Pre_masks_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_masks_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks_as_drawn [hPre_masks_as_drawn : Cert.Pre_masks_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_masks_as_drawn [hKernelIdeal : Cert.KernelIdeal.Facts] [hPre_masks_as_drawn : Cert.Pre_masks_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_masks_as_drawn [hReferenceIdeal : Cert.ReferenceIdeal.Facts] [hPre_masks_as_drawn : Cert.Pre_masks_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_masks_as_drawn [hKernelIdeal : Cert.KernelIdeal.Facts] [hReferenceIdeal : Cert.ReferenceIdeal.Facts] [hPre_masks_as_drawn : Cert.Pre_masks_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v18_2)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v18_2) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v252_6) = v2 c
          ∧ r.2.mem ((c.tc : Thread Cert.ReferenceIdeal.nD Cert.ReferenceIdeal.τ).loc Cert.ReferenceIdeal.main_values) = v3 c
          ∧ r.2.mem ((c.tc : Thread Cert.ReferenceIdeal.nD Cert.ReferenceIdeal.τ).loc Cert.ReferenceIdeal.main_v230) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_masks_as_drawn : Cert.Pre_masks_as_drawn.Facts),
    quiescent_Kernel (hKernel := hKernel)
    ∧ quiescent_KernelIdeal (hKernelIdeal := hKernelIdeal)
    ∧ quiescent_KernelIdeal_pre_masks_as_drawn (hKernelIdeal := hKernelIdeal) (hPre_masks_as_drawn := hPre_masks_as_drawn)
    ∧ quiescent_ReferenceIdeal (hReferenceIdeal := hReferenceIdeal)
    ∧ quiescent_ReferenceIdeal_pre_masks_as_drawn (hReferenceIdeal := hReferenceIdeal) (hPre_masks_as_drawn := hPre_masks_as_drawn)
    ∧ preserves_Kernel_KernelIdeal
    ∧ algebraic_KernelIdeal_ReferenceIdeal_pre_masks_as_drawn (hKernelIdeal := hKernelIdeal) (hReferenceIdeal := hReferenceIdeal) (hPre_masks_as_drawn := hPre_masks_as_drawn)
-- ==== Pre_masks_as_drawn.lean ====
abbrev S4x1024x768 : Shape := ⟨3, ![4, 1024, 768]⟩
abbrev S4x1024 : Shape := ⟨2, ![4, 1024]⟩
abbrev S768x512 : Shape := ⟨2, ![768, 512]⟩
abbrev S512 : Shape := ⟨1, ![512]⟩
abbrev S512x768 : Shape := ⟨2, ![512, 768]⟩
abbrev S768 : Shape := ⟨1, ![768]⟩
abbrev S1536x512 : Shape := ⟨2, ![1536, 512]⟩
abbrev S_ : Shape := ⟨0, ![]⟩

class Facts : Prop where
  bcast_S_S4x1024 : S_.BroadcastsInDim S4x1024 (![] : Fin 0 → Fin S4x1024.rank)
  natLt_1_32 : 1 < 32

variable [Facts]

def fn_where {F : FTy → Type} [FloatOps F] (arg0 : IVec S4x1024 1) (arg1 : IVec S4x1024 32) (arg2 : IVec S_ 32) : IVec S4x1024 32 :=
  let v0 : IVec S_ 32 := id arg2
  let v1 : IVec S4x1024 32 := broadcastInDim S4x1024 ![] bcast_S_S4x1024 v0
  let v2 : IVec S4x1024 32 := select arg0 arg1 v1
  v2

def fn_part1 {F : FTy → Type} [FloatOps F] (main_arg3 : IVec S4x1024 32) (main_v14 : IVec S4x1024 1) (main_v17 : IVec S4x1024 32) : IVec S4x1024 1 :=
  let main_v18 : IVec S4x1024 1 := cmpi .eq main_arg3 main_v17
  let main_v19 : IVec S4x1024 1 := andi main_v14 main_v18
  main_v19

def fn {F : FTy → Type} [FloatOps F] (main_arg0 : FVec F S4x1024x768 .f32) (main_arg1 : IVec S4x1024 32) (main_arg2 : IVec S4x1024 32) (main_arg3 : IVec S4x1024 32) (main_arg4 : FVec F S768x512 .f32) (main_arg5 : FVec F S512 .f32) (main_arg6 : FVec F S512x768 .f32) (main_arg7 : FVec F S768 .f32) (main_arg8 : FVec F S1536x512 .f32) (main_arg9 : FVec F S512 .f32) (main_arg10 : FVec F S512x768 .f32) (main_arg11 : FVec F S768 .f32) : IVec S4x1024 1 :=
  let main_v0 : IVec S4x1024 32 := iotaInDim S4x1024 32 1
  let main_c : IVec S_ 32 := constantI S_ 32 25#32
  let main_v1 : IVec S4x1024 32 := broadcastInDim S4x1024 ![] bcast_S_S4x1024 main_c
  let main_v2 : IVec S4x1024 1 := cmpi .sge main_v0 main_v1
  let main_c_0 : IVec S_ 32 := constantI S_ 32 985#32
  let main_v3 : IVec S4x1024 32 := broadcastInDim S4x1024 ![] bcast_S_S4x1024 main_c_0
  let main_v4 : IVec S4x1024 1 := cmpi .slt main_v0 main_v3
  let main_v5 : IVec S4x1024 1 := andi main_v2 main_v4
  let main_c_1 : IVec S_ 32 := constantI S_ 32 25#32
  let main_v6 : IVec S4x1024 32 := broadcastInDim S4x1024 ![] bcast_S_S4x1024 main_c_1
  let main_v7 : IVec S4x1024 32 := subi main_v0 main_v6
  let main_c_2 : IVec S_ 32 := constantI S_ 32 1#32
  let main_v8 : IVec S4x1024 32 := broadcastInDim S4x1024 ![] bcast_S_S4x1024 main_c_2
  let main_v9 : IVec S4x1024 32 := Host.shrsi main_v7 main_v8
  let main_c_3 : IVec S_ 32 := constantI S_ 32 4294967295#32
  let main_v10 : IVec S4x1024 32 := fn_where (F := F) main_v5 main_v9 main_c_3
  let main_v11 : IVec S4x1024 32 := (extui 32 · natLt_1_32) main_v5
  let main_v12 : IVec S4x1024 1 := cmpi .eq main_arg1 main_v11
  let main_v13 : IVec S4x1024 1 := cmpi .eq main_arg2 main_v10
  let main_v14 : IVec S4x1024 1 := andi main_v12 main_v13
  let main_c_4 : IVec S_ 32 := constantI S_ 32 25#32
  let main_v15 : IVec S4x1024 32 := broadcastInDim S4x1024 ![] bcast_S_S4x1024 main_c_4
  let main_v16 : IVec S4x1024 1 := cmpi .slt main_v0 main_v15
  let main_v17 : IVec S4x1024 32 := (extui 32 · natLt_1_32) main_v16
  fn_part1 (F := F) main_arg3 main_v14 main_v17
-- ==== Kernel.lean ====
abbrev S4x1024x768 : Shape := ⟨3, ![4, 1024, 768]⟩
abbrev S4x1024 : Shape := ⟨2, ![4, 1024]⟩
abbrev S768x512 : Shape := ⟨2, ![768, 512]⟩
abbrev S512 : Shape := ⟨1, ![512]⟩
abbrev S512x768 : Shape := ⟨2, ![512, 768]⟩
abbrev S768 : Shape := ⟨1, ![768]⟩
abbrev S1536x512 : Shape := ⟨2, ![1536, 512]⟩
abbrev S4x960x768 : Shape := ⟨3, ![4, 960, 768]⟩
abbrev S4x480x2x768 : Shape := ⟨4, ![4, 480, 2, 768]⟩
abbrev S4x32x768 : Shape := ⟨3, ![4, 32, 768]⟩
abbrev S1x512 : Shape := ⟨2, ![1, 512]⟩
abbrev S1x768 : Shape := ⟨2, ![1, 768]⟩
abbrev S4x12x480x768 : Shape := ⟨4, ![4, 12, 480, 768]⟩
abbrev S1x480x2x768 : Shape := ⟨4, ![1, 480, 2, 768]⟩
abbrev S1x32x768 : Shape := ⟨3, ![1, 32, 768]⟩
abbrev S1x12x480x768 : Shape := ⟨4, ![1, 12, 480, 768]⟩
abbrev S1x480x1x768 : Shape := ⟨4, ![1, 480, 1, 768]⟩
abbrev S480x768 : Shape := ⟨2, ![480, 768]⟩
abbrev S16x768 : Shape := ⟨2, ![16, 768]⟩
abbrev S496x768 : Shape := ⟨2, ![496, 768]⟩
abbrev S1x1x480x768 : Shape := ⟨4, ![1, 1, 480, 768]⟩
abbrev S32x768 : Shape := ⟨2, ![32, 768]⟩
abbrev S32x512 : Shape := ⟨2, ![32, 512]⟩
abbrev S4x12x480x25 : Shape := ⟨4, ![4, 12, 480, 25]⟩
abbrev S4x12x1x480 : Shape := ⟨4, ![4, 12, 1, 480]⟩
abbrev S1x1x480x25 : Shape := ⟨4, ![1, 1, 480, 25]⟩
abbrev S1x1x1x480 : Shape := ⟨4, ![1, 1, 1, 480]⟩
abbrev S480x1536 : Shape := ⟨2, ![480, 1536]⟩
abbrev S480x512 : Shape := ⟨2, ![480, 512]⟩
abbrev S768x480 : Shape := ⟨2, ![768, 480]⟩
abbrev S32x480 : Shape := ⟨2, ![32, 480]⟩
abbrev S480x32 : Shape := ⟨2, ![480, 32]⟩
abbrev S480x25 : Shape := ⟨2, ![480, 25]⟩
abbrev S480 : Shape := ⟨1, ![480]⟩
abbrev S480x1 : Shape := ⟨2, ![480, 1]⟩
abbrev S4x480x12x25 : Shape := ⟨4, ![4, 480, 12, 25]⟩
abbrev S4x5760x25 : Shape := ⟨3, ![4, 5760, 25]⟩
abbrev S4x12x480 : Shape := ⟨3, ![4, 12, 480]⟩
abbrev S4x480x12 : Shape := ⟨3, ![4, 480, 12]⟩
abbrev S4x5760 : Shape := ⟨2, ![4, 5760]⟩
abbrev S4x512 : Shape := ⟨2, ![4, 512]⟩
abbrev S4x480 : Shape := ⟨2, ![4, 480]⟩
abbrev S4 : Shape := ⟨1, ![4]⟩
abbrev S4x1 : Shape := ⟨2, ![4, 1]⟩
abbrev S_ : Shape := ⟨0, ![]⟩

abbrev nBuf : Space → Nat
  | .hbm => 40
  | .vmem => 32
  | .smem => 0
  | _ => 0

abbrev bufTy : (tb : Table) → Fin (tcTables nBuf tb) → BufTy
  | .hbm, ⟨0, _⟩ => ⟨S4x1024x768, .f32⟩
  | .hbm, ⟨1, _⟩ => ⟨S4x1024, .i32⟩
  | .hbm, ⟨2, _⟩ => ⟨S4x1024, .i32⟩
  | .hbm, ⟨3, _⟩ => ⟨S4x1024, .i32⟩
  | .hbm, ⟨4, _⟩ => ⟨S768x512, .f32⟩
  | .hbm, ⟨5, _⟩ => ⟨S512, .f32⟩
  | .hbm, ⟨6, _⟩ => ⟨S512x768, .f32⟩
  | .hbm, ⟨7, _⟩ => ⟨S768, .f32⟩
  | .hbm, ⟨8, _⟩ => ⟨S1536x512, .f32⟩
  | .hbm, ⟨9, _⟩ => ⟨S512, .f32⟩
  | .hbm, ⟨10, _⟩ => ⟨S512x768, .f32⟩
  | .hbm, ⟨11, _⟩ => ⟨S768, .f32⟩
  | .hbm, ⟨12, _⟩ => ⟨S4x960x768, .f32⟩
  | .hbm, ⟨13, _⟩ => ⟨S4x480x2x768, .f32⟩
  | .hbm, ⟨14, _⟩ => ⟨S4x32x768, .f32⟩
  | .hbm, ⟨15, _⟩ => ⟨S1x512, .f32⟩
  | .hbm, ⟨16, _⟩ => ⟨S1x768, .f32⟩
  | .hbm, ⟨17, _⟩ => ⟨S4x12x480x768, .f32⟩
  | .hbm, ⟨18, _⟩ => ⟨S4x32x768, .f32⟩
  | .hbm, ⟨19, _⟩ => ⟨S1x512, .f32⟩
  | .hbm, ⟨20, _⟩ => ⟨S1x768, .f32⟩
  | .hbm, ⟨21, _⟩ => ⟨S4x12x480x25, .f32⟩
  | .hbm, ⟨22, _⟩ => ⟨S4x12x1x480, .f32⟩
  | .hbm, ⟨23, _⟩ => ⟨S4x12x1x480, .f32⟩
  | .hbm, ⟨24, _⟩ => ⟨S4x480x12x25, .f32⟩
  | .hbm, ⟨25, _⟩ => ⟨S4x5760x25, .f32⟩
  | .hbm, ⟨26, _⟩ => ⟨S4x12x480, .f32⟩
  | .hbm, ⟨27, _⟩ => ⟨S4x480x12, .f32⟩
  | .hbm, ⟨28, _⟩ => ⟨S4x5760, .f32⟩
  | .hbm, ⟨29, _⟩ => ⟨S4x12x480, .f32⟩
  | .hbm, ⟨30, _⟩ => ⟨S4x480x12, .f32⟩
  | .hbm, ⟨31, _⟩ => ⟨S4x5760, .f32⟩
  | .hbm, ⟨32, _⟩ => ⟨S4x5760, .i32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S4x512, .i32⟩
  | .hbm, ⟨37, _⟩ => ⟨S_, .f32⟩
  | .hbm, ⟨38, _⟩ => ⟨S4x512, .f32⟩
  | .hbm, ⟨39, _⟩ => ⟨S4x512, .i1⟩
  | .local _ .vmem, ⟨0, _⟩ => ⟨S1x480x2x768, .f32⟩
  | .local _ .vmem, ⟨1, _⟩ => ⟨S1x480x2x768, .f32⟩
  | .local _ .vmem, ⟨2, _⟩ => ⟨S1x32x768, .f32⟩
  | .local _ .vmem, ⟨3, _⟩ => ⟨S1x32x768, .f32⟩
  | .local _ .vmem, ⟨4, _⟩ => ⟨S768x512, .f32⟩
  | .local _ .vmem, ⟨5, _⟩ => ⟨S1x512, .f32⟩
  | .local _ .vmem, ⟨6, _⟩ => ⟨S512x768, .f32⟩
  | .local _ .vmem, ⟨7, _⟩ => ⟨S1x768, .f32⟩
  | .local _ .vmem, ⟨8, _⟩ => ⟨S1x12x480x768, .f32⟩
  | .local _ .vmem, ⟨9, _⟩ => ⟨S1x12x480x768, .f32⟩
  | .local _ .vmem, ⟨10, _⟩ => ⟨S1x32x768, .f32⟩
  | .local _ .vmem, ⟨11, _⟩ => ⟨S1x32x768, .f32⟩
  | .local _ .vmem, ⟨12, _⟩ => ⟨S1x1x480x768, .f32⟩
  | .local _ .vmem, ⟨13, _⟩ => ⟨S1x1x480x768, .f32⟩
  | .local _ .vmem, ⟨14, _⟩ => ⟨S1x1x480x768, .f32⟩
  | .local _ .vmem, ⟨15, _⟩ => ⟨S1x1x480x768, .f32⟩
  | .local _ .vmem, ⟨16, _⟩ => ⟨S1x32x768, .f32⟩
  | .local _ .vmem, ⟨17, _⟩ => ⟨S1x32x768, .f32⟩
  | .local _ .vmem, ⟨18, _⟩ => ⟨S1536x512, .f32⟩
  | .local _ .vmem, ⟨19, _⟩ => ⟨S1x512, .f32⟩
  | .local _ .vmem, ⟨20, _⟩ => ⟨S512x768, .f32⟩
  | .local _ .vmem, ⟨21, _⟩ => ⟨S1x768, .f32⟩
  | .local _ .vmem, ⟨22, _⟩ => ⟨S1x1x480x25, .f32⟩
  | .local _ .vmem, ⟨23, _⟩ => ⟨S1x1x480x25, .f32⟩
  | .local _ .vmem, ⟨24, _⟩ => ⟨S1x1x1x480, .f32⟩
  | .local _ .vmem, ⟨25, _⟩ => ⟨S1x1x1x480, .f32⟩
  | .local _ .vmem, ⟨26, _⟩ => ⟨S1x1x1x480, .f32⟩
  | .local _ .vmem, ⟨27, _⟩ => ⟨S1x1x1x480, .f32⟩
  | .local _ .vmem, ⟨28, _⟩ => ⟨S4x5760, .f32⟩
  | .local _ .vmem, ⟨29, _⟩ => ⟨S4x512, .f32⟩
  | .local _ .vmem, ⟨30, _⟩ => ⟨S4x512, .f32⟩
  | .local _ .vmem, ⟨31, _⟩ => ⟨S4x512, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem1_0 : DmaSem sig := 29
abbrev cc2_sem2_0 : DmaSem sig := 30
abbrev cc2_sem3_0 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x480x2x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x12x480x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 12], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x480x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x480x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1536x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1x480x25 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x1x480 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x1x480 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := .none

@[reducible] def k2_t1_loop : Scf.Loop 32 :=
  let c0_i32 : BitVec 32 := 0#32
  let c512_i32 : BitVec 32 := 512#32
  let v13 : BitVec 32 := Scalar.addi c0_i32 c512_i32
  let c1_i32 : BitVec 32 := 1#32
  ⟨c0_i32, v13, c1_i32⟩
abbrev stage2_0 : Fin 1 → Memref sig .tc .vmem S4x5760 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S4x1024x768 : Shape := ⟨3, ![4, 1024, 768]⟩
abbrev S4x1024 : Shape := ⟨2, ![4, 1024]⟩
abbrev S768x512 : Shape := ⟨2, ![768, 512]⟩
abbrev S512 : Shape := ⟨1, ![512]⟩
abbrev S512x768 : Shape := ⟨2, ![512, 768]⟩
abbrev S768 : Shape := ⟨1, ![768]⟩
abbrev S1536x512 : Shape := ⟨2, ![1536, 512]⟩
abbrev S_ : Shape := ⟨0, ![]⟩
abbrev S1x1024x768 : Shape := ⟨3, ![1, 1024, 768]⟩
abbrev S1024x768 : Shape := ⟨2, ![1024, 768]⟩
abbrev S1x1024 : Shape := ⟨2, ![1, 1024]⟩
abbrev S1024 : Shape := ⟨1, ![1024]⟩
abbrev S1024x1 : Shape := ⟨2, ![1024, 1]⟩
abbrev S481x768 : Shape := ⟨2, ![481, 768]⟩
abbrev S481 : Shape := ⟨1, ![481]⟩
abbrev S480x768 : Shape := ⟨2, ![480, 768]⟩
abbrev S480 : Shape := ⟨1, ![480]⟩
abbrev S480x1 : Shape := ⟨2, ![480, 1]⟩
abbrev S1x480x768 : Shape := ⟨3, ![1, 480, 768]⟩
abbrev S4x480x768 : Shape := ⟨3, ![4, 480, 768]⟩
abbrev S25 : Shape := ⟨1, ![25]⟩
abbrev S25x1 : Shape := ⟨2, ![25, 1]⟩
abbrev S25x768 : Shape := ⟨2, ![25, 768]⟩
abbrev S1x25x768 : Shape := ⟨3, ![1, 25, 768]⟩
abbrev S4x25x768 : Shape := ⟨3, ![4, 25, 768]⟩
abbrev S4x25x512 : Shape := ⟨3, ![4, 25, 512]⟩
abbrev S1x1x512 : Shape := ⟨3, ![1, 1, 512]⟩
abbrev S1x1x768 : Shape := ⟨3, ![1, 1, 768]⟩
abbrev S480x12 : Shape := ⟨2, ![480, 12]⟩
abbrev S5760 : Shape := ⟨1, ![5760]⟩
abbrev S12 : Shape := ⟨1, ![12]⟩
abbrev S1x12 : Shape := ⟨2, ![1, 12]⟩
abbrev S5760x1 : Shape := ⟨2, ![5760, 1]⟩
abbrev S4x5760x768 : Shape := ⟨3, ![4, 5760, 768]⟩
abbrev S4x5760x1536 : Shape := ⟨3, ![4, 5760, 1536]⟩
abbrev S4x5760x512 : Shape := ⟨3, ![4, 5760, 512]⟩
abbrev S4x5760x25 : Shape := ⟨3, ![4, 5760, 25]⟩
abbrev S1x5760x1 : Shape := ⟨3, ![1, 5760, 1]⟩
abbrev S4x5760 : Shape := ⟨2, ![4, 5760]⟩
abbrev S4x512 : Shape := ⟨2, ![4, 512]⟩
abbrev S4x512x1 : Shape := ⟨3, ![4, 512, 1]⟩
abbrev S1x512 : Shape := ⟨2, ![1, 512]⟩
abbrev S4x1 : Shape := ⟨2, ![4, 1]⟩
abbrev S4 : Shape := ⟨1, ![4]⟩
abbrev S1 : Shape := ⟨1, ![1]⟩

abbrev nBuf : Space → Nat
  | .hbm => 436
  | .vmem => 0
  | .smem => 0
  | _ => 0

abbrev hbmTy0_0 (i : Nat) : BufTy := match i % 128 with
  | 0 => ⟨S4x1024x768, .f32⟩
  | 1 => ⟨S4x1024, .i32⟩
  | 2 => ⟨S4x1024, .i32⟩
  | 3 => ⟨S4x1024, .i32⟩
  | 4 => ⟨S768x512, .f32⟩
  | 5 => ⟨S512, .f32⟩
  | 6 => ⟨S512x768, .f32⟩
  | 7 => ⟨S768, .f32⟩
  | 8 => ⟨S1536x512, .f32⟩
  | 9 => ⟨S512, .f32⟩
  | 10 => ⟨S512x768, .f32⟩
  | 11 => ⟨S768, .f32⟩
  | 12 => ⟨S_, .i32⟩
  | 13 => ⟨S4x1024, .i32⟩
  | 14 => ⟨S4x1024, .i1⟩
  | 15 => ⟨S_, .i32⟩
  | 16 => ⟨S4x1024, .i32⟩
  | 17 => ⟨S4x1024, .i1⟩
  | 18 => ⟨S4x1024, .i1⟩
  | 19 => ⟨S_, .i32⟩
  | 20 => ⟨S_, .i32⟩
  | 21 => ⟨S4x1024, .i32⟩
  | 22 => ⟨S4x1024, .i32⟩
  | 23 => ⟨S4x1024, .f32⟩
  | 24 => ⟨S1x1024x768, .f32⟩
  | 25 => ⟨S1024x768, .f32⟩
  | 26 => ⟨S1x1024, .i32⟩
  | 27 => ⟨S1024, .i32⟩
  | 28 => ⟨S1x1024, .f32⟩
  | 29 => ⟨S1024, .f32⟩
  | 30 => ⟨S1024x1, .f32⟩
  | 31 => ⟨S1024x768, .f32⟩
  | 32 => ⟨S1024x768, .f32⟩
  | 33 => ⟨S_, .f32⟩
  | 34 => ⟨S481x768, .f32⟩
  | 35 => ⟨S1024x1, .i32⟩
  | 36 => ⟨S481x768, .f32⟩
  | 37 => ⟨S_, .f32⟩
  | 38 => ⟨S481, .f32⟩
  | 39 => ⟨S1024x1, .i32⟩
  | 40 => ⟨S481, .f32⟩
  | 41 => ⟨S480x768, .f32⟩
  | 42 => ⟨S480, .f32⟩
  | 43 => ⟨S480x1, .f32⟩
  | 44 => ⟨S_, .f32⟩
  | 45 => ⟨S480x1, .f32⟩
  | 46 => ⟨S480x1, .f32⟩
  | 47 => ⟨S480x768, .f32⟩
  | 48 => ⟨S480x768, .f32⟩
  | 49 => ⟨S1x1024x768, .f32⟩
  | 50 => ⟨S1024x768, .f32⟩
  | 51 => ⟨S1x1024, .i32⟩
  | 52 => ⟨S1024, .i32⟩
  | 53 => ⟨S1x1024, .f32⟩
  | 54 => ⟨S1024, .f32⟩
  | 55 => ⟨S1024x1, .f32⟩
  | 56 => ⟨S1024x768, .f32⟩
  | 57 => ⟨S1024x768, .f32⟩
  | 58 => ⟨S_, .f32⟩
  | 59 => ⟨S481x768, .f32⟩
  | 60 => ⟨S1024x1, .i32⟩
  | 61 => ⟨S481x768, .f32⟩
  | 62 => ⟨S_, .f32⟩
  | 63 => ⟨S481, .f32⟩
  | 64 => ⟨S1024x1, .i32⟩
  | 65 => ⟨S481, .f32⟩
  | 66 => ⟨S480x768, .f32⟩
  | 67 => ⟨S480, .f32⟩
  | 68 => ⟨S480x1, .f32⟩
  | 69 => ⟨S_, .f32⟩
  | 70 => ⟨S480x1, .f32⟩
  | 71 => ⟨S480x1, .f32⟩
  | 72 => ⟨S480x768, .f32⟩
  | 73 => ⟨S480x768, .f32⟩
  | 74 => ⟨S1x1024x768, .f32⟩
  | 75 => ⟨S1024x768, .f32⟩
  | 76 => ⟨S1x1024, .i32⟩
  | 77 => ⟨S1024, .i32⟩
  | 78 => ⟨S1x1024, .f32⟩
  | 79 => ⟨S1024, .f32⟩
  | 80 => ⟨S1024x1, .f32⟩
  | 81 => ⟨S1024x768, .f32⟩
  | 82 => ⟨S1024x768, .f32⟩
  | 83 => ⟨S_, .f32⟩
  | 84 => ⟨S481x768, .f32⟩
  | 85 => ⟨S1024x1, .i32⟩
  | 86 => ⟨S481x768, .f32⟩
  | 87 => ⟨S_, .f32⟩
  | 88 => ⟨S481, .f32⟩
  | 89 => ⟨S1024x1, .i32⟩
  | 90 => ⟨S481, .f32⟩
  | 91 => ⟨S480x768, .f32⟩
  | 92 => ⟨S480, .f32⟩
  | 93 => ⟨S480x1, .f32⟩
  | 94 => ⟨S_, .f32⟩
  | 95 => ⟨S480x1, .f32⟩
  | 96 => ⟨S480x1, .f32⟩
  | 97 => ⟨S480x768, .f32⟩
  | 98 => ⟨S480x768, .f32⟩
  | 99 => ⟨S1x1024x768, .f32⟩
  | 100 => ⟨S1024x768, .f32⟩
  | 101 => ⟨S1x1024, .i32⟩
  | 102 => ⟨S1024, .i32⟩
  | 103 => ⟨S1x1024, .f32⟩
  | 104 => ⟨S1024, .f32⟩
  | 105 => ⟨S1024x1, .f32⟩
  | 106 => ⟨S1024x768, .f32⟩
  | 107 => ⟨S1024x768, .f32⟩
  | 108 => ⟨S_, .f32⟩
  | 109 => ⟨S481x768, .f32⟩
  | 110 => ⟨S1024x1, .i32⟩
  | 111 => ⟨S481x768, .f32⟩
  | 112 => ⟨S_, .f32⟩
  | 113 => ⟨S481, .f32⟩
  | 114 => ⟨S1024x1, .i32⟩
  | 115 => ⟨S481, .f32⟩
  | 116 => ⟨S480x768, .f32⟩
  | 117 => ⟨S480, .f32⟩
  | 118 => ⟨S480x1, .f32⟩
  | 119 => ⟨S_, .f32⟩
  | 120 => ⟨S480x1, .f32⟩
  | 121 => ⟨S480x1, .f32⟩
  | 122 => ⟨S480x768, .f32⟩
  | 123 => ⟨S480x768, .f32⟩
  | 124 => ⟨S1x480x768, .f32⟩
  | 125 => ⟨S1x480x768, .f32⟩
  | 126 => ⟨S1x480x768, .f32⟩
  | 127 => ⟨S1x480x768, .f32⟩
  | _ => ⟨S4x1024x768, .f32⟩

abbrev hbmTy0_1 (i : Nat) : BufTy := match i % 128 with
  | 0 => ⟨S4x480x768, .f32⟩
  | 1 => ⟨S1x1024x768, .f32⟩
  | 2 => ⟨S1024x768, .f32⟩
  | 3 => ⟨S1x1024, .i32⟩
  | 4 => ⟨S1024, .i32⟩
  | 5 => ⟨S1024, .i32⟩
  | 6 => ⟨S1024, .i32⟩
  | 7 => ⟨S1024, .i32⟩
  | 8 => ⟨S1024, .i32⟩
  | 9 => ⟨S25, .i32⟩
  | 10 => ⟨S25, .i32⟩
  | 11 => ⟨S_, .i32⟩
  | 12 => ⟨S25, .i32⟩
  | 13 => ⟨S25, .i1⟩
  | 14 => ⟨S_, .i32⟩
  | 15 => ⟨S25, .i32⟩
  | 16 => ⟨S25, .i32⟩
  | 17 => ⟨S25, .i32⟩
  | 18 => ⟨S25x1, .i32⟩
  | 19 => ⟨S25x768, .f32⟩
  | 20 => ⟨S1x1024x768, .f32⟩
  | 21 => ⟨S1024x768, .f32⟩
  | 22 => ⟨S1x1024, .i32⟩
  | 23 => ⟨S1024, .i32⟩
  | 24 => ⟨S1024, .i32⟩
  | 25 => ⟨S1024, .i32⟩
  | 26 => ⟨S1024, .i32⟩
  | 27 => ⟨S1024, .i32⟩
  | 28 => ⟨S25, .i32⟩
  | 29 => ⟨S25, .i32⟩
  | 30 => ⟨S_, .i32⟩
  | 31 => ⟨S25, .i32⟩
  | 32 => ⟨S25, .i1⟩
  | 33 => ⟨S_, .i32⟩
  | 34 => ⟨S25, .i32⟩
  | 35 => ⟨S25, .i32⟩
  | 36 => ⟨S25, .i32⟩
  | 37 => ⟨S25x1, .i32⟩
  | 38 => ⟨S25x768, .f32⟩
  | 39 => ⟨S1x1024x768, .f32⟩
  | 40 => ⟨S1024x768, .f32⟩
  | 41 => ⟨S1x1024, .i32⟩
  | 42 => ⟨S1024, .i32⟩
  | 43 => ⟨S1024, .i32⟩
  | 44 => ⟨S1024, .i32⟩
  | 45 => ⟨S1024, .i32⟩
  | 46 => ⟨S1024, .i32⟩
  | 47 => ⟨S25, .i32⟩
  | 48 => ⟨S25, .i32⟩
  | 49 => ⟨S_, .i32⟩
  | 50 => ⟨S25, .i32⟩
  | 51 => ⟨S25, .i1⟩
  | 52 => ⟨S_, .i32⟩
  | 53 => ⟨S25, .i32⟩
  | 54 => ⟨S25, .i32⟩
  | 55 => ⟨S25, .i32⟩
  | 56 => ⟨S25x1, .i32⟩
  | 57 => ⟨S25x768, .f32⟩
  | 58 => ⟨S1x1024x768, .f32⟩
  | 59 => ⟨S1024x768, .f32⟩
  | 60 => ⟨S1x1024, .i32⟩
  | 61 => ⟨S1024, .i32⟩
  | 62 => ⟨S1024, .i32⟩
  | 63 => ⟨S1024, .i32⟩
  | 64 => ⟨S1024, .i32⟩
  | 65 => ⟨S1024, .i32⟩
  | 66 => ⟨S25, .i32⟩
  | 67 => ⟨S25, .i32⟩
  | 68 => ⟨S_, .i32⟩
  | 69 => ⟨S25, .i32⟩
  | 70 => ⟨S25, .i1⟩
  | 71 => ⟨S_, .i32⟩
  | 72 => ⟨S25, .i32⟩
  | 73 => ⟨S25, .i32⟩
  | 74 => ⟨S25, .i32⟩
  | 75 => ⟨S25x1, .i32⟩
  | 76 => ⟨S25x768, .f32⟩
  | 77 => ⟨S1x25x768, .f32⟩
  | 78 => ⟨S1x25x768, .f32⟩
  | 79 => ⟨S1x25x768, .f32⟩
  | 80 => ⟨S1x25x768, .f32⟩
  | 81 => ⟨S4x25x768, .f32⟩
  | 82 => ⟨S4x25x512, .f32⟩
  | 83 => ⟨S1x1x512, .f32⟩
  | 84 => ⟨S4x25x512, .f32⟩
  | 85 => ⟨S4x25x512, .f32⟩
  | 86 => ⟨S_, .f32⟩
  | 87 => ⟨S4x25x512, .f32⟩
  | 88 => ⟨S4x25x512, .i1⟩
  | 89 => ⟨S_, .f32⟩
  | 90 => ⟨S4x25x512, .f32⟩
  | 91 => ⟨S4x25x512, .f32⟩
  | 92 => ⟨S4x25x512, .f32⟩
  | 93 => ⟨S4x25x768, .f32⟩
  | 94 => ⟨S1x1x768, .f32⟩
  | 95 => ⟨S4x25x768, .f32⟩
  | 96 => ⟨S4x25x768, .f32⟩
  | 97 => ⟨S480, .i32⟩
  | 98 => ⟨S480x12, .i32⟩
  | 99 => ⟨S5760, .i32⟩
  | 100 => ⟨S12, .i32⟩
  | 101 => ⟨S1x12, .i32⟩
  | 102 => ⟨S480x12, .i32⟩
  | 103 => ⟨S5760, .i32⟩
  | 104 => ⟨S5760, .i32⟩
  | 105 => ⟨S_, .i32⟩
  | 106 => ⟨S5760, .i32⟩
  | 107 => ⟨S5760, .i1⟩
  | 108 => ⟨S_, .i32⟩
  | 109 => ⟨S5760, .i32⟩
  | 110 => ⟨S5760, .i32⟩
  | 111 => ⟨S_, .i32⟩
  | 112 => ⟨S5760, .i32⟩
  | 113 => ⟨S5760, .i1⟩
  | 114 => ⟨S_, .i32⟩
  | 115 => ⟨S5760, .i32⟩
  | 116 => ⟨S5760, .i32⟩
  | 117 => ⟨S5760, .i32⟩
  | 118 => ⟨S5760x1, .i32⟩
  | 119 => ⟨S4x5760x768, .f32⟩
  | 120 => ⟨S_, .i32⟩
  | 121 => ⟨S5760, .i32⟩
  | 122 => ⟨S5760, .i1⟩
  | 123 => ⟨S_, .i32⟩
  | 124 => ⟨S5760, .i32⟩
  | 125 => ⟨S5760, .i32⟩
  | 126 => ⟨S5760, .i32⟩
  | 127 => ⟨S5760x1, .i32⟩
  | _ => ⟨S4x1024x768, .f32⟩

abbrev hbmTy0_2 (i : Nat) : BufTy := match i % 128 with
  | 0 => ⟨S4x5760x768, .f32⟩
  | 1 => ⟨S4x5760x1536, .f32⟩
  | 2 => ⟨S4x5760x512, .f32⟩
  | 3 => ⟨S1x1x512, .f32⟩
  | 4 => ⟨S4x5760x512, .f32⟩
  | 5 => ⟨S4x5760x512, .f32⟩
  | 6 => ⟨S_, .f32⟩
  | 7 => ⟨S4x5760x512, .f32⟩
  | 8 => ⟨S4x5760x512, .i1⟩
  | 9 => ⟨S_, .f32⟩
  | 10 => ⟨S4x5760x512, .f32⟩
  | 11 => ⟨S4x5760x512, .f32⟩
  | 12 => ⟨S4x5760x512, .f32⟩
  | 13 => ⟨S4x5760x768, .f32⟩
  | 14 => ⟨S1x1x768, .f32⟩
  | 15 => ⟨S4x5760x768, .f32⟩
  | 16 => ⟨S4x5760x768, .f32⟩
  | 17 => ⟨S4x5760x25, .f32⟩
  | 18 => ⟨S4x5760x25, .f32⟩
  | 19 => ⟨S4x5760x25, .f32⟩
  | 20 => ⟨S_, .f32⟩
  | 21 => ⟨S4x5760x25, .f32⟩
  | 22 => ⟨S4x5760x25, .f32⟩
  | 23 => ⟨S_, .f32⟩
  | 24 => ⟨S4x5760x25, .f32⟩
  | 25 => ⟨S4x5760x25, .f32⟩
  | 26 => ⟨S1x5760x1, .i1⟩
  | 27 => ⟨S1x5760x1, .f32⟩
  | 28 => ⟨S4x5760x25, .f32⟩
  | 29 => ⟨S4x5760x25, .f32⟩
  | 30 => ⟨S_, .f32⟩
  | 31 => ⟨S4x5760, .f32⟩
  | 32 => ⟨S4x5760x25, .i32⟩
  | 33 => ⟨S_, .f32⟩
  | 34 => ⟨S_, .i32⟩
  | 35 => ⟨S4x5760, .f32⟩
  | 36 => ⟨S4x5760, .i32⟩
  | 37 => ⟨S_, .f32⟩
  | 38 => ⟨S4x5760, .f32⟩
  | 39 => ⟨S4x5760, .i1⟩
  | 40 => ⟨S_, .f32⟩
  | 41 => ⟨S_, .f32⟩
  | 42 => ⟨S4x5760, .f32⟩
  | 43 => ⟨S4x5760, .f32⟩
  | 44 => ⟨S4x512, .f32⟩
  | 45 => ⟨S4x512, .i32⟩
  | 46 => ⟨S_, .i32⟩
  | 47 => ⟨S4x512, .i32⟩
  | 48 => ⟨S4x512, .i1⟩
  | 49 => ⟨S_, .i32⟩
  | 50 => ⟨S4x512, .i32⟩
  | 51 => ⟨S4x512, .i32⟩
  | 52 => ⟨S4x512, .i32⟩
  | 53 => ⟨S4x512x1, .i32⟩
  | 54 => ⟨S4x512, .i32⟩
  | 55 => ⟨S_, .i32⟩
  | 56 => ⟨S4x512, .i32⟩
  | 57 => ⟨S4x512, .i1⟩
  | 58 => ⟨S_, .i32⟩
  | 59 => ⟨S4x512, .i32⟩
  | 60 => ⟨S4x512, .i32⟩
  | 61 => ⟨S4x512, .i32⟩
  | 62 => ⟨S4x512x1, .i32⟩
  | 63 => ⟨S4x512, .i32⟩
  | 64 => ⟨S512, .i32⟩
  | 65 => ⟨S1x512, .i32⟩
  | 66 => ⟨S_, .i1⟩
  | 67 => ⟨S4x512, .i1⟩
  | 68 => ⟨S_, .i1⟩
  | 69 => ⟨S4x512, .i1⟩
  | 70 => ⟨S_, .i32⟩
  | 71 => ⟨S_, .i32⟩
  | 72 => ⟨S4x512, .f32⟩
  | 73 => ⟨S4x512, .i32⟩
  | 74 => ⟨S4x512, .i32⟩
  | 75 => ⟨S1x512, .i32⟩
  | 76 => ⟨S_, .i32⟩
  | 77 => ⟨S_, .i32⟩
  | 78 => ⟨S4x512, .i1⟩
  | 79 => ⟨S4x512, .i1⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S4x1, .i1⟩
  | 99 => ⟨S4, .i1⟩
  | 100 => ⟨S4, .i1⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S4x1, .f32⟩
  | 116 => ⟨S4, .f32⟩
  | 117 => ⟨S_, .f32⟩
  | 118 => ⟨S4, .f32⟩
  | 119 => ⟨S4, .i1⟩
  | 120 => ⟨S4, .i1⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1, .i32⟩
  | _ => ⟨S4x1024x768, .f32⟩

abbrev hbmTy0_3 (i : Nat) : BufTy := match i % 128 with
  | 0 => ⟨S4x512, .i1⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S4x1, .i32⟩
  | 16 => ⟨S4, .i32⟩
  | 17 => ⟨S4x1, .i32⟩
  | 18 => ⟨S4x512, .i32⟩
  | 19 => ⟨S4x512, .i1⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S4x1, .i32⟩
  | 35 => ⟨S4, .i32⟩
  | 36 => ⟨S4x1, .i32⟩
  | 37 => ⟨S4x512, .i32⟩
  | 38 => ⟨S4x512, .i1⟩
  | 39 => ⟨S4x512, .i1⟩
  | 40 => ⟨S4x512, .i1⟩
  | 41 => ⟨S_, .i32⟩
  | 42 => ⟨S1x512, .i32⟩
  | 43 => ⟨S1x512, .i1⟩
  | 44 => ⟨S4x1, .i1⟩
  | 45 => ⟨S4x512, .i1⟩
  | 46 => ⟨S4x512, .i1⟩
  | 47 => ⟨S4x512, .i1⟩
  | 48 => ⟨S4x512, .i1⟩
  | 49 => ⟨S4x512, .i1⟩
  | 50 => ⟨S_, .i32⟩
  | 51 => ⟨S_, .i32⟩
  | _ => ⟨S4x1024x768, .f32⟩

abbrev hbmTy (i : Nat) : BufTy := match i / 128 with
  | 0 => hbmTy0_0 i
  | 1 => hbmTy0_1 i
  | 2 => hbmTy0_2 i
  | 3 => hbmTy0_3 i
  | _ => ⟨S4x1024x768, .f32⟩

abbrev bufTy : (tb : Table) → Fin (tcTables nBuf tb) → BufTy
  | .hbm, ⟨i, _⟩ => hbmTy i
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_9 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_11 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_12 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_call1_v0 : Ref sig .tc := ⟨.hbm, 134, rfl⟩
abbrev main_call1_v1_0 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_13 : Ref sig .tc := ⟨.hbm, 139, rfl⟩
abbrev main_v108 : Ref sig .tc := ⟨.hbm, 140, rfl⟩
abbrev main_v109 : Ref sig .tc := ⟨.hbm, 141, rfl⟩
abbrev main_c_14 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_call3_v0 : Ref sig .tc := ⟨.hbm, 153, rfl⟩
abbrev main_call3_v1_0 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_15 : Ref sig .tc := ⟨.hbm, 158, rfl⟩
abbrev main_v123 : Ref sig .tc := ⟨.hbm, 159, rfl⟩
abbrev main_v124 : Ref sig .tc := ⟨.hbm, 160, rfl⟩
abbrev main_c_16 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_call5_v0 : Ref sig .tc := ⟨.hbm, 172, rfl⟩
abbrev main_call5_v1_0 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_c_17 : Ref sig .tc := ⟨.hbm, 177, rfl⟩
abbrev main_v138 : Ref sig .tc := ⟨.hbm, 178, rfl⟩
abbrev main_v139 : Ref sig .tc := ⟨.hbm, 179, rfl⟩
abbrev main_c_18 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_call7_v0 : Ref sig .tc := ⟨.hbm, 191, rfl⟩
abbrev main_call7_v1_0 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_c_19 : Ref sig .tc := ⟨.hbm, 196, rfl⟩
abbrev main_v153 : Ref sig .tc := ⟨.hbm, 197, rfl⟩
abbrev main_v154 : Ref sig .tc := ⟨.hbm, 198, rfl⟩
abbrev main_c_20 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_21 : Ref sig .tc := ⟨.hbm, 214, rfl⟩
abbrev main_v169 : Ref sig .tc := ⟨.hbm, 215, rfl⟩
abbrev main_v170 : Ref sig .tc := ⟨.hbm, 216, rfl⟩
abbrev main_cst_22 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_c_23 : Ref sig .tc := ⟨.hbm, 233, rfl⟩
abbrev main_v186 : Ref sig .tc := ⟨.hbm, 234, rfl⟩
abbrev main_v187 : Ref sig .tc := ⟨.hbm, 235, rfl⟩
abbrev main_c_24 : Ref sig .tc := ⟨.hbm, 236, rfl⟩
abbrev main_v188 : Ref sig .tc := ⟨.hbm, 237, rfl⟩
abbrev main_v189 : Ref sig .tc := ⟨.hbm, 238, rfl⟩
abbrev main_c_25 : Ref sig .tc := ⟨.hbm, 239, rfl⟩
abbrev main_v190 : Ref sig .tc := ⟨.hbm, 240, rfl⟩
abbrev main_v191 : Ref sig .tc := ⟨.hbm, 241, rfl⟩
abbrev main_c_26 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_c_27 : Ref sig .tc := ⟨.hbm, 248, rfl⟩
abbrev main_v197 : Ref sig .tc := ⟨.hbm, 249, rfl⟩
abbrev main_v198 : Ref sig .tc := ⟨.hbm, 250, rfl⟩
abbrev main_c_28 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_cst_29 : Ref sig .tc := ⟨.hbm, 262, rfl⟩
abbrev main_v209 : Ref sig .tc := ⟨.hbm, 263, rfl⟩
abbrev main_v210 : Ref sig .tc := ⟨.hbm, 264, rfl⟩
abbrev main_cst_30 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_cst_31 : Ref sig .tc := ⟨.hbm, 276, rfl⟩
abbrev main_v221 : Ref sig .tc := ⟨.hbm, 277, rfl⟩
abbrev main_v222 : Ref sig .tc := ⟨.hbm, 278, rfl⟩
abbrev main_cst_32 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_cst_33 : Ref sig .tc := ⟨.hbm, 286, rfl⟩
abbrev main_v229 : Ref sig .tc := ⟨.hbm, 287, rfl⟩
abbrev main_call11_v0 : Ref sig .tc := ⟨.hbm, 288, rfl⟩
abbrev main_call11_cst : Ref sig .tc := ⟨.hbm, 289, rfl⟩
abbrev main_call11_c : Ref sig .tc := ⟨.hbm, 290, rfl⟩
abbrev main_call11_v1_0 : Ref sig .tc := ⟨.hbm, 291, rfl⟩
abbrev main_v230 : Ref sig .tc := ⟨.hbm, 292, rfl⟩
abbrev main_cst_34 : Ref sig .tc := ⟨.hbm, 293, rfl⟩
abbrev main_v231 : Ref sig .tc := ⟨.hbm, 294, rfl⟩
abbrev main_v232 : Ref sig .tc := ⟨.hbm, 295, rfl⟩
abbrev main_cst_35 : Ref sig .tc := ⟨.hbm, 296, rfl⟩
abbrev main_call12_v0 : Ref sig .tc := ⟨.hbm, 297, rfl⟩
abbrev main_call12_v1 : Ref sig .tc := ⟨.hbm, 298, rfl⟩
abbrev main_v233 : Ref sig .tc := ⟨.hbm, 299, rfl⟩
abbrev main_values : Ref sig .tc := ⟨.hbm, 300, rfl⟩
abbrev main_indices : Ref sig .tc := ⟨.hbm, 301, rfl⟩
abbrev main_c_36 : Ref sig .tc := ⟨.hbm, 302, rfl⟩
abbrev main_v234 : Ref sig .tc := ⟨.hbm, 303, rfl⟩
abbrev main_v235 : Ref sig .tc := ⟨.hbm, 304, rfl⟩
abbrev main_c_37 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_c_38 : Ref sig .tc := ⟨.hbm, 311, rfl⟩
abbrev main_v241 : Ref sig .tc := ⟨.hbm, 312, rfl⟩
abbrev main_v242 : Ref sig .tc := ⟨.hbm, 313, rfl⟩
abbrev main_c_39 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_c_40 : Ref sig .tc := ⟨.hbm, 322, rfl⟩
abbrev main_v250 : Ref sig .tc := ⟨.hbm, 323, rfl⟩
abbrev main_c_41 : Ref sig .tc := ⟨.hbm, 324, rfl⟩
abbrev main_v251 : Ref sig .tc := ⟨.hbm, 325, rfl⟩
abbrev main_c_42 : Ref sig .tc := ⟨.hbm, 326, rfl⟩
abbrev main_c_43 : Ref sig .tc := ⟨.hbm, 327, rfl⟩
abbrev main_v252_0 : Ref sig .tc := ⟨.hbm, 328, rfl⟩
abbrev main_v252_1 : Ref sig .tc := ⟨.hbm, 329, rfl⟩
abbrev main_v252_2 : Ref sig .tc := ⟨.hbm, 330, rfl⟩
abbrev main_v252_3 : Ref sig .tc := ⟨.hbm, 331, rfl⟩
abbrev main_v252_4 : Ref sig .tc := ⟨.hbm, 332, rfl⟩
abbrev main_v252_5 : Ref sig .tc := ⟨.hbm, 333, rfl⟩
abbrev main_v252_6 : Ref sig .tc := ⟨.hbm, 334, rfl⟩
abbrev main_v252_7 : Ref sig .tc := ⟨.hbm, 335, rfl⟩
abbrev main_while0c_c_51 : Ref sig .tc := ⟨.hbm, 336, rfl⟩
abbrev main_while0c_v253 : Ref sig .tc := ⟨.hbm, 337, rfl⟩
abbrev main_while0b_c_51 : Ref sig .tc := ⟨.hbm, 338, rfl⟩
abbrev main_while0b_v253 : Ref sig .tc := ⟨.hbm, 339, rfl⟩
abbrev main_while0b_v254 : Ref sig .tc := ⟨.hbm, 340, rfl⟩
abbrev main_while0b_c_52 : Ref sig .tc := ⟨.hbm, 341, rfl⟩
abbrev main_while0b_c_53 : Ref sig .tc := ⟨.hbm, 342, rfl⟩
abbrev main_while0b_v255 : Ref sig .tc := ⟨.hbm, 343, rfl⟩
abbrev main_while0b_c_54 : Ref sig .tc := ⟨.hbm, 344, rfl⟩
abbrev main_while0b_c_55 : Ref sig .tc := ⟨.hbm, 345, rfl⟩
abbrev main_while0b_v256 : Ref sig .tc := ⟨.hbm, 346, rfl⟩
abbrev main_while0b_c_56 : Ref sig .tc := ⟨.hbm, 347, rfl⟩
abbrev main_while0b_v257 : Ref sig .tc := ⟨.hbm, 348, rfl⟩
abbrev main_while0b_c_57 : Ref sig .tc := ⟨.hbm, 349, rfl⟩
abbrev main_while0b_v258 : Ref sig .tc := ⟨.hbm, 350, rfl⟩
abbrev main_while0b_c_58 : Ref sig .tc := ⟨.hbm, 351, rfl⟩
abbrev main_while0b_v259 : Ref sig .tc := ⟨.hbm, 352, rfl⟩
abbrev main_while0b_v260 : Ref sig .tc := ⟨.hbm, 353, rfl⟩
abbrev main_while0b_v261 : Ref sig .tc := ⟨.hbm, 354, rfl⟩
abbrev main_while0b_v262 : Ref sig .tc := ⟨.hbm, 355, rfl⟩
abbrev main_while0b_v263 : Ref sig .tc := ⟨.hbm, 356, rfl⟩
abbrev main_while0b_v264 : Ref sig .tc := ⟨.hbm, 357, rfl⟩
abbrev main_while0b_c_59 : Ref sig .tc := ⟨.hbm, 358, rfl⟩
abbrev main_while0b_c_60 : Ref sig .tc := ⟨.hbm, 359, rfl⟩
abbrev main_while0b_v265 : Ref sig .tc := ⟨.hbm, 360, rfl⟩
abbrev main_while0b_c_61 : Ref sig .tc := ⟨.hbm, 361, rfl⟩
abbrev main_while0b_c_62 : Ref sig .tc := ⟨.hbm, 362, rfl⟩
abbrev main_while0b_v266 : Ref sig .tc := ⟨.hbm, 363, rfl⟩
abbrev main_while0b_c_63 : Ref sig .tc := ⟨.hbm, 364, rfl⟩
abbrev main_while0b_v267 : Ref sig .tc := ⟨.hbm, 365, rfl⟩
abbrev main_while0b_c_64 : Ref sig .tc := ⟨.hbm, 366, rfl⟩
abbrev main_while0b_v268 : Ref sig .tc := ⟨.hbm, 367, rfl⟩
abbrev main_while0b_c_65 : Ref sig .tc := ⟨.hbm, 368, rfl⟩
abbrev main_while0b_v269 : Ref sig .tc := ⟨.hbm, 369, rfl⟩
abbrev main_while0b_v270 : Ref sig .tc := ⟨.hbm, 370, rfl⟩
abbrev main_while0b_v271 : Ref sig .tc := ⟨.hbm, 371, rfl⟩
abbrev main_while0b_v272 : Ref sig .tc := ⟨.hbm, 372, rfl⟩
abbrev main_while0b_cst_66 : Ref sig .tc := ⟨.hbm, 373, rfl⟩
abbrev main_while0b_v273 : Ref sig .tc := ⟨.hbm, 374, rfl⟩
abbrev main_while0b_v274 : Ref sig .tc := ⟨.hbm, 375, rfl⟩
abbrev main_while0b_v275 : Ref sig .tc := ⟨.hbm, 376, rfl⟩
abbrev main_while0b_c_67 : Ref sig .tc := ⟨.hbm, 377, rfl⟩
abbrev main_while0b_v276 : Ref sig .tc := ⟨.hbm, 378, rfl⟩
abbrev main_while0b_c_68 : Ref sig .tc := ⟨.hbm, 379, rfl⟩
abbrev main_while0b_v277 : Ref sig .tc := ⟨.hbm, 380, rfl⟩
abbrev main_while0b_v278 : Ref sig .tc := ⟨.hbm, 381, rfl⟩
abbrev main_while0b_v279 : Ref sig .tc := ⟨.hbm, 382, rfl⟩
abbrev main_while0b_v280 : Ref sig .tc := ⟨.hbm, 383, rfl⟩
abbrev main_while0b_v281 : Ref sig .tc := ⟨.hbm, 384, rfl⟩
abbrev main_while0b_v282 : Ref sig .tc := ⟨.hbm, 385, rfl⟩
abbrev main_while0b_c_69 : Ref sig .tc := ⟨.hbm, 386, rfl⟩
abbrev main_while0b_c_70 : Ref sig .tc := ⟨.hbm, 387, rfl⟩
abbrev main_while0b_v283 : Ref sig .tc := ⟨.hbm, 388, rfl⟩
abbrev main_while0b_c_71 : Ref sig .tc := ⟨.hbm, 389, rfl⟩
abbrev main_while0b_c_72 : Ref sig .tc := ⟨.hbm, 390, rfl⟩
abbrev main_while0b_v284 : Ref sig .tc := ⟨.hbm, 391, rfl⟩
abbrev main_while0b_c_73 : Ref sig .tc := ⟨.hbm, 392, rfl⟩
abbrev main_while0b_v285 : Ref sig .tc := ⟨.hbm, 393, rfl⟩
abbrev main_while0b_c_74 : Ref sig .tc := ⟨.hbm, 394, rfl⟩
abbrev main_while0b_v286 : Ref sig .tc := ⟨.hbm, 395, rfl⟩
abbrev main_while0b_c_75 : Ref sig .tc := ⟨.hbm, 396, rfl⟩
abbrev main_while0b_v287 : Ref sig .tc := ⟨.hbm, 397, rfl⟩
abbrev main_while0b_v288 : Ref sig .tc := ⟨.hbm, 398, rfl⟩
abbrev main_while0b_v289 : Ref sig .tc := ⟨.hbm, 399, rfl⟩
abbrev main_while0b_v290 : Ref sig .tc := ⟨.hbm, 400, rfl⟩
abbrev main_while0b_v291 : Ref sig .tc := ⟨.hbm, 401, rfl⟩
abbrev main_while0b_v292 : Ref sig .tc := ⟨.hbm, 402, rfl⟩
abbrev main_while0b_v293 : Ref sig .tc := ⟨.hbm, 403, rfl⟩
abbrev main_while0b_v294 : Ref sig .tc := ⟨.hbm, 404, rfl⟩
abbrev main_while0b_c_76 : Ref sig .tc := ⟨.hbm, 405, rfl⟩
abbrev main_while0b_c_77 : Ref sig .tc := ⟨.hbm, 406, rfl⟩
abbrev main_while0b_v295 : Ref sig .tc := ⟨.hbm, 407, rfl⟩
abbrev main_while0b_c_78 : Ref sig .tc := ⟨.hbm, 408, rfl⟩
abbrev main_while0b_c_79 : Ref sig .tc := ⟨.hbm, 409, rfl⟩
abbrev main_while0b_v296 : Ref sig .tc := ⟨.hbm, 410, rfl⟩
abbrev main_while0b_c_80 : Ref sig .tc := ⟨.hbm, 411, rfl⟩
abbrev main_while0b_v297 : Ref sig .tc := ⟨.hbm, 412, rfl⟩
abbrev main_while0b_c_81 : Ref sig .tc := ⟨.hbm, 413, rfl⟩
abbrev main_while0b_v298 : Ref sig .tc := ⟨.hbm, 414, rfl⟩
abbrev main_while0b_c_82 : Ref sig .tc := ⟨.hbm, 415, rfl⟩
abbrev main_while0b_v299 : Ref sig .tc := ⟨.hbm, 416, rfl⟩
abbrev main_while0b_v300 : Ref sig .tc := ⟨.hbm, 417, rfl⟩
abbrev main_while0b_v301 : Ref sig .tc := ⟨.hbm, 418, rfl⟩
abbrev main_while0b_v302 : Ref sig .tc := ⟨.hbm, 419, rfl⟩
abbrev main_while0b_v303 : Ref sig .tc := ⟨.hbm, 420, rfl⟩
abbrev main_while0b_v304 : Ref sig .tc := ⟨.hbm, 421, rfl⟩
abbrev main_while0b_v305 : Ref sig .tc := ⟨.hbm, 422, rfl⟩
abbrev main_while0b_v306 : Ref sig .tc := ⟨.hbm, 423, rfl⟩
abbrev main_while0b_v307 : Ref sig .tc := ⟨.hbm, 424, rfl⟩
abbrev main_while0b_v308 : Ref sig .tc := ⟨.hbm, 425, rfl⟩
abbrev main_while0b_v309 : Ref sig .tc := ⟨.hbm, 426, rfl⟩
abbrev main_while0b_v310 : Ref sig .tc := ⟨.hbm, 427, rfl⟩
abbrev main_while0b_v311 : Ref sig .tc := ⟨.hbm, 428, rfl⟩
abbrev main_while0b_v312 : Ref sig .tc := ⟨.hbm, 429, rfl⟩
abbrev main_while0b_v313 : Ref sig .tc := ⟨.hbm, 430, rfl⟩
abbrev main_while0b_v314 : Ref sig .tc := ⟨.hbm, 431, rfl⟩
abbrev main_while0b_v315 : Ref sig .tc := ⟨.hbm, 432, rfl⟩
abbrev main_while0b_v316 : Ref sig .tc := ⟨.hbm, 433, rfl⟩
abbrev main_while0b_c_83 : Ref sig .tc := ⟨.hbm, 434, rfl⟩
abbrev main_while0b_v317 : Ref sig .tc := ⟨.hbm, 435, rfl⟩

abbrev nD : Nat := 1
abbrev τ : Topo := Topo.v7x

variable {F : FTy → Type} [FloatOps F]

abbrev main_while0_count : Scf.Loop 32 := ⟨0#32, 512#32, 1#32⟩
-- ==== Proof.Body0I.lean ====
/- Region 0 of the three-call program, namespace `Cert.KernelIdeal`: the body's triple, the pipeline's proof data over any contents
   `W` of the core's buffers at the region's entry, and the body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = W c (Pipeline.arrRef spec0 4))
    (hafter : ∀ t, dat.after 4 t = iblk W c 4 t) (t : Fin cfg0.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = W c (Pipeline.arrRef spec0 5))
    (hafter : ∀ t, dat.after 5 t = iblk W c 5 t) (t : Fin cfg0.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x480x2x768 := Rect.unit (s := S1x480x2x768) ![0, 0, 0, 0] S1x480x1x768.size inb_S1x480x2x768_S1x480x1x768_0_0_0_0
abbrev r0_1 : Rect S1x480x2x768 := Rect.unit (s := S1x480x2x768) ![0, 0, 1, 0] S1x480x1x768.size inb_S1x480x2x768_S1x480x1x768_0_0_1_0
abbrev r0_2 : Rect S1x12x480x768 := Rect.unit (s := S1x12x480x768) ![0, 0, 0, 0] S1x1x480x768.size inb_S1x12x480x768_S1x1x480x768_0_0_0_0
abbrev r0_3 : Rect S1x12x480x768 := Rect.unit (s := S1x12x480x768) ![0, 1, 0, 0] S1x1x480x768.size inb_S1x12x480x768_S1x1x480x768_0_1_0_0
abbrev r0_4 : Rect S1x12x480x768 := Rect.unit (s := S1x12x480x768) ![0, 2, 0, 0] S1x1x480x768.size inb_S1x12x480x768_S1x1x480x768_0_2_0_0
abbrev r0_5 : Rect S1x12x480x768 := Rect.unit (s := S1x12x480x768) ![0, 3, 0, 0] S1x1x480x768.size inb_S1x12x480x768_S1x1x480x768_0_3_0_0
abbrev r0_6 : Rect S1x12x480x768 := Rect.unit (s := S1x12x480x768) ![0, 4, 0, 0] S1x1x480x768.size inb_S1x12x480x768_S1x1x480x768_0_4_0_0
abbrev r0_7 : Rect S1x12x480x768 := Rect.unit (s := S1x12x480x768) ![0, 5, 0, 0] S1x1x480x768.size inb_S1x12x480x768_S1x1x480x768_0_5_0_0
abbrev r0_8 : Rect S1x12x480x768 := Rect.unit (s := S1x12x480x768) ![0, 6, 0, 0] S1x1x480x768.size inb_S1x12x480x768_S1x1x480x768_0_6_0_0
abbrev r0_9 : Rect S1x12x480x768 := Rect.unit (s := S1x12x480x768) ![0, 7, 0, 0] S1x1x480x768.size inb_S1x12x480x768_S1x1x480x768_0_7_0_0
abbrev r0_10 : Rect S1x12x480x768 := Rect.unit (s := S1x12x480x768) ![0, 8, 0, 0] S1x1x480x768.size inb_S1x12x480x768_S1x1x480x768_0_8_0_0
abbrev r0_11 : Rect S1x12x480x768 := Rect.unit (s := S1x12x480x768) ![0, 9, 0, 0] S1x1x480x768.size inb_S1x12x480x768_S1x1x480x768_0_9_0_0
abbrev r0_12 : Rect S1x12x480x768 := Rect.unit (s := S1x12x480x768) ![0, 10, 0, 0] S1x1x480x768.size inb_S1x12x480x768_S1x1x480x768_0_10_0_0
abbrev r0_13 : Rect S1x12x480x768 := Rect.unit (s := S1x12x480x768) ![0, 11, 0, 0] S1x1x480x768.size inb_S1x12x480x768_S1x1x480x768_0_11_0_0
abbrev r0_14 : Rect S1x32x768 := Rect.unit (s := S1x32x768) ![0, 0, 0] S1x32x768.size inb_S1x32x768_S1x32x768_0_0_0
abbrev r0_15 : Rect S768x512 := Rect.unit (s := S768x512) ![0, 0] S768x512.size inb_S768x512_S768x512_0_0
abbrev r0_16 : Rect S1x512 := Rect.unit (s := S1x512) ![0, 0] S1x512.size inb_S1x512_S1x512_0_0
abbrev r0_17 : Rect S512x768 := Rect.unit (s := S512x768) ![0, 0] S512x768.size inb_S512x768_S512x768_0_0
abbrev r0_18 : Rect S1x768 := Rect.unit (s := S1x768) ![0, 0] S1x768.size inb_S1x768_S1x768_0_0

/-! ## What the body leaves in each output window's buffer -/

/-! ### Values of the body that the stores' payloads, spelt out, would write more than once

    Each is a vector the body binds (often a part call's result), stated over the input windows' blocks and
    numbered on from the skeleton's payload functions (`k0_pay16` …, after `k0_pay15`), so that
    `out0_W` and the values after it name it instead of spelling it out (`unfold_out out0_W` opens a canon
    with them, `unfold_payloads` opens them with the payloads); the comment after each is the printed function's
    name for the value (a count appended where that name is bound again). -/

def k0_pay16 (x0 : Vec F S1x480x2x768 .f32) (x1 : Vec F S1x32x768 .f32) (x2 : Vec F S768x512 .f32) (x3 : Vec F S1x512 .f32) (x4 : Vec F S512x768 .f32) (x5 : Vec F S1x768 .f32) : FVec F S496x768 .f32 :=
  k0_pay3 (View.ld x0 r0_0) (View.ld x0 r0_1) -- `v10`

/-- Window 6's staging buffer after the body, from the input windows' blocks: its 12 stores as pieces, LAST
    FIRST (Lib/Pipeline/FrameBody.lean `View.canon`; the payloads are the skeleton's and the values stated above). -/
def out0_6 (x0 : Vec F S1x480x2x768 .f32) (x1 : Vec F S1x32x768 .f32) (x2 : Vec F S768x512 .f32) (x3 : Vec F S1x512 .f32) (x4 : Vec F S512x768 .f32) (x5 : Vec F S1x768 .f32) : Vec F S1x12x480x768 .f32 :=
  View.canon [⟨r0_13, k0_pay1 (k0_pay16 x0 x1 x2 x3 x4 x5)⟩,
    ⟨r0_12, k0_pay15 (k0_pay16 x0 x1 x2 x3 x4 x5)⟩,
    ⟨r0_11, k0_pay14 (k0_pay16 x0 x1 x2 x3 x4 x5)⟩,
    ⟨r0_10, k0_pay13 (k0_pay16 x0 x1 x2 x3 x4 x5)⟩,
    ⟨r0_9, k0_pay12 (k0_pay16 x0 x1 x2 x3 x4 x5)⟩,
    ⟨r0_8, k0_pay11 (k0_pay16 x0 x1 x2 x3 x4 x5)⟩,
    ⟨r0_7, k0_pay10 (k0_pay16 x0 x1 x2 x3 x4 x5)⟩,
    ⟨r0_6, k0_pay9 (k0_pay8 (View.ld x0 r0_0) (View.ld x0 r0_1))⟩,
    ⟨r0_5, k0_pay7 (View.ld x0 r0_0) (View.ld x0 r0_1)⟩,
    ⟨r0_4, k0_pay6 (View.ld x0 r0_0) (View.ld x0 r0_1)⟩,
    ⟨r0_3, k0_pay5 (View.ld x0 r0_0) (View.ld x0 r0_1)⟩,
    ⟨r0_2, k0_pay4 (View.ld x0 r0_0) (View.ld x0 r0_1)⟩]

/-- Its stores tile the buffer (checked by evaluation), so they cover it. -/
theorem cover0_6 (p0 : Vec F S1x1x480x768 .f32) (p1 : Vec F S1x1x480x768 .f32) (p2 : Vec F S1x1x480x768 .f32) (p3 : Vec F S1x1x480x768 .f32) (p4 : Vec F S1x1x480x768 .f32) (p5 : Vec F S1x1x480x768 .f32) (p6 : Vec F S1x1x480x768 .f32) (p7 : Vec F S1x1x480x768 .f32) (p8 : Vec F S1x1x480x768 .f32) (p9 : Vec F S1x1x480x768 .f32) (p10 : Vec F S1x1x480x768 .f32) (p11 : Vec F S1x1x480x768 .f32) (y : S1x12x480x768.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩, ⟨r0_5, p8⟩, ⟨r0_4, p9⟩, ⟨r0_3, p10⟩, ⟨r0_2, p11⟩] : List (View.Piece (Elt F) S1x12x480x768 .f32)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩, ⟨r0_5, p8⟩, ⟨r0_4, p9⟩, ⟨r0_3, p10⟩, ⟨r0_2, p11⟩] S1x1x480x768.size (by rfl) y

/-- Window 7's staging buffer after the body, from the input windows' blocks: its 1 store as pieces, LAST
    FIRST (Lib/Pipeline/FrameBody.lean `View.canon`; the payloads are the skeleton's and the values stated above). -/
def out0_7 (x0 : Vec F S1x480x2x768 .f32) (x1 : Vec F S1x32x768 .f32) (x2 : Vec F S768x512 .f32) (x3 : Vec F S1x512 .f32) (x4 : Vec F S512x768 .f32) (x5 : Vec F S1x768 .f32) : Vec F S1x32x768 .f32 :=
  View.canon [⟨r0_14, k0_pay2 (View.ld x1 r0_14) (View.ld x2 r0_15) (View.ld x3 r0_16) (View.ld x4 r0_17) (View.ld x5 r0_18)⟩]

/-- Its stores tile the buffer (checked by evaluation), so they cover it. -/
theorem cover0_7 (p0 : Vec F S1x32x768 .f32) (y : S1x32x768.Idx) :
    ∃ pc ∈ ([⟨r0_14, p0⟩] : List (View.Piece (Elt F) S1x32x768 .f32)), y ∈ pc.1.set :=
  View.cover_of_tiled [⟨r0_14, p0⟩] S1x32x768.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x480x2x768 .f32) (harg1 : arg1.IsWhole) (arg2 : Memref sig .tc .vmem S1x32x768 .f32) (harg2 : arg2.IsWhole) (arg3 : Memref sig .tc .vmem S768x512 .f32) (harg3 : arg3.IsWhole) (arg4 : Memref sig .tc .vmem S1x512 .f32) (harg4 : arg4.IsWhole) (arg5 : Memref sig .tc .vmem S512x768 .f32) (harg5 : arg5.IsWhole) (arg6 : Memref sig .tc .vmem S1x768 .f32) (harg6 : arg6.IsWhole) (arg7 : Memref sig .tc .vmem S1x12x480x768 .f32) (harg7 : arg7.IsWhole) (arg8 : Memref sig .tc .vmem S1x32x768 .f32) (harg8 : arg8.IsWhole)
    (x0 : Vec F S1x480x2x768 .f32) (x1 : Vec F S1x32x768 .f32) (x2 : Vec F S768x512 .f32) (x3 : Vec F S1x512 .f32) (x4 : Vec F S512x768 .f32) (x5 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__prep_kernel i arg1 harg1 arg2 harg2 arg3 harg3 arg4 harg4 arg5 harg5 arg6 harg6 arg7 harg7 arg8 harg8) K := by
  simp only [cc0__prep_kernel_eq_skeleton]; unfold cc0__prep_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _ _ _ _ _ _ _ _ _ _ _ _)).trans ?_
    rfl
  iexists _; isplitr
  swap; · iexact H7
  ipureintro
  refine (View.read_writes_eq_canon _ _ _ (cover0_7 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => out0_6 (iblk W c 0 t) (iblk W c 1 t) (iblk W c 2 t) (iblk W c 3 t) (iblk W c 4 t) (iblk W c 5 t)
    | ⟨7, _⟩ => out0_7 (iblk W c 0 t) (iblk W c 1 t) (iblk W c 2 t) (iblk W c 3 t) (iblk W c 4 t) (iblk W c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats W c).A w = W c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats W c).after 0 t = iblk W c 0 t := by dsimp only [dats]
/-- What a step leaves in the staged block of window 1. -/
theorem after0_1 (c : Dev nD) (t : Fin cfg0.N) : (dats W c).after 1 t = iblk W c 1 t := by dsimp only [dats]
/-- What a step leaves in the staged block of window 2. -/
theorem after0_2 (c : Dev nD) (t : Fin cfg0.N) : (dats W c).after 2 t = iblk W c 2 t := by dsimp only [dats]
/-- What a step leaves in the staged block of window 3. -/
theorem after0_3 (c : Dev nD) (t : Fin cfg0.N) : (dats W c).after 3 t = iblk W c 3 t := by dsimp only [dats]
/-- What a step leaves in the staged block of window 4. -/
theorem after0_4 (c : Dev nD) (t : Fin cfg0.N) : (dats W c).after 4 t = iblk W c 4 t := by dsimp only [dats]
/-- What a step leaves in the staged block of window 5. -/
theorem after0_5 (c : Dev nD) (t : Fin cfg0.N) : (dats W c).after 5 t = iblk W c 5 t := by dsimp only [dats]
/-- What a step leaves in the staged block of window 6. -/
theorem after0_6 (c : Dev nD) (t : Fin cfg0.N) : (dats W c).after 6 t = out0_6 (iblk W c 0 t) (iblk W c 1 t) (iblk W c 2 t) (iblk W c 3 t) (iblk W c 4 t) (iblk W c 5 t) := by dsimp only [dats]
/-- What a step leaves in the staged block of window 7. -/
theorem after0_7 (c : Dev nD) (t : Fin cfg0.N) : (dats W c).after 7 t = out0_7 (iblk W c 0 t) (iblk W c 1 t) (iblk W c 2 t) (iblk W c 3 t) (iblk W c 4 t) (iblk W c 5 t) := by dsimp only [dats]

/-- Each input's current staging buffer holds its block at every point, fetched there or not (`beforeK_W_of`). -/
theorem before0_0 (c : Dev nD) (t : Fin cfg0.N) (d) : (dats W c).before 0 t d = iblk W c 0 t :=
  before0_0_of W (dats W c) (A_eq W c 0) (after0_0 W c) t d
/-- What a step finds in the staged block of window 1. -/
theorem before0_1 (c : Dev nD) (t : Fin cfg0.N) (d) : (dats W c).before 1 t d = iblk W c 1 t :=
  before0_1_of W (dats W c) (A_eq W c 1) (after0_1 W c) t d
/-- What a step finds in the staged block of window 2. -/
theorem before0_2 (c : Dev nD) (t : Fin cfg0.N) (d) : (dats W c).before 2 t d = iblk W c 2 t :=
  before0_2_of W (dats W c) (A_eq W c 2) (after0_2 W c) t d
/-- What a step finds in the staged block of window 3. -/
theorem before0_3 (c : Dev nD) (t : Fin cfg0.N) (d) : (dats W c).before 3 t d = iblk W c 3 t :=
  before0_3_of W (dats W c) (A_eq W c 3) (after0_3 W c) t d
/-- What a step finds in the staged block of window 4. -/
theorem before0_4 (c : Dev nD) (t : Fin cfg0.N) (d) : (dats W c).before 4 t d = iblk W c 4 t :=
  before0_4_of W (dats W c) (A_eq W c 4) (after0_4 W c) t d
/-- What a step finds in the staged block of window 5. -/
theorem before0_5 (c : Dev nD) (t : Fin cfg0.N) (d) : (dats W c).before 5 t d = iblk W c 5 t :=
  before0_5_of W (dats W c) (A_eq W c 5) (after0_5 W c) t d

/-! ## The body obligation, at a generic point -/

/-- What the body is called with at point `t` (Lib/Pipeline.lean `BodyObligation`'s precondition, the windows one by one), -/
def bodyPre (c : Dev nD) (t : Fin cfg0.N) : sProp 𝕄 :=
  iprop((dats W c).Φ t.castSucc ∗ (dats W c).owesAt () t.castSucc
    ∗ (∃ d, owns (c : Thread nD τ) (st0_0 t) fullShare ((dats W c).before 0 t d))
    ∗ (∃ d, owns (c : Thread nD τ) (st0_1 t) fullShare ((dats W c).before 1 t d))
    ∗ (∃ d, owns (c : Thread nD τ) (st0_2 t) fullShare ((dats W c).before 2 t d))
    ∗ (∃ d, owns (c : Thread nD τ) (st0_3 t) fullShare ((dats W c).before 3 t d))
    ∗ (∃ d, owns (c : Thread nD τ) (st0_4 t) fullShare ((dats W c).before 4 t d))
    ∗ (∃ d, owns (c : Thread nD τ) (st0_5 t) fullShare ((dats W c).before 5 t d))
    ∗ (∃ d, owns (c : Thread nD τ) (st0_6 t) fullShare ((dats W c).before 6 t d))
    ∗ (∃ d, owns (c : Thread nD τ) (st0_7 t) fullShare ((dats W c).before 7 t d)))

/-- and what it returns. -/
def bodyPost (c : Dev nD) (t : Fin cfg0.N) : sProp 𝕄 :=
  iprop((dats W c).Φ t.succ ∗ (dats W c).owesAt () t.succ
    ∗ owns (c : Thread nD τ) (st0_0 t) fullShare ((dats W c).after 0 t)
    ∗ owns (c : Thread nD τ) (st0_1 t) fullShare ((dats W c).after 1 t)
    ∗ owns (c : Thread nD τ) (st0_2 t) fullShare ((dats W c).after 2 t)
    ∗ owns (c : Thread nD τ) (st0_3 t) fullShare ((dats W c).after 3 t)
    ∗ owns (c : Thread nD τ) (st0_4 t) fullShare ((dats W c).after 4 t)
    ∗ owns (c : Thread nD τ) (st0_5 t) fullShare ((dats W c).after 5 t)
    ∗ owns (c : Thread nD τ) (st0_6 t) fullShare ((dats W c).after 6 t)
    ∗ owns (c : Thread nD τ) (st0_7 t) fullShare ((dats W c).after 7 t))

/-- The body at any point: the inputs' memrefs hold their blocks (`before0_W`), so `sound_kernel` applies; the invariant and
    the core's `owes` pass through unread. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2, before0_3, before0_4, before0_5]
  rw [show (dats W c).Φ t.succ = (dats W c).Φ t.castSucc from rfl,
    show (dats W c).owesAt () t.succ = (dats W c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk W c 0 t) (iblk W c 1 t) (iblk W c 2 t) (iblk W c 3 t) (iblk W c 4 t) (iblk W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

end Cert.KernelIdeal.R0

end
-- ==== Proof.Body1I.lean ====
/- Region 1 of the three-call program, namespace `Cert.KernelIdeal`: the body's triple, the pipeline's proof data over any contents
   `W` of the core's buffers at the region's entry, and the body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg1 c) (hA : dat.A 4 = W c (Pipeline.arrRef spec1 4))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg1 c) (hA : dat.A 5 = W c (Pipeline.arrRef spec1 5))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg1 c) (hA : dat.A 6 = W c (Pipeline.arrRef spec1 6))
    (hafter : ∀ t, dat.after 6 t = iblk W c 6 t) (t : Fin cfg1.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x1x480x768 := Rect.unit (s := S1x1x480x768) ![0, 0, 0, 0] S1x1x480x768.size inb_S1x1x480x768_S1x1x480x768_0_0_0_0
abbrev r0_1 : Rect S1536x512 := Rect.unit (s := S1536x512) ![0, 0] S1536x512.size inb_S1536x512_S1536x512_0_0
abbrev r0_2 : Rect S1x512 := Rect.unit (s := S1x512) ![0, 0] S1x512.size inb_S1x512_S1x512_0_0
abbrev r0_3 : Rect S512x768 := Rect.unit (s := S512x768) ![0, 0] S512x768.size inb_S512x768_S512x768_0_0
abbrev r0_4 : Rect S1x768 := Rect.unit (s := S1x768) ![0, 0] S1x768.size inb_S1x768_S1x768_0_0
abbrev r0_5 : Rect S1x32x768 := Rect.unit (s := S1x32x768) ![0, 0, 0] S1x32x768.size inb_S1x32x768_S1x32x768_0_0_0
abbrev r0_6 : Rect S1x1x480x25 := Rect.unit (s := S1x1x480x25) ![0, 0, 0, 0] S1x1x480x25.size inb_S1x1x480x25_S1x1x480x25_0_0_0_0
abbrev r0_7 : Rect S1x1x1x480 := Rect.unit (s := S1x1x1x480) ![0, 0, 0, 0] S1x1x1x480.size inb_S1x1x1x480_S1x1x1x480_0_0_0_0

/-! ## What the body leaves in each output window's buffer -/

/-! ### Values of the body that the stores' payloads, spelt out, would write more than once

    Each is a vector the body binds (often a part call's result), stated over the input windows' blocks and
    numbered on from the skeleton's payload functions (`k1_pay8` …, after `k1_pay7`), so that
    `out0_W` and the values after it name it instead of spelling it out (`unfold_out out0_W` opens a canon
    with them, `unfold_payloads` opens them with the payloads); the comment after each is the printed function's
    name for the value (a count appended where that name is bound again). -/

def k1_pay8 (i : grid1.Coords) (x0 : Vec F S1x1x480x768 .f32) (x1 : Vec F S1x1x480x768 .f32) (x2 : Vec F S1x32x768 .f32) (x3 : Vec F S1536x512 .f32) (x4 : Vec F S1x512 .f32) (x5 : Vec F S512x768 .f32) (x6 : Vec F S1x768 .f32) : IVec S480x32 32 :=
  iota .tc S480x32 32 [0] iota_S480x32_d0_w32 -- `v30`
def k1_pay9 (i : grid1.Coords) (x0 : Vec F S1x1x480x768 .f32) (x1 : Vec F S1x1x480x768 .f32) (x2 : Vec F S1x32x768 .f32) (x3 : Vec F S1536x512 .f32) (x4 : Vec F S1x512 .f32) (x5 : Vec F S512x768 .f32) (x6 : Vec F S1x768 .f32) : FVec F S480x32 .f32 :=
  k1_pay6 (View.ld x0 r0_0) (View.ld x1 r0_0) (View.ld x3 r0_1) (View.ld x4 r0_2) (View.ld x5 r0_3) (View.ld x6 r0_4) (View.ld x2 r0_5) -- `v28`
def k1_pay10 (i : grid1.Coords) (x0 : Vec F S1x1x480x768 .f32) (x1 : Vec F S1x1x480x768 .f32) (x2 : Vec F S1x32x768 .f32) (x3 : Vec F S1536x512 .f32) (x4 : Vec F S1x512 .f32) (x5 : Vec F S512x768 .f32) (x6 : Vec F S1x768 .f32) : IVec S480x32 1 :=
  k1_pay7 -- `v32`

/-- Window 7's staging buffer after the body, from the input windows' blocks: its 1 store as pieces, LAST
    FIRST (Lib/Pipeline/FrameBody.lean `View.canon`; the payloads are the skeleton's and the values stated above). -/
def out0_7 (i : grid1.Coords) (x0 : Vec F S1x1x480x768 .f32) (x1 : Vec F S1x1x480x768 .f32) (x2 : Vec F S1x32x768 .f32) (x3 : Vec F S1536x512 .f32) (x4 : Vec F S1x512 .f32) (x5 : Vec F S512x768 .f32) (x6 : Vec F S1x768 .f32) : Vec F S1x1x480x25 .f32 :=
  View.canon [⟨r0_6, k1_pay2 (BitVec.ofNat 32 (i 1).val) (k1_pay9 i x0 x1 x2 x3 x4 x5 x6) (k1_pay8 i x0 x1 x2 x3 x4 x5 x6) (k1_pay10 i x0 x1 x2 x3 x4 x5 x6)⟩]

/-- Its stores tile the buffer (checked by evaluation), so they cover it. -/
theorem cover0_7 (p0 : Vec F S1x1x480x25 .f32) (y : S1x1x480x25.Idx) :
    ∃ pc ∈ ([⟨r0_6, p0⟩] : List (View.Piece (Elt F) S1x1x480x25 .f32)), y ∈ pc.1.set :=
  View.cover_of_tiled [⟨r0_6, p0⟩] S1x1x480x25.size (by rfl) y

/-- Window 8's staging buffer after the body, from the input windows' blocks: its 1 store as pieces, LAST
    FIRST (Lib/Pipeline/FrameBody.lean `View.canon`; the payloads are the skeleton's and the values stated above). -/
def out0_8 (i : grid1.Coords) (x0 : Vec F S1x1x480x768 .f32) (x1 : Vec F S1x1x480x768 .f32) (x2 : Vec F S1x32x768 .f32) (x3 : Vec F S1536x512 .f32) (x4 : Vec F S1x512 .f32) (x5 : Vec F S512x768 .f32) (x6 : Vec F S1x768 .f32) : Vec F S1x1x1x480 .f32 :=
  View.canon [⟨r0_7, k1_pay4 (BitVec.ofNat 32 (i 1).val) (k1_pay9 i x0 x1 x2 x3 x4 x5 x6) (k1_pay8 i x0 x1 x2 x3 x4 x5 x6) (k1_pay10 i x0 x1 x2 x3 x4 x5 x6)⟩]

/-- Its stores tile the buffer (checked by evaluation), so they cover it. -/
theorem cover0_8 (p0 : Vec F S1x1x1x480 .f32) (y : S1x1x1x480.Idx) :
    ∃ pc ∈ ([⟨r0_7, p0⟩] : List (View.Piece (Elt F) S1x1x1x480 .f32)), y ∈ pc.1.set :=
  View.cover_of_tiled [⟨r0_7, p0⟩] S1x1x1x480.size (by rfl) y

/-- Window 9's staging buffer after the body, from the input windows' blocks: its 1 store as pieces, LAST
    FIRST (Lib/Pipeline/FrameBody.lean `View.canon`; the payloads are the skeleton's and the values stated above). -/
def out0_9 (i : grid1.Coords) (x0 : Vec F S1x1x480x768 .f32) (x1 : Vec F S1x1x480x768 .f32) (x2 : Vec F S1x32x768 .f32) (x3 : Vec F S1536x512 .f32) (x4 : Vec F S1x512 .f32) (x5 : Vec F S512x768 .f32) (x6 : Vec F S1x768 .f32) : Vec F S1x1x1x480 .f32 :=
  View.canon [⟨r0_7, k1_pay5 (BitVec.ofNat 32 (i 1).val) (k1_pay9 i x0 x1 x2 x3 x4 x5 x6) (iota .tc S480x32 32 [1] iota_S480x32_d1_w32) (k1_pay8 i x0 x1 x2 x3 x4 x5 x6) (k1_pay10 i x0 x1 x2 x3 x4 x5 x6)⟩]

/-- Its stores tile the buffer (checked by evaluation), so they cover it. -/
theorem cover0_9 (p0 : Vec F S1x1x1x480 .f32) (y : S1x1x1x480.Idx) :
    ∃ pc ∈ ([⟨r0_7, p0⟩] : List (View.Piece (Elt F) S1x1x1x480 .f32)), y ∈ pc.1.set :=
  View.cover_of_tiled [⟨r0_7, p0⟩] S1x1x1x480.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid1.Coords) (arg2 : Memref sig .tc .vmem S1x1x480x768 .f32) (harg2 : arg2.IsWhole) (arg3 : Memref sig .tc .vmem S1x1x480x768 .f32) (harg3 : arg3.IsWhole) (arg4 : Memref sig .tc .vmem S1x32x768 .f32) (harg4 : arg4.IsWhole) (arg5 : Memref sig .tc .vmem S1536x512 .f32) (harg5 : arg5.IsWhole) (arg6 : Memref sig .tc .vmem S1x512 .f32) (harg6 : arg6.IsWhole) (arg7 : Memref sig .tc .vmem S512x768 .f32) (harg7 : arg7.IsWhole) (arg8 : Memref sig .tc .vmem S1x768 .f32) (harg8 : arg8.IsWhole) (arg9 : Memref sig .tc .vmem S1x1x480x25 .f32) (harg9 : arg9.IsWhole) (arg10 : Memref sig .tc .vmem S1x1x1x480 .f32) (harg10 : arg10.IsWhole) (arg11 : Memref sig .tc .vmem S1x1x1x480 .f32) (harg11 : arg11.IsWhole)
    (x0 : Vec F S1x1x480x768 .f32) (x1 : Vec F S1x1x480x768 .f32) (x2 : Vec F S1x32x768 .f32) (x3 : Vec F S1536x512 .f32) (x4 : Vec F S1x512 .f32) (x5 : Vec F S512x768 .f32) (x6 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 i x0 x1 x2 x3 x4 x5 x6) ∗ owns (c : Thread nD τ) arg10 fullShare (out0_8 i x0 x1 x2 x3 x4 x5 x6) ∗ owns (c : Thread nD τ) arg11 fullShare (out0_9 i x0 x1 x2 x3 x4 x5 x6)) -∗ K ⟨⟩))
      ⊢ wp frame (wpE (defs₀ (F := F)) Variants.none c none) E (cc1__score_kernel i arg2 harg2 arg3 harg3 arg4 harg4 arg5 harg5 arg6 harg6 arg7 harg7 arg8 harg8 arg9 harg9 arg10 harg10 arg11 harg11) K := by
  simp only [cc1__score_kernel_eq_skeleton]; unfold cc1__score_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  iexists _; isplitr
  swap; · iexact H9
  ipureintro
  refine (View.read_writes_eq_canon _ _ _ (cover0_9 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (c : Dev nD) : Dat τ (Elt F) Unit ℕ (UR sig nD τ) ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => out0_7 (grid1.coords t) (iblk W c 0 t) (iblk W c 1 t) (iblk W c 2 t) (iblk W c 3 t) (iblk W c 4 t) (iblk W c 5 t) (iblk W c 6 t)
    | ⟨8, _⟩ => out0_8 (grid1.coords t) (iblk W c 0 t) (iblk W c 1 t) (iblk W c 2 t) (iblk W c 3 t) (iblk W c 4 t) (iblk W c 5 t) (iblk W c 6 t)
    | ⟨9, _⟩ => out0_9 (grid1.coords t) (iblk W c 0 t) (iblk W c 1 t) (iblk W c 2 t) (iblk W c 3 t) (iblk W c 4 t) (iblk W c 5 t) (iblk W c 6 t)
  Φ _ := Pipeline.ΦA spec1 c
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dats W c).A w = W c (Pipeline.arrRef spec1 w) := by
  dsimp only [dats]

/-- What the body leaves, window by window (the proof data's `match` reduced by `dsimp`, never `rfl`: Lib/Pipeline.lean `Dat`). -/
theorem after0_0 (c : Dev nD) (t : Fin cfg1.N) : (dats W c).after 0 t = iblk W c 0 t := by dsimp only [dats]
/-- What a step leaves in the staged block of window 1. -/
theorem after0_1 (c : Dev nD) (t : Fin cfg1.N) : (dats W c).after 1 t = iblk W c 1 t := by dsimp only [dats]
/-- What a step leaves in the staged block of window 2. -/
theorem after0_2 (c : Dev nD) (t : Fin cfg1.N) : (dats W c).after 2 t = iblk W c 2 t := by dsimp only [dats]
/-- What a step leaves in the staged block of window 3. -/
theorem after0_3 (c : Dev nD) (t : Fin cfg1.N) : (dats W c).after 3 t = iblk W c 3 t := by dsimp only [dats]
/-- What a step leaves in the staged block of window 4. -/
theorem after0_4 (c : Dev nD) (t : Fin cfg1.N) : (dats W c).after 4 t = iblk W c 4 t := by dsimp only [dats]
/-- What a step leaves in the staged block of window 5. -/
theorem after0_5 (c : Dev nD) (t : Fin cfg1.N) : (dats W c).after 5 t = iblk W c 5 t := by dsimp only [dats]
/-- What a step leaves in the staged block of window 6. -/
theorem after0_6 (c : Dev nD) (t : Fin cfg1.N) : (dats W c).after 6 t = iblk W c 6 t := by dsimp only [dats]
/-- What a step leaves in the staged block of window 7. -/
theorem after0_7 (c : Dev nD) (t : Fin cfg1.N) : (dats W c).after 7 t = out0_7 (grid1.coords t) (iblk W c 0 t) (iblk W c 1 t) (iblk W c 2 t) (iblk W c 3 t) (iblk W c 4 t) (iblk W c 5 t) (iblk W c 6 t) := by dsimp only [dats]
/-- What a step leaves in the staged block of window 8. -/
theorem after0_8 (c : Dev nD) (t : Fin cfg1.N) : (dats W c).after 8 t = out0_8 (grid1.coords t) (iblk W c 0 t) (iblk W c 1 t) (iblk W c 2 t) (iblk W c 3 t) (iblk W c 4 t) (iblk W c 5 t) (iblk W c 6 t) := by dsimp only [dats]
/-- What a step leaves in the staged block of window 9. -/
theorem after0_9 (c : Dev nD) (t : Fin cfg1.N) : (dats W c).after 9 t = out0_9 (grid1.coords t) (iblk W c 0 t) (iblk W c 1 t) (iblk W c 2 t) (iblk W c 3 t) (iblk W c 4 t) (iblk W c 5 t) (iblk W c 6 t) := by dsimp only [dats]

/-- Each input's current staging buffer holds its block at every point, fetched there or not (`beforeK_W_of`). -/
theorem before0_0 (c : Dev nD) (t : Fin cfg1.N) (d) : (dats W c).before 0 t d = iblk W c 0 t :=
  before0_0_of W (dats W c) (A_eq W c 0) (after0_0 W c) t d
/-- What a step finds in the staged block of window 1. -/
theorem before0_1 (c : Dev nD) (t : Fin cfg1.N) (d) : (dats W c).before 1 t d = iblk W c 1 t :=
  before0_1_of W (dats W c) (A_eq W c 1) (after0_1 W c) t d
/-- What a step finds in the staged block of window 2. -/
theorem before0_2 (c : Dev nD) (t : Fin cfg1.N) (d) : (dats W c).before 2 t d = iblk W c 2 t :=
  before0_2_of W (dats W c) (A_eq W c 2) (after0_2 W c) t d
/-- What a step finds in the staged block of window 3. -/
theorem before0_3 (c : Dev nD) (t : Fin cfg1.N) (d) : (dats W c).before 3 t d = iblk W c 3 t :=
  before0_3_of W (dats W c) (A_eq W c 3) (after0_3 W c) t d
/-- What a step finds in the staged block of window 4. -/
theorem before0_4 (c : Dev nD) (t : Fin cfg1.N) (d) : (dats W c).before 4 t d = iblk W c 4 t :=
  before0_4_of W (dats W c) (A_eq W c 4) (after0_4 W c) t d
/-- What a step finds in the staged block of window 5. -/
theorem before0_5 (c : Dev nD) (t : Fin cfg1.N) (d) : (dats W c).before 5 t d = iblk W c 5 t :=
  before0_5_of W (dats W c) (A_eq W c 5) (after0_5 W c) t d
/-- What a step finds in the staged block of window 6. -/
theorem before0_6 (c : Dev nD) (t : Fin cfg1.N) (d) : (dats W c).before 6 t d = iblk W c 6 t :=
  before0_6_of W (dats W c) (A_eq W c 6) (after0_6 W c) t d

/-! ## The body obligation, at a generic point -/

/-- What the body is called with at point `t` (Lib/Pipeline.lean `BodyObligation`'s precondition, the windows one by one), -/
def bodyPre (c : Dev nD) (t : Fin cfg1.N) : sProp 𝕄 :=
  iprop((dats W c).Φ t.castSucc ∗ (dats W c).owesAt () t.castSucc
    ∗ (∃ d, owns (c : Thread nD τ) (st1_0 t) fullShare ((dats W c).before 0 t d))
    ∗ (∃ d, owns (c : Thread nD τ) (st1_1 t) fullShare ((dats W c).before 1 t d))
    ∗ (∃ d, owns (c : Thread nD τ) (st1_2 t) fullShare ((dats W c).before 2 t d))
    ∗ (∃ d, owns (c : Thread nD τ) (st1_3 t) fullShare ((dats W c).before 3 t d))
    ∗ (∃ d, owns (c : Thread nD τ) (st1_4 t) fullShare ((dats W c).before 4 t d))
    ∗ (∃ d, owns (c : Thread nD τ) (st1_5 t) fullShare ((dats W c).before 5 t d))
    ∗ (∃ d, owns (c : Thread nD τ) (st1_6 t) fullShare ((dats W c).before 6 t d))
    ∗ (∃ d, owns (c : Thread nD τ) (st1_7 t) fullShare ((dats W c).before 7 t d))
    ∗ (∃ d, owns (c : Thread nD τ) (st1_8 t) fullShare ((dats W c).before 8 t d))
    ∗ (∃ d, owns (c : Thread nD τ) (st1_9 t) fullShare ((dats W c).before 9 t d)))

/-- and what it returns. -/
def bodyPost (c : Dev nD) (t : Fin cfg1.N) : sProp 𝕄 :=
  iprop((dats W c).Φ t.succ ∗ (dats W c).owesAt () t.succ
    ∗ owns (c : Thread nD τ) (st1_0 t) fullShare ((dats W c).after 0 t)
    ∗ owns (c : Thread nD τ) (st1_1 t) fullShare ((dats W c).after 1 t)
    ∗ owns (c : Thread nD τ) (st1_2 t) fullShare ((dats W c).after 2 t)
    ∗ owns (c : Thread nD τ) (st1_3 t) fullShare ((dats W c).after 3 t)
    ∗ owns (c : Thread nD τ) (st1_4 t) fullShare ((dats W c).after 4 t)
    ∗ owns (c : Thread nD τ) (st1_5 t) fullShare ((dats W c).after 5 t)
    ∗ owns (c : Thread nD τ) (st1_6 t) fullShare ((dats W c).after 6 t)
    ∗ owns (c : Thread nD τ) (st1_7 t) fullShare ((dats W c).after 7 t)
    ∗ owns (c : Thread nD τ) (st1_8 t) fullShare ((dats W c).after 8 t)
    ∗ owns (c : Thread nD τ) (st1_9 t) fullShare ((dats W c).after 9 t))

/-- The body at any point: the inputs' memrefs hold their blocks (`before0_W`), so `sound_kernel` applies; the invariant and
    the core's `owes` pass through unread. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0_0, before0_1, before0_2, before0_3, before0_4, before0_5, before0_6]
  rw [show (dats W c).Φ t.succ = (dats W c).Φ t.castSucc from rfl,
    show (dats W c).owesAt () t.succ = (dats W c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid1.coords t) _ _ _ _ _ _ _ _ _ _ _ _ _ _ _ _ _ _ _ _ (iblk W c 0 t) (iblk W c 1 t) (iblk W c 2 t) (iblk W c 3 t) (iblk W c 4 t) (iblk W c 5 t) (iblk W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) W c) (defs₀ (F := F)) Variants.none () Set.univ := fun t => by
  rw [bigSep_W1, bigSep_W1, defs₀_row]
  exact triple_restated (sound_body W c t) rfl .rfl fun _ => .rfl

end Cert.KernelIdeal.R1

end
-- ==== Proof.Body2I.lean ====
/- Region 2 of the three-call program, namespace `Cert.KernelIdeal`: the body's triple, the pipeline's proof data over any contents
   `W` of the core's buffers at the region's entry, and the body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))
/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The input window's staging buffer holds its block at the point, for any proof data entering at `W` whose body leaves it. -/
theorem before2_0_of {c : Dev nD} (dat : Dat τ (Elt F) Unit ℕ (UR sig nD τ) ℕ cfg2 c) (hA : dat.A 0 = W c (Pipeline.arrRef spec2 0))
    (hafter : ∀ t, dat.after 0 t = iblk W c 0 t) (t : Fin cfg2.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole of the scores' block. -/
abbrev rIn : Rect S4x5760 := Rect.unit (s := S4x5760) ![0, 0] S4x5760.size inb_S4x5760_S4x5760_0_0
/-- The whole of an output's block. -/
abbrev rOut : Rect S4x512 := Rect.unit (s := S4x512) ![0, 0] S4x512.size inb_S4x512_S4x512_0_0

/-- The five values the selection loop carries: the remaining scores, the words covered so far, and the three results. -/
abbrev Car (F : FTy → Type) : Type := FVec F S4x5760 .f32 × FVec F S4x480 .f32 × FVec F S4x512 .f32 × FVec F S4x512 .f32 × FVec F S4x512 .f32

/-- One trip of the selection loop. -/
def trip (k : Fin k2_t1_loop.trips) (a : Car F) : Car F :=
  let v8 : IVec S4x5760 32 := iota .tc S4x5760 32 [1] iota_S4x5760_d1_w32
  let arg4 : BitVec 32 := Scf.iv 0#32 1#32 k
  let v51 : BitVec 32 := Scalar.select (Scalar.cmpi .eq 12#32 0#32) 1#32 12#32
  (k2_pay7 a.1 (k2_pay13 v8 a.1),
    k2_pay6 a.2.1 (k2_pay12 a.1) (k2_pay14 v8 a.1) v51 (k2_pay15 v8 a.1) (k2_pay16 v8 a.1) (k2_pay17 v8 a.1) k2_pay18,
    k2_pay9 a.2.2.1 arg4 (k2_pay13 v8 a.1),
    k2_pay10 a.2.1 a.2.2.2.1 arg4 (k2_pay12 a.1) (k2_pay14 v8 a.1) v51 (k2_pay15 v8 a.1) (k2_pay16 v8 a.1) (k2_pay17 v8 a.1) k2_pay18,
    k2_pay11 a.2.2.2.2 arg4 (k2_pay12 a.1))

/-- What the loop carries before trip `k`, from the scores `x`. -/
def car (x : Vec F S4x5760 .f32) : ℕ → Car F
  | 0 => (k2_pay1 (View.ld x rIn) (View.ld x rIn), k2_pay3, k2_pay2, k2_pay2, k2_pay2)
  | k + 1 => if h : k < k2_t1_loop.trips then trip ⟨k, h⟩ (car x k) else car x k

/-- What the three outputs' buffers hold after the body. -/
def out2_1 (x : Vec F S4x5760 .f32) : Vec F S4x512 .f32 := View.canon [⟨rOut, (car x k2_t1_loop.trips).2.2.1⟩]
def out2_2 (x : Vec F S4x5760 .f32) : Vec F S4x512 .f32 := View.canon [⟨rOut, (car x k2_t1_loop.trips).2.2.2.1⟩]
def out2_3 (x : Vec F S4x5760 .f32) : Vec F S4x512 .f32 := View.canon [⟨rOut, (car x k2_t1_loop.trips).2.2.2.2⟩]

/-- One store of the whole buffer covers it. -/
theorem cover2 (p0 : Vec F S4x512 .f32) (y : S4x512.Idx) :
    ∃ pc ∈ ([⟨rOut, p0⟩] : List (View.Piece (Elt F) S4x512 .f32)), y ∈ pc.1.set :=
  View.cover_of_tiled [⟨rOut, p0⟩] S4x512.size (by rfl) y

/-- The loop's trips are the pure function `trip`. -/
theorem body_eq (arg0 : Memref sig .tc .vmem S4x5760 .f32) (harg0 : arg0.IsWhole) (arg1 : Memref sig .tc .vmem S4x512 .f32) (harg1 : arg1.IsWhole) (arg2 : Memref sig .tc .vmem S4x512 .f32) (harg2 : arg2.IsWhole) (arg3 : Memref sig .tc .vmem S4x512 .f32) (harg3 : arg3.IsWhole)
    (k : Fin k2_t1_loop.trips) (a : Car F) :
    k2_t1_body (F := F) arg0 harg0 arg1 harg1 arg2 harg2 arg3 harg3 (iota .tc S4x5760 32 [1] iota_S4x5760_d1_w32) k a = pure (trip k a) := by
  obtain ⟨a0, a1, a2, a3, a4⟩ := a
  unfold k2_t1_body
  simp only [k2_part1_eq_skeleton]
  unfold k2_part1_skel trip
  simp only [pure_bind]

/-- The loop as an invariant: the carried values are `car`'s. -/
@[sl_loop, reducible] def loopInv (c : Dev nD) (arg0 : Memref sig .tc .vmem S4x5760 .f32) (harg0 : arg0.IsWhole) (arg1 : Memref sig .tc .vmem S4x512 .f32) (harg1 : arg1.IsWhole) (arg2 : Memref sig .tc .vmem S4x512 .f32) (harg2 : arg2.IsWhole) (arg3 : Memref sig .tc .vmem S4x512 .f32) (harg3 : arg3.IsWhole) (x : Vec F S4x5760 .f32) :
    LoopInvTy_k2_t1 (F := F) Unit ℕ (UR sig nD τ) ℕ Variants.none c none Set.univ arg0 harg0 arg1 harg1 arg2 harg2 arg3 harg3
      (iota .tc S4x5760 32 [1] iota_S4x5760_d1_w32) (car x 0) where
  inv := fun k acc => iprop(⌜acc = car x k⌝)
  step := fun k acc => by
    iintro %h
    subst h
    rw [body_eq]
    sl_step
    ipureintro
    show _ = car x (k.val + 1)
    rw [car, dif_pos k.isLt]

set_option maxHeartbeats 1000000 in
/-- The body on whole buffers: the scores' block unchanged, each output's buffer at `out2_W` of it. -/
theorem sound_kernel (c : Dev nD) (arg0 : Memref sig .tc .vmem S4x5760 .f32) (harg0 : arg0.IsWhole) (arg1 : Memref sig .tc .vmem S4x512 .f32) (harg1 : arg1.IsWhole) (arg2 : Memref sig .tc .vmem S4x512 .f32) (harg2 : arg2.IsWhole) (arg3 : Memref sig .tc .vmem S4x512 .f32) (harg3 : arg3.IsWhole)
    (x0 : Vec F S4x5760 .f32) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare (out2_1 x0) ∗ owns (c : Thread nD τ) arg2 fullShare (out2_2 x0) ∗ owns (c : Thread nD τ) arg3 fullShare (out2_3 x0)) -∗ K ⟨⟩))
      ⊢ wp frame (wpE (defs₀ (F := F)) Variants.none c none) Set.univ (cc2__decode_kernel arg0 harg0 arg1 harg1 arg2 harg2 arg3 harg3) K := by
  simp only [cc2__decode_kernel_eq_skeleton]; unfold cc2__decode_kernel_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover2 _)).trans ?_
    rfl
  isplitl [H2]
  · iexists _; isplitr
    swap; · iexact H2
    ipureintro
    refine (View.read_writes_eq_canon _ _ _ (cover2 _)).trans ?_
    rfl
  iexists _; isplitr
  swap; · iexact H3
  ipureintro
  refine (View.read_writes_eq_canon _ _ _ (cover2 _)).trans ?_
  rfl

/-- The proof data on core `c`. -/
def dats (c : Dev nD) : Dat τ (Elt F) Unit ℕ (UR sig nD τ) ℕ cfg2 c where
  A w := W c (Pipeline.arrRef spec2 w)
  after w t := match w with
    | ⟨0, _⟩ => iblk W c 0 t
    | ⟨1, _⟩ => out2_1 (iblk W c 0 t)
    | ⟨2, _⟩ => out2_2 (iblk W c 0 t)
    | ⟨3, _⟩ => out2_3 (iblk W c 0 t)
  Φ _ := Pipeline.ΦA spec2 c
  q _ := fullShare
  owed _ := 0

/-- The array behind a window is what the call is handed. -/
theorem A_eq (c : Dev nD) (w : Fin cfg2.W) : (dats W c).A w = W c (Pipeline.arrRef spec2 w) := by
  dsimp only [dats]
/-- What a step leaves in the staged block of window 0. -/
theorem after2_0 (c : Dev nD) (t : Fin cfg2.N) : (dats W c).after 0 t = iblk W c 0 t := by dsimp only [dats]
/-- What a step leaves in the staged block of window 1. -/
theorem after2_1 (c : Dev nD) (t : Fin cfg2.N) : (dats W c).after 1 t = out2_1 (iblk W c 0 t) := by dsimp only [dats]
/-- What a step leaves in the staged block of window 2. -/
theorem after2_2 (c : Dev nD) (t : Fin cfg2.N) : (dats W c).after 2 t = out2_2 (iblk W c 0 t) := by dsimp only [dats]
/-- What a step leaves in the staged block of window 3. -/
theorem after2_3 (c : Dev nD) (t : Fin cfg2.N) : (dats W c).after 3 t = out2_3 (iblk W c 0 t) := by dsimp only [dats]
/-- What a step finds in the staged block of window 0. -/
theorem before2_0 (c : Dev nD) (t : Fin cfg2.N) (d) : (dats W c).before 0 t d = iblk W c 0 t :=
  before2_0_of W (dats W c) (A_eq W c 0) (after2_0 W c) t d

/-- What the body is called with at point `t`, -/
def bodyPre (c : Dev nD) (t : Fin cfg2.N) : sProp 𝕄 :=
  iprop((dats W c).Φ t.castSucc ∗ (dats W c).owesAt () t.castSucc
    ∗ (∃ d, owns (c : Thread nD τ) (st2_0 t) fullShare ((dats W c).before 0 t d))
    ∗ (∃ d, owns (c : Thread nD τ) (st2_1 t) fullShare ((dats W c).before 1 t d))
    ∗ (∃ d, owns (c : Thread nD τ) (st2_2 t) fullShare ((dats W c).before 2 t d))
    ∗ (∃ d, owns (c : Thread nD τ) (st2_3 t) fullShare ((dats W c).before 3 t d)))
/-- and what it returns. -/
def bodyPost (c : Dev nD) (t : Fin cfg2.N) : sProp 𝕄 :=
  iprop((dats W c).Φ t.succ ∗ (dats W c).owesAt () t.succ
    ∗ owns (c : Thread nD τ) (st2_0 t) fullShare ((dats W c).after 0 t)
    ∗ owns (c : Thread nD τ) (st2_1 t) fullShare ((dats W c).after 1 t)
    ∗ owns (c : Thread nD τ) (st2_2 t) fullShare ((dats W c).after 2 t)
    ∗ owns (c : Thread nD τ) (st2_3 t) fullShare ((dats W c).after 3 t))

/-- The body at any point. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before2_0]
  rw [show (dats W c).Φ t.succ = (dats W c).Φ t.castSucc from rfl,
    show (dats W c).owesAt () t.succ = (dats W c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel c _ _ _ _ _ _ _ _ (iblk W c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at the point is the body. -/
theorem defs₀_row (t : Fin cfg2.N) :
    defs₀ (F := F) .tc cfg2.body (cfg2.bodyArgs t (cfg2.slots t)) = bodyAt2 t := by
  unfold defs₀; rw [Defs.onTc_tc]

/-- The body obligation, at every point. -/
theorem body_obligation (c : Dev nD) : BodyObligation (dats (F := F) W c) (defs₀ (F := F)) Variants.none () Set.univ := fun t => by
  rw [bigSep_W2, bigSep_W2, defs₀_row]
  exact triple_restated (sound_body W c t) rfl .rfl fun _ => .rfl

end Cert.KernelIdeal.R2

end
-- ==== Proof.RunI.lean ====
/- The whole program's run, namespace `Cert.KernelIdeal`: the three regions' records plugged into the host items' chain, and the final memory
   read at every unscoped buffer. -/
module

public import proofs.«01_k».proof.Proof.Body0I
public import proofs.«01_k».proof.Proof.Body1I
public import proofs.«01_k».proof.Proof.Body2I
public import proofs.«01_k».proof.Proof.Gen.KernelIdeal.Regions
public import Idealize.ShloMosaic.Lib.Pipeline.Kit
public import Idealize.ShloMosaic.Lib.Pipeline.RegionsLoop
public import Idealize.ShloMosaic.Lib.Pipeline.RegionArrays

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- A valuation as the contents of a core's buffers. -/
abbrev asW (V : (c : Dev nD) → Valuation τ sig (Elt F)) : (c : Dev nD) → (b : Ref sig .tc) → Buf (Elt F) ((c : Thread nD τ).loc b) :=
  fun c b => V c b

/-- Region 0's proof data, from the contents after the first host stretch. -/
def d0 (c : Dev nD) : Dat τ (Elt F) Unit ℕ (UR sig nD τ) ℕ cfg0 c := R0.dats (asW (V1 m)) c
/-- The contents after region 0. -/
def oA (c : Dev nD) : Valuation τ sig (Elt F) :=
  Function.update (Function.update (V1 m c) main_v5_0 ((d0 m c).arrAt 6 cfg0.N)) main_v5_1 ((d0 m c).arrAt 7 cfg0.N)
/-- What region 0 leaves, as unknowns' values. -/
def outsA : Outs (F := F) := fun _ r c => oA m c r
/-- Region 1's proof data. -/
def d1 (c : Dev nD) : Dat τ (Elt F) Unit ℕ (UR sig nD τ) ℕ cfg1 c := R1.dats (asW (V3 m (outsA m))) c
/-- The contents after region 1. -/
def oB (c : Dev nD) : Valuation τ sig (Elt F) :=
  Function.update (Function.update (Function.update (V3 m (outsA m) c) main_v8_0 ((d1 m c).arrAt 7 cfg1.N)) main_v8_1 ((d1 m c).arrAt 8 cfg1.N)) main_v8_2 ((d1 m c).arrAt 9 cfg1.N)
/-- What regions 0 and 1 leave. -/
def outsB : Outs (F := F) := fun J r c => match J with
  | 2 => oA m c r
  | _ => oB m c r
/-- Region 2's proof data. -/
def d2 (c : Dev nD) : Dat τ (Elt F) Unit ℕ (UR sig nD τ) ℕ cfg2 c := R2.dats (asW (V5 m (outsB m))) c
/-- The contents after region 2. -/
def oC (c : Dev nD) : Valuation τ sig (Elt F) :=
  Function.update (Function.update (Function.update (V5 m (outsB m) c) main_v18_0 ((d2 m c).arrAt 1 cfg2.N)) main_v18_1 ((d2 m c).arrAt 2 cfg2.N)) main_v18_2 ((d2 m c).arrAt 3 cfg2.N)
/-- What the three regions leave. -/
def outs : Outs (F := F) := fun J r c => match J with
  | 2 => oA m c r
  | 4 => oB m c r
  | _ => oC m c r

/-- Result 1 of the preparation call, as its run leaves it. -/
theorem oA_0 (c : Dev nD) : oA m c main_v5_0 = (d0 m c).arrAt 6 cfg0.N := by
  unfold oA; rw [Function.update_of_ne (StableHlo.devRef_ne_of_ne (by decide)), Function.update_self]
/-- Result 2 of the preparation call, as its run leaves it. -/
theorem oA_1 (c : Dev nD) : oA m c main_v5_1 = (d0 m c).arrAt 7 cfg0.N := by
  unfold oA; rw [Function.update_self]
/-- Result 1 of the scoring call, as its run leaves it. -/
theorem oB_0 (c : Dev nD) : oB m c main_v8_0 = (d1 m c).arrAt 7 cfg1.N := by
  unfold oB; rw [Function.update_of_ne (StableHlo.devRef_ne_of_ne (by decide)), Function.update_of_ne (StableHlo.devRef_ne_of_ne (by decide)), Function.update_self]
/-- Result 2 of the scoring call, as its run leaves it. -/
theorem oB_1 (c : Dev nD) : oB m c main_v8_1 = (d1 m c).arrAt 8 cfg1.N := by
  unfold oB; rw [Function.update_of_ne (StableHlo.devRef_ne_of_ne (by decide)), Function.update_self]
/-- Result 3 of the scoring call, as its run leaves it. -/
theorem oB_2 (c : Dev nD) : oB m c main_v8_2 = (d1 m c).arrAt 9 cfg1.N := by
  unfold oB; rw [Function.update_self]
/-- Result 1 of the decoding call, as its run leaves it. -/
theorem oC_0 (c : Dev nD) : oC m c main_v18_0 = (d2 m c).arrAt 1 cfg2.N := by
  unfold oC; rw [Function.update_of_ne (StableHlo.devRef_ne_of_ne (by decide)), Function.update_of_ne (StableHlo.devRef_ne_of_ne (by decide)), Function.update_self]
/-- Result 2 of the decoding call, as its run leaves it. -/
theorem oC_1 (c : Dev nD) : oC m c main_v18_1 = (d2 m c).arrAt 2 cfg2.N := by
  unfold oC; rw [Function.update_of_ne (StableHlo.devRef_ne_of_ne (by decide)), Function.update_self]
/-- Result 3 of the decoding call, as its run leaves it. -/
theorem oC_2 (c : Dev nD) : oC m c main_v18_2 = (d2 m c).arrAt 3 cfg2.N := by
  unfold oC; rw [Function.update_self]

/-- What each family of contents is at each boundary, at any buffer. -/
theorem outs_2 (r : Ref sig .tc) (c : Dev nD) : outs m 2 r c = oA m c r := rfl
/-- The results assumed of the scoring call are those of its run. -/
theorem outs_4 (r : Ref sig .tc) (c : Dev nD) : outs m 4 r c = oB m c r := rfl
/-- The results assumed of the decoding call are those of its run. -/
theorem outs_6 (r : Ref sig .tc) (c : Dev nD) : outs m 6 r c = oC m c r := rfl
/-- The results assumed of the preparation call are those of its run. -/
theorem outsA_2 (r : Ref sig .tc) (c : Dev nD) : outsA m 2 r c = oA m c r := rfl
/-- The results assumed of the preparation call are those of its run. -/
theorem outsB_2 (r : Ref sig .tc) (c : Dev nD) : outsB m 2 r c = oA m c r := rfl
/-- The results assumed of the scoring call are those of its run. -/
theorem outsB_4 (r : Ref sig .tc) (c : Dev nD) : outsB m 4 r c = oB m c r := rfl

/-- After the preparation call its result 1 is what its run leaves. -/
theorem U2_0 (c : Dev nD) : V2 m (outs m) c main_v5_0 = (d0 m c).arrAt 6 cfg0.N := by
  unfold V2; rw [Function.update_of_ne (StableHlo.devRef_ne_of_ne (by decide)), Function.update_self, outs_2]; exact oA_0 m c
/-- After the preparation call its result 2 is what its run leaves. -/
theorem U2_1 (c : Dev nD) : V2 m (outs m) c main_v5_1 = (d0 m c).arrAt 7 cfg0.N := by
  unfold V2; rw [Function.update_self, outs_2]; exact oA_1 m c
/-- After the scoring call its result 1 is what its run leaves. -/
theorem U4_0 (c : Dev nD) : V4 m (outs m) c main_v8_0 = (d1 m c).arrAt 7 cfg1.N := by
  unfold V4; rw [Function.update_of_ne (StableHlo.devRef_ne_of_ne (by decide)), Function.update_of_ne (StableHlo.devRef_ne_of_ne (by decide)), Function.update_self, outs_4]; exact oB_0 m c
/-- After the scoring call its result 2 is what its run leaves. -/
theorem U4_1 (c : Dev nD) : V4 m (outs m) c main_v8_1 = (d1 m c).arrAt 8 cfg1.N := by
  unfold V4; rw [Function.update_of_ne (StableHlo.devRef_ne_of_ne (by decide)), Function.update_self, outs_4]; exact oB_1 m c
/-- After the scoring call its result 3 is what its run leaves. -/
theorem U4_2 (c : Dev nD) : V4 m (outs m) c main_v8_2 = (d1 m c).arrAt 9 cfg1.N := by
  unfold V4; rw [Function.update_self, outs_4]; exact oB_2 m c
/-- After the decoding call its result 1 is what its run leaves. -/
theorem U6_0 (c : Dev nD) : V6 m (outs m) c main_v18_0 = (d2 m c).arrAt 1 cfg2.N := by
  unfold V6; rw [Function.update_of_ne (StableHlo.devRef_ne_of_ne (by decide)), Function.update_of_ne (StableHlo.devRef_ne_of_ne (by decide)), Function.update_self, outs_6]; exact oC_0 m c
/-- After the decoding call its result 2 is what its run leaves. -/
theorem U6_1 (c : Dev nD) : V6 m (outs m) c main_v18_1 = (d2 m c).arrAt 2 cfg2.N := by
  unfold V6; rw [Function.update_of_ne (StableHlo.devRef_ne_of_ne (by decide)), Function.update_self, outs_6]; exact oC_1 m c
/-- After the decoding call its result 3 is what its run leaves. -/
theorem U6_2 (c : Dev nD) : V6 m (outs m) c main_v18_2 = (d2 m c).arrAt 3 cfg2.N := by
  unfold V6; rw [Function.update_self, outs_6]; exact oC_2 m c

/-- Regions 1 and 2 are entered from the chain's contents. -/
theorem V3_congr (o o' : Outs (F := F)) (c : Dev nD) (h : ∀ r, o 2 r c = o' 2 r c) : V3 m o c = V3 m o' c := by
  simp only [V3, V2, h]
/-- What enters the decoding call depends only on the results of the two calls before it. -/
theorem V5_congr (o o' : Outs (F := F)) (c : Dev nD) (h : ∀ r, o 2 r c = o' 2 r c) (h' : ∀ r, o 4 r c = o' 4 r c) : V5 m o c = V5 m o' c := by
  simp only [V5, V4, V3, V2, h, h']
/-- What enters the scoring call depends only on the preparation call. -/
theorem U3_eq (c : Dev nD) : V3 m (outsA m) c = V3 m (outs m) c :=
  V3_congr m _ _ c fun r => (outsA_2 m r c).trans (outs_2 m r c).symm
/-- What enters the decoding call does not depend on its own results. -/
theorem U5_eq (c : Dev nD) : V5 m (outsB m) c = V5 m (outs m) c :=
  V5_congr m _ _ c (fun r => (outsB_2 m r c).trans (outs_2 m r c).symm) (fun r => (outsB_4 m r c).trans (outs_4 m r c).symm)

/-! ## The regions' records -/

/-- The three pipelines' proof data. -/
def pdats : (p : Fin 3) → (c : Dev nD) → Dat τ (Elt F) Unit ℕ (UR sig nD τ) ℕ (cfgs p) c
  | 0 => fun c => d0 m c
  | 1 => fun c => d1 m c
  | 2 => fun c => d2 m c

abbrev L : GSem nD τ sig → Finset Unit := fun _ => ∅
abbrev lv : GSem nD τ sig → Unit → ℕ := fun _ _ => 0

/-- What rides beside the buffers between items: the generator register and a debt of nothing. -/
abbrev Rest (c : Dev nD) : sProp 𝕄 := iprop((∃ r, prngReg c r) ∗ ∃ Wd, owes (c : Thread nD τ) (0 : CellTallies nD τ sig Unit) Wd)

/-- A debt of nothing is the proof data's first tally, -/
theorem owes_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ Wd, owes (c : Thread nD τ) (0 : CellTallies nD τ sig Unit) Wd) ⊢ (dat.owesAt () t : sProp 𝕄) := by
  unfold Pipeline.Dat.owesAt Pipeline.owesWithin Pipeline.Dat.bound
  rw [h0, hr]
  iintro ⟨%Wd, HO⟩
  iexists Wd
  isplitr
  · ipureintro; exact fun _ _ => Or.inl trivial
  iexact HO
/-- and its last. -/
theorem owes_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ Wd, owes (c : Thread nD τ) (0 : CellTallies nD τ sig Unit) Wd) := by
  unfold Pipeline.Dat.owesAt Pipeline.owesWithin
  rw [h0]
  iintro ⟨%Wd, -, HO⟩
  iexists Wd
  iexact HO

/-- A region's record: entered from the buffers at `V`, left with them at `V'`, which has every window's array at its final contents and
    is `V` elsewhere. -/
def reg (p : Fin 3) (hw : Pipeline.WinFacts₀ (cfgs p).spec) (hsh : Pipeline.SharedIn (cfgs p).spec)
    (block_pos : ∀ w, 0 < ((cfgs p).spec w).block.numel)
    (harr : ∀ w, ((cfgs p).spec w).arr.IsWhole)
    (stage_whole : ∀ (w) (s : Fin ((cfgs p).spec w).nbuf), (((cfgs p).spec w).stage s).IsWhole)
    (hbody : ∀ c, Pipeline.BodyObligation (pdats m p c) (defs₀ (F := F)) Variants.none () Set.univ)
    (hΦ : ∀ c t, (pdats m p c).Φ t = Pipeline.ΦA (cfgs p).spec c)
    (howed : ∀ c t, (pdats m p c).owed t = 0) (hrec : ∀ c t, (pdats m p c).recorded t = Set.univ)
    (hq : ∀ c w, ((cfgs p).spec w).isOut = false → (pdats m p c).q w = Pipeline.shareOf (cfgs p).spec w)
    (V V' : (c : Dev nD) → Valuation τ sig (Elt F))
    (hA : ∀ c w, (pdats m p c).A w = V c (Pipeline.arrRef (cfgs p).spec w))
    (hF : ∀ c w, (pdats m p c).arrAt w (cfgs p).N = V' c (Pipeline.arrRef (cfgs p).spec w))
    (hrest : ∀ c (b : Ref sig .tc), b ∉ Finset.univ.image (Pipeline.arrRef (cfgs p).spec) → V' c b = V c b) :
    RegionSeg (pcfgs (F := F)) adm (pdats m) () defs₀ Variants.none L lv p where
  win := hw
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (cfgs p).spec c (fun b => V c b)
  hentry c := by
    rw [← Pipeline.unscopedBufs_held (Ix := Unit) (Name := ℕ) (U := UR sig nD τ) (Lvl := ℕ) c (V c), Pipeline.ownSems0_none]
    iintro ⟨⟨Hb, Hp, HO⟩, -, -⟩
    ihave Ha := (Pipeline.arrays_of_unscopedBufs_shared (pcfgs (F := F)) adm (pdats m) (p := p) hw hsh harr c (hq c) (fun b => V c b) (hA c)) $$ Hb
    icases Ha with ⟨Ha, Hr⟩
    imodintro
    isplitl [Ha]; · iexact Ha
    isplitr
    · rw [show (Pipeline.prefHeld (pcfgs (F := F) p).pre c (fun _ => fullShare) (adm p).1 : sProp 𝕄) = BI.emp from Pipeline.prefHeld_of_none _ rfl _ _ _]
      iempintro
    isplitl [HO]; · iapply (owes_in (pdats m p c) 0 (howed c 0) (hrec c 0)); iexact HO
    isplitl [Hp]; · iexact Hp
    iexact Hr
  hin c := by
    rw [hΦ c 0]; unfold Pipeline.ΦA
    iintro ⟨HX, -, HS⟩
    isplitl [HS]; · iexact HS
    iexact HX
  hout c := by
    rw [hΦ c (Fin.last _)]; unfold Pipeline.ΦA
    rw [Pipeline.ownSems0_none]
    iintro ⟨HS, HX⟩
    isplitl [HX]; · iexact HX
    isplitr; · iempintro
    iexact HS
  hexit c := by
    rw [← Pipeline.unscopedBufs_held (Ix := Unit) (Name := ℕ) (U := UR sig nD τ) (Lvl := ℕ) c (V' c)]
    iintro ⟨Ha, HO, HY, HZ⟩
    imodintro
    isplitl [Ha HZ]
    · iapply (Pipeline.unscopedBufs_of_arrays_shared (pcfgs (F := F)) adm hw hsh harr c (pdats m) (hq c) (fun b => V c b) (fun b => V' c b) _ (hF c) (hrest c))
      isplitl [Ha]; · iexact Ha
      iexact HZ
    isplitl [HY]; · iexact HY
    iapply (owes_out (pdats m p c) _ (howed c _)); iexact HO

/-- Region 0's arrays at its entry, and at its end: an input's as it was, a result's as the last valuation has it. -/
theorem hA0 (c : Dev nD) (w : Fin 8) : (d0 m c).A w = (V1 m) c (Pipeline.arrRef spec0 w) :=
  (R0.A_eq _ c w).trans rfl
/-- The arrays the preparation call leaves are those the program goes on with. -/
theorem hF0 (c : Dev nD) (w : Fin 8) : (d0 m c).arrAt w cfg0.N = (V2 m (outs m)) c (Pipeline.arrRef spec0 w) := by
  by_cases h : (spec0 w).isOut = false
  · have hn : Pipeline.arrRef spec0 w ∉ ([main_v5_0, main_v5_1] : List (Ref sig .tc)) :=
      (by decide : ∀ w : Fin 8, (spec0 w).isOut = false → Pipeline.arrRef spec0 w ∉ ([main_v5_0, main_v5_1] : List (Ref sig .tc))) w h
    exact ((d0 m c).arrAt_in w h _).trans ((hA0 m c w).trans (V2_of m (outs m) c _ hn).symm)
  · have hc : w = 6 ∨ w = 7 :=
      (by decide : ∀ w : Fin 8, ¬ (spec0 w).isOut = false → w = 6 ∨ w = 7) w h
    rcases hc with rfl | rfl
    · exact (U2_0 m c).symm
    · exact (U2_1 m c).symm
/-- The preparation call changes no buffer outside its windows. -/
theorem hrest0 (c : Dev nD) (b : Ref sig .tc) (hb : b ∉ Finset.univ.image (Pipeline.arrRef spec0)) : (V2 m (outs m)) c b = (V1 m) c b := by
  refine V2_of m (outs m) c b fun h => hb ?_
  have hs : ∀ r ∈ ([main_v5_0, main_v5_1] : List (Ref sig .tc)), r ∈ Finset.univ.image (Pipeline.arrRef spec0) := by decide
  exact hs b h
/-- Region 1's arrays at its entry, and at its end: an input's as it was, a result's as the last valuation has it. -/
theorem hA1 (c : Dev nD) (w : Fin 10) : (d1 m c).A w = (V3 m (outs m)) c (Pipeline.arrRef spec1 w) :=
  (R1.A_eq _ c w).trans (congrFun (U3_eq m c) _)
/-- The arrays the scoring call leaves are those the program goes on with. -/
theorem hF1 (c : Dev nD) (w : Fin 10) : (d1 m c).arrAt w cfg1.N = (V4 m (outs m)) c (Pipeline.arrRef spec1 w) := by
  by_cases h : (spec1 w).isOut = false
  · have hn : Pipeline.arrRef spec1 w ∉ ([main_v8_0, main_v8_1, main_v8_2] : List (Ref sig .tc)) :=
      (by decide : ∀ w : Fin 10, (spec1 w).isOut = false → Pipeline.arrRef spec1 w ∉ ([main_v8_0, main_v8_1, main_v8_2] : List (Ref sig .tc))) w h
    exact ((d1 m c).arrAt_in w h _).trans ((hA1 m c w).trans (V4_of m (outs m) c _ hn).symm)
  · have hc : w = 7 ∨ w = 8 ∨ w = 9 :=
      (by decide : ∀ w : Fin 10, ¬ (spec1 w).isOut = false → w = 7 ∨ w = 8 ∨ w = 9) w h
    rcases hc with rfl | rfl | rfl
    · exact (U4_0 m c).symm
    · exact (U4_1 m c).symm
    · exact (U4_2 m c).symm
/-- The scoring call changes no buffer outside its windows. -/
theorem hrest1 (c : Dev nD) (b : Ref sig .tc) (hb : b ∉ Finset.univ.image (Pipeline.arrRef spec1)) : (V4 m (outs m)) c b = (V3 m (outs m)) c b := by
  refine V4_of m (outs m) c b fun h => hb ?_
  have hs : ∀ r ∈ ([main_v8_0, main_v8_1, main_v8_2] : List (Ref sig .tc)), r ∈ Finset.univ.image (Pipeline.arrRef spec1) := by decide
  exact hs b h
/-- Region 2's arrays at its entry, and at its end: an input's as it was, a result's as the last valuation has it. -/
theorem hA2 (c : Dev nD) (w : Fin 4) : (d2 m c).A w = (V5 m (outs m)) c (Pipeline.arrRef spec2 w) :=
  (R2.A_eq _ c w).trans (congrFun (U5_eq m c) _)
/-- The arrays the decoding call leaves are those the program goes on with. -/
theorem hF2 (c : Dev nD) (w : Fin 4) : (d2 m c).arrAt w cfg2.N = (V6 m (outs m)) c (Pipeline.arrRef spec2 w) := by
  by_cases h : (spec2 w).isOut = false
  · have hn : Pipeline.arrRef spec2 w ∉ ([main_v18_0, main_v18_1, main_v18_2] : List (Ref sig .tc)) :=
      (by decide : ∀ w : Fin 4, (spec2 w).isOut = false → Pipeline.arrRef spec2 w ∉ ([main_v18_0, main_v18_1, main_v18_2] : List (Ref sig .tc))) w h
    exact ((d2 m c).arrAt_in w h _).trans ((hA2 m c w).trans (V6_of m (outs m) c _ hn).symm)
  · have hc : w = 1 ∨ w = 2 ∨ w = 3 :=
      (by decide : ∀ w : Fin 4, ¬ (spec2 w).isOut = false → w = 1 ∨ w = 2 ∨ w = 3) w h
    rcases hc with rfl | rfl | rfl
    · exact (U6_0 m c).symm
    · exact (U6_1 m c).symm
    · exact (U6_2 m c).symm
/-- The decoding call changes no buffer outside its windows. -/
theorem hrest2 (c : Dev nD) (b : Ref sig .tc) (hb : b ∉ Finset.univ.image (Pipeline.arrRef spec2)) : (V6 m (outs m)) c b = (V5 m (outs m)) c b := by
  refine V6_of m (outs m) c b fun h => hb ?_
  have hs : ∀ r ∈ ([main_v18_0, main_v18_1, main_v18_2] : List (Ref sig .tc)), r ∈ Finset.univ.image (Pipeline.arrRef spec2) := by decide
  exact hs b h

/-- The three records. -/
def reg0 : RegionSeg (pcfgs (F := F)) adm (pdats m) () defs₀ Variants.none L lv 0 :=
  reg m 0 launch0.win.to₀ (Pipeline.SharedIn.of_injective launch0.win.arr_inj) block_pos0 arr_whole0 stage_whole0 (fun c => R0.body_obligation _ c)
    (fun _ _ => rfl) (fun _ _ => rfl) (fun _ _ => rfl)
    (fun c w _ => (Pipeline.shareOf_eq_fullShare_of_injective _ launch0.win.arr_inj w).symm) (V1 m) (V2 m (outs m)) (hA0 m) (hF0 m) (hrest0 m)
def reg1 : RegionSeg (pcfgs (F := F)) adm (pdats m) () defs₀ Variants.none L lv 1 :=
  reg m 1 winFacts₀1 sharedIn1 block_pos1 arr_whole1 stage_whole1 (fun c => R1.body_obligation _ c)
    (fun _ _ => rfl) (fun _ _ => rfl) (fun _ _ => rfl)
    (fun c w _ => rfl) (V3 m (outs m)) (V4 m (outs m)) (hA1 m) (hF1 m) (hrest1 m)
def reg2 : RegionSeg (pcfgs (F := F)) adm (pdats m) () defs₀ Variants.none L lv 2 :=
  reg m 2 launch2.win.to₀ (Pipeline.SharedIn.of_injective launch2.win.arr_inj) block_pos2 arr_whole2 stage_whole2 (fun c => R2.body_obligation _ c)
    (fun _ _ => rfl) (fun _ _ => rfl) (fun _ _ => rfl)
    (fun c w _ => (Pipeline.shareOf_eq_fullShare_of_injective _ launch2.win.arr_inj w).symm) (V5 m (outs m)) (V6 m (outs m)) (hA2 m) (hF2 m) (hrest2 m)

/-- The whole program's run: every unscoped buffer ends at the last valuation, and every semaphore at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = V7 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ => Rest) () (pdats m) (reg0 m) (reg1 m) (reg2 m))
    (fun c Q => by
      rewrite [main_chain c, Seg.run_eq_chain,
        show (segs m (outs m) Variants.none L lv (fun _ => Rest) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V7 m (outs m) c))
    (hch := fun c => ⟨.rfl, .rfl, .rfl, .rfl, .rfl, .rfl, .rfl, sep_mono .rfl (by iintro ⟨-, HO⟩; iexact HO)⟩)
    (hinit := by
      refine Pipeline.initEach L lv fun c => ?_
      rw [show unscopedBufs c (fun b => m ((c.tc : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]
      · iexists _; iexact Hp
      iexists _; iexact HO)
    (QY := fun c s => ∀ b ∈ Pipeline.ucRefs τ sig, s.mem (c, b) = V7 m (outs m) c b)
    (hfin := fun c s' => by
      unfold StableHlo.held
      iintro ⟨Hh, HSI⟩
      ihave Hr := (pointsTo_read_all (Pipeline.ucRefs τ sig) (fun b => ((c : Thread nD τ).1, b)) (V7 m (outs m) c) s') $$ [Hh HSI]
      · isplitl [Hh] <;> iassumption
      imodintro; iexact Hr)
    (hQ := fun _ h hz => ⟨h, funext fun g => hz g (.inr (regions_no_unscoped g.2))⟩)

/-- The run read at buffers `b`. -/
theorem mem_of {s : (ℓ : Loc nD τ sig) → Buf (Elt F) ℓ} {c : Dev nD} (h : ∀ b ∈ Pipeline.ucRefs τ sig, s (c, b) = V7 m (outs m) c b)
    (r : Ref sig .tc) (hr : (Proc.devRef .tc r : DevRef τ sig) ∈ Pipeline.ucRefs τ sig) :
    s ((c.tc : Thread nD τ).loc r) = V7 m (outs m) c r := h _ hr

end Cert.KernelIdeal.Whole

end
-- ==== Proof.RefRun.lean ====
/- The reference's run read at its buffers, namespace `Cert.ReferenceIdeal.Whole`: the contents before the loop as a chain of stretches, and
   what a buffer the loop does not write ends at. -/
module

public import proofs.«01_k».proof.Proof.Gen.ReferenceIdeal.Run
public import Idealize.ShloMosaic.Lib.Quiescent

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ)

/-- Every buffer a stretch before the loop writes. -/
abbrev preW : List (Ref sig .tc) := hostOps0_W ++ (hostOps0_1_W ++ (hostOps0_2_W ++ (hostOps0_3_W ++ (hostOps0_4_W ++ (hostOps0_5_W ++ (hostOps0_6_W ++ (hostOps0_7_W ++ (hostOps0_8_W ++ (hostOps0_9_W ++ (hostOps0_10_W ++ (hostOps0_11_W ++ (hostOps0_12_W ++ (hostOps0_13_W ++ (hostOps0_14_W ++ (hostOps0_15_W ++ (hostOps0_16_W ++ (hostOps0_17_W ++ (hostOps0_18_W ++ (hostOps0_19_W ++ (hostOps0_20_W ++ (hostOps0_21_W ++ (hostOps0_22_W ++ (hostOps0_23_W ++ (hostOps0_24_W ++ (hostOps0_25_W ++ (hostOps0_26_W))))))))))))))))))))))))))

/-- A buffer no stretch writes enters the loop as it was launched. -/
theorem entry_of (c : Dev nD) (r : Ref sig .tc) (h : r ∉ preW) : entryContents (preI (F := F)) m c r = m ((c.tc : Thread nD τ).loc r) := by
  simp only [entryContents, afterL_cons, afterL_nil]
  rw [after_of_writes_sub hostOps0_26 _ hostOps0_26_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (hh))))))))))))))))))))))))))))))))))))))))))))))))))))))]
  rw [after_of_writes_sub hostOps0_25 _ hostOps0_25_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))))))))))))))))))]
  rw [after_of_writes_sub hostOps0_24 _ hostOps0_24_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))))))))))))))))]
  rw [after_of_writes_sub hostOps0_23 _ hostOps0_23_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))))))))))))))]
  rw [after_of_writes_sub hostOps0_22 _ hostOps0_22_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))))))))))))]
  rw [after_of_writes_sub hostOps0_21 _ hostOps0_21_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))))))))))]
  rw [after_of_writes_sub hostOps0_20 _ hostOps0_20_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))))))))]
  rw [after_of_writes_sub hostOps0_19 _ hostOps0_19_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))))))]
  rw [after_of_writes_sub hostOps0_18 _ hostOps0_18_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))))]
  rw [after_of_writes_sub hostOps0_17 _ hostOps0_17_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))))]
  rw [after_of_writes_sub hostOps0_16 _ hostOps0_16_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))))]
  rw [after_of_writes_sub hostOps0_15 _ hostOps0_15_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))))]
  rw [after_of_writes_sub hostOps0_14 _ hostOps0_14_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))))]
  rw [after_of_writes_sub hostOps0_13 _ hostOps0_13_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))))]
  rw [after_of_writes_sub hostOps0_12 _ hostOps0_12_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))))]
  rw [after_of_writes_sub hostOps0_11 _ hostOps0_11_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))))]
  rw [after_of_writes_sub hostOps0_10 _ hostOps0_10_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))))]
  rw [after_of_writes_sub hostOps0_9 _ hostOps0_9_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))))]
  rw [after_of_writes_sub hostOps0_8 _ hostOps0_8_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))))]
  rw [after_of_writes_sub hostOps0_7 _ hostOps0_7_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))))]
  rw [after_of_writes_sub hostOps0_6 _ hostOps0_6_writes (fun hh => h (List.mem_append.mpr (Or.inr (List.mem_append.mpr (Or.inr (List.mem_append.mpr (Or.inr (List.mem_append.mpr (Or.inr (List.mem_append.mpr (Or.inr (List.mem_append.mpr (Or.inr (List.mem_append.mpr (Or.inl hh)))))))))))))))]
  rw [after_of_writes_sub hostOps0_5 _ hostOps0_5_writes (fun hh => h (List.mem_append.mpr (Or.inr (List.mem_append.mpr (Or.inr (List.mem_append.mpr (Or.inr (List.mem_append.mpr (Or.inr (List.mem_append.mpr (Or.inr (List.mem_append.mpr (Or.inl hh)))))))))))))]
  rw [after_of_writes_sub hostOps0_4 _ hostOps0_4_writes (fun hh => h (List.mem_append.mpr (Or.inr (List.mem_append.mpr (Or.inr (List.mem_append.mpr (Or.inr (List.mem_append.mpr (Or.inr (List.mem_append.mpr (Or.inl hh)))))))))))]
  rw [after_of_writes_sub hostOps0_3 _ hostOps0_3_writes (fun hh => h (List.mem_append.mpr (Or.inr (List.mem_append.mpr (Or.inr (List.mem_append.mpr (Or.inr (List.mem_append.mpr (Or.inl hh)))))))))]
  rw [after_of_writes_sub hostOps0_2 _ hostOps0_2_writes (fun hh => h (List.mem_append.mpr (Or.inr (List.mem_append.mpr (Or.inr (List.mem_append.mpr (Or.inl hh)))))))]
  rw [after_of_writes_sub hostOps0_1 _ hostOps0_1_writes (fun hh => h (List.mem_append.mpr (Or.inr (List.mem_append.mpr (Or.inl hh)))))]
  rw [after_of_writes_sub hostOps0 _ hostOps0_writes (fun hh => h (List.mem_append.mpr (Or.inl hh)))]

/-- Every buffer the loop writes. -/
abbrev loopW : List (Ref sig .tc) := condOps_W ++ while0Ops0_W

/-- What the loop does not write stays through every trip. -/
theorem atTrip_of (c : Dev nD) (r : Ref sig .tc) (h : r ∉ loopW) : ∀ k, atK m k c r = entryContents (preI (F := F)) m c r
  | 0 => rfl
  | k + 1 => by
    show after while0Ops0 (after condOps (atK m k c)) r = _
    rw [after_of_writes_sub while0Ops0 _ while0Ops0_writes (fun hh => h (List.mem_append.mpr (Or.inr hh))),
      after_of_writes_sub condOps _ condOps_writes (fun hh => h (List.mem_append.mpr (Or.inl hh)))]
    exact atTrip_of c r h k

/-- A buffer the loop does not write ends as it entered it. -/
theorem final_of (c : Dev nD) (r : Ref sig .tc) (h : r ∉ loopW) :
    finalContents condOps (preI (F := F)) bodyI postI 512 m c r = entryContents (preI (F := F)) m c r := by
  show after condOps (atK m 512 c) r = _
  rw [after_of_writes_sub condOps _ condOps_writes (fun hh => h (List.mem_append.mpr (Or.inl hh)))]
  exact atTrip_of m c r h 512

/-- A carried buffer ends at the loop's step applied once per trip. -/
theorem final_carried (c : Dev nD) (r : Ref sig .tc) (hr : r ∉ condOps_W) (k : r ∈ carriedRefs) :
    finalContents condOps (preI (F := F)) bodyI postI 512 m c r = STEP^[512] (entryContents (preI (F := F)) m c) r := by
  show after condOps (atK m 512 c) r = _
  rw [after_of_writes_sub condOps _ condOps_writes hr]
  exact atK_agree m c 512 r k

/-- The run, with every semaphore at zero (the program has none). -/
theorem run (ρ : Dev nD → PrngReg) : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps (preI (F := F)) bodyI postI 512 m c b) ∧ r.2.sem = fun _ => 0) :=
  (θ_run (defs (F := F)) (onTc (τ := τ) (main (F := F))) ⟨m, fun _ => 0, ρ⟩).mono (fun r h => ⟨h, sem_eq_zero_of_no_sems rfl r.2⟩) (run_fold m ρ)

/-- An argument is never written. -/
theorem final_arg (c : Dev nD) (r : Ref sig .tc) (h : r ∉ loopW) (h' : r ∉ preW) :
    finalContents condOps (preI (F := F)) bodyI postI 512 m c r = m ((c.tc : Thread nD τ).loc r) :=
  (final_of m c r h).trans (entry_of m c r h')

end Cert.ReferenceIdeal.Whole

end
-- ==== Proof.Frames.lean ====
/- The three frame claims: each program runs to the end, leaves its arguments as they were and every semaphore at zero. -/
module

public import proofs.«01_k».proof.Defs
public import proofs.«01_k».proof.Proof.RunK
public import proofs.«01_k».proof.Proof.RunI
public import proofs.«01_k».proof.Proof.RefRun

@[expose] public section

set_option maxRecDepth 16384

noncomputable section

namespace Cert.Proof

open Idealize.ShloMosaic Idealize.ShloMosaic.TcCoe Idealize.SL.Sem

/-- `Kernel`'s frame. -/
theorem frame_Kernel : Cert.quiescent_Kernel (hKernel := Cert.Kernel.Gen.facts) := fun m g _ =>
  (θ_run (Cert.Kernel.defs (F := Bits)) (onTc (τ := Cert.Kernel.τ) (Cert.Kernel.main (F := Bits))) ⟨m, fun _ => 0, g⟩).mono
    (fun r h => ⟨fun c => ⟨(Cert.Kernel.Whole.mem_of m (h.1 c) Cert.Kernel.main_arg0 (Finset.mem_filter.mpr ⟨StableHlo.devRef_mem_tcRefs _, by decide⟩)).trans (Cert.Kernel.Gen.V7_main_arg0 m _ c),
      (Cert.Kernel.Whole.mem_of m (h.1 c) Cert.Kernel.main_arg1 (Finset.mem_filter.mpr ⟨StableHlo.devRef_mem_tcRefs _, by decide⟩)).trans (Cert.Kernel.Gen.V7_main_arg1 m _ c),
      (Cert.Kernel.Whole.mem_of m (h.1 c) Cert.Kernel.main_arg2 (Finset.mem_filter.mpr ⟨StableHlo.devRef_mem_tcRefs _, by decide⟩)).trans (Cert.Kernel.Gen.V7_main_arg2 m _ c),
      (Cert.Kernel.Whole.mem_of m (h.1 c) Cert.Kernel.main_arg3 (Finset.mem_filter.mpr ⟨StableHlo.devRef_mem_tcRefs _, by decide⟩)).trans (Cert.Kernel.Gen.V7_main_arg3 m _ c),
      (Cert.Kernel.Whole.mem_of m (h.1 c) Cert.Kernel.main_arg4 (Finset.mem_filter.mpr ⟨StableHlo.devRef_mem_tcRefs _, by decide⟩)).trans (Cert.Kernel.Gen.V7_main_arg4 m _ c),
      (Cert.Kernel.Whole.mem_of m (h.1 c) Cert.Kernel.main_arg5 (Finset.mem_filter.mpr ⟨StableHlo.devRef_mem_tcRefs _, by decide⟩)).trans (Cert.Kernel.Gen.V7_main_arg5 m _ c),
      (Cert.Kernel.Whole.mem_of m (h.1 c) Cert.Kernel.main_arg6 (Finset.mem_filter.mpr ⟨StableHlo.devRef_mem_tcRefs _, by decide⟩)).trans (Cert.Kernel.Gen.V7_main_arg6 m _ c),
      (Cert.Kernel.Whole.mem_of m (h.1 c) Cert.Kernel.main_arg7 (Finset.mem_filter.mpr ⟨StableHlo.devRef_mem_tcRefs _, by decide⟩)).trans (Cert.Kernel.Gen.V7_main_arg7 m _ c),
      (Cert.Kernel.Whole.mem_of m (h.1 c) Cert.Kernel.main_arg8 (Finset.mem_filter.mpr ⟨StableHlo.devRef_mem_tcRefs _, by decide⟩)).trans (Cert.Kernel.Gen.V7_main_arg8 m _ c),
      (Cert.Kernel.Whole.mem_of m (h.1 c) Cert.Kernel.main_arg9 (Finset.mem_filter.mpr ⟨StableHlo.devRef_mem_tcRefs _, by decide⟩)).trans (Cert.Kernel.Gen.V7_main_arg9 m _ c),
      (Cert.Kernel.Whole.mem_of m (h.1 c) Cert.Kernel.main_arg10 (Finset.mem_filter.mpr ⟨StableHlo.devRef_mem_tcRefs _, by decide⟩)).trans (Cert.Kernel.Gen.V7_main_arg10 m _ c),
      (Cert.Kernel.Whole.mem_of m (h.1 c) Cert.Kernel.main_arg11 (Finset.mem_filter.mpr ⟨StableHlo.devRef_mem_tcRefs _, by decide⟩)).trans (Cert.Kernel.Gen.V7_main_arg11 m _ c)⟩, h.2⟩)
    (Cert.Kernel.Whole.run m g)

/-- `KernelIdeal`'s frame. -/
theorem frame_KernelIdeal : Cert.quiescent_KernelIdeal (hKernelIdeal := Cert.KernelIdeal.Gen.facts) := fun m g _ =>
  (θ_run (Cert.KernelIdeal.defs (F := Ideal)) (onTc (τ := Cert.KernelIdeal.τ) (Cert.KernelIdeal.main (F := Ideal))) ⟨m, fun _ => 0, g⟩).mono
    (fun r h => ⟨fun c => ⟨(Cert.KernelIdeal.Whole.mem_of m (h.1 c) Cert.KernelIdeal.main_arg0 (Finset.mem_filter.mpr ⟨StableHlo.devRef_mem_tcRefs _, by decide⟩)).trans (Cert.KernelIdeal.Gen.V7_main_arg0 m _ c),
      (Cert.KernelIdeal.Whole.mem_of m (h.1 c) Cert.KernelIdeal.main_arg1 (Finset.mem_filter.mpr ⟨StableHlo.devRef_mem_tcRefs _, by decide⟩)).trans (Cert.KernelIdeal.Gen.V7_main_arg1 m _ c),
      (Cert.KernelIdeal.Whole.mem_of m (h.1 c) Cert.KernelIdeal.main_arg2 (Finset.mem_filter.mpr ⟨StableHlo.devRef_mem_tcRefs _, by decide⟩)).trans (Cert.KernelIdeal.Gen.V7_main_arg2 m _ c),
      (Cert.KernelIdeal.Whole.mem_of m (h.1 c) Cert.KernelIdeal.main_arg3 (Finset.mem_filter.mpr ⟨StableHlo.devRef_mem_tcRefs _, by decide⟩)).trans (Cert.KernelIdeal.Gen.V7_main_arg3 m _ c),
      (Cert.KernelIdeal.Whole.mem_of m (h.1 c) Cert.KernelIdeal.main_arg4 (Finset.mem_filter.mpr ⟨StableHlo.devRef_mem_tcRefs _, by decide⟩)).trans (Cert.KernelIdeal.Gen.V7_main_arg4 m _ c),
      (Cert.KernelIdeal.Whole.mem_of m (h.1 c) Cert.KernelIdeal.main_arg5 (Finset.mem_filter.mpr ⟨StableHlo.devRef_mem_tcRefs _, by decide⟩)).trans (Cert.KernelIdeal.Gen.V7_main_arg5 m _ c),
      (Cert.KernelIdeal.Whole.mem_of m (h.1 c) Cert.KernelIdeal.main_arg6 (Finset.mem_filter.mpr ⟨StableHlo.devRef_mem_tcRefs _, by decide⟩)).trans (Cert.KernelIdeal.Gen.V7_main_arg6 m _ c),
      (Cert.KernelIdeal.Whole.mem_of m (h.1 c) Cert.KernelIdeal.main_arg7 (Finset.mem_filter.mpr ⟨StableHlo.devRef_mem_tcRefs _, by decide⟩)).trans (Cert.KernelIdeal.Gen.V7_main_arg7 m _ c),
      (Cert.KernelIdeal.Whole.mem_of m (h.1 c) Cert.KernelIdeal.main_arg8 (Finset.mem_filter.mpr ⟨StableHlo.devRef_mem_tcRefs _, by decide⟩)).trans (Cert.KernelIdeal.Gen.V7_main_arg8 m _ c),
      (Cert.KernelIdeal.Whole.mem_of m (h.1 c) Cert.KernelIdeal.main_arg9 (Finset.mem_filter.mpr ⟨StableHlo.devRef_mem_tcRefs _, by decide⟩)).trans (Cert.KernelIdeal.Gen.V7_main_arg9 m _ c),
      (Cert.KernelIdeal.Whole.mem_of m (h.1 c) Cert.KernelIdeal.main_arg10 (Finset.mem_filter.mpr ⟨StableHlo.devRef_mem_tcRefs _, by decide⟩)).trans (Cert.KernelIdeal.Gen.V7_main_arg10 m _ c),
      (Cert.KernelIdeal.Whole.mem_of m (h.1 c) Cert.KernelIdeal.main_arg11 (Finset.mem_filter.mpr ⟨StableHlo.devRef_mem_tcRefs _, by decide⟩)).trans (Cert.KernelIdeal.Gen.V7_main_arg11 m _ c)⟩, h.2⟩)
    (Cert.KernelIdeal.Whole.run m g)

/-- The reference's frame. -/
theorem frame_ReferenceIdeal : Cert.quiescent_ReferenceIdeal (hReferenceIdeal := Cert.ReferenceIdeal.Gen.facts) := fun m g _ =>
  (θ_run (Cert.ReferenceIdeal.defs (F := Ideal)) (onTc (τ := Cert.ReferenceIdeal.τ) (Cert.ReferenceIdeal.main (F := Ideal))) ⟨m, fun _ => 0, g⟩).mono
    (fun r h => ⟨fun c => ⟨(h.1 c Cert.ReferenceIdeal.main_arg0 (by decide)).trans (Cert.ReferenceIdeal.Whole.final_arg m c Cert.ReferenceIdeal.main_arg0 (by decide) (by decide)),
      (h.1 c Cert.ReferenceIdeal.main_arg1 (by decide)).trans (Cert.ReferenceIdeal.Whole.final_arg m c Cert.ReferenceIdeal.main_arg1 (by decide) (by decide)),
      (h.1 c Cert.ReferenceIdeal.main_arg2 (by decide)).trans (Cert.ReferenceIdeal.Whole.final_arg m c Cert.ReferenceIdeal.main_arg2 (by decide) (by decide)),
      (h.1 c Cert.ReferenceIdeal.main_arg3 (by decide)).trans (Cert.ReferenceIdeal.Whole.final_arg m c Cert.ReferenceIdeal.main_arg3 (by decide) (by decide)),
      (h.1 c Cert.ReferenceIdeal.main_arg4 (by decide)).trans (Cert.ReferenceIdeal.Whole.final_arg m c Cert.ReferenceIdeal.main_arg4 (by decide) (by decide)),
      (h.1 c Cert.ReferenceIdeal.main_arg5 (by decide)).trans (Cert.ReferenceIdeal.Whole.final_arg m c Cert.ReferenceIdeal.main_arg5 (by decide) (by decide)),
      (h.1 c Cert.ReferenceIdeal.main_arg6 (by decide)).trans (Cert.ReferenceIdeal.Whole.final_arg m c Cert.ReferenceIdeal.main_arg6 (by decide) (by decide)),
      (h.1 c Cert.ReferenceIdeal.main_arg7 (by decide)).trans (Cert.ReferenceIdeal.Whole.final_arg m c Cert.ReferenceIdeal.main_arg7 (by decide) (by decide)),
      (h.1 c Cert.ReferenceIdeal.main_arg8 (by decide)).trans (Cert.ReferenceIdeal.Whole.final_arg m c Cert.ReferenceIdeal.main_arg8 (by decide) (by decide)),
      (h.1 c Cert.ReferenceIdeal.main_arg9 (by decide)).trans (Cert.ReferenceIdeal.Whole.final_arg m c Cert.ReferenceIdeal.main_arg9 (by decide) (by decide)),
      (h.1 c Cert.ReferenceIdeal.main_arg10 (by decide)).trans (Cert.ReferenceIdeal.Whole.final_arg m c Cert.ReferenceIdeal.main_arg10 (by decide) (by decide)),
      (h.1 c Cert.ReferenceIdeal.main_arg11 (by decide)).trans (Cert.ReferenceIdeal.Whole.final_arg m c Cert.ReferenceIdeal.main_arg11 (by decide) (by decide))⟩, h.2⟩)
    (Cert.ReferenceIdeal.Whole.run m g)

end Cert.Proof

end
-- ==== Proof.Spec.lean ====
module
public import Idealize.ShloMosaic.Lib.Pointwise
@[expose] public section
/-! The scores of the two programs as plain formulas over the extended reals. -/
set_option maxRecDepth 16384
noncomputable section
namespace Cert.Spec
open Idealize.ShloMosaic

/-- The leaky rectifier, with the slope both programs write as the same word. -/
def leak (z : EReal) : EReal := if 0 ≤ z then z else Ideal.ofBits .f32 1008981770#32 * z
/-- One half, as the kernel writes it. -/
def half : EReal := Ideal.ofBits .f32 1056964608#32
/-- A two-layer perceptron's second layer over a hidden row. -/
def layer2 (h : Fin 512 → EReal) (W2 : FVec Ideal ⟨2, ![512, 768]⟩ .f32) (b2 : FVec Ideal ⟨1, ![768]⟩ .f32) (d : Fin 768) : EReal :=
  ∑ x, h x * W2 (ix2 x d) + b2 (ix1 d)
/-- The entity representation of one token row. -/
def entRep (A : Fin 768 → EReal) (W1 : FVec Ideal ⟨2, ![768, 512]⟩ .f32) (b1 : FVec Ideal ⟨1, ![512]⟩ .f32)
    (W2 : FVec Ideal ⟨2, ![512, 768]⟩ .f32) (b2 : FVec Ideal ⟨1, ![768]⟩ .f32) (d : Fin 768) : EReal :=
  layer2 (fun x => leak (∑ k, A k * W1 (ix2 k x) + b1 (ix1 x))) W2 b2 d
/-- The span representation of a first word `t` and a last word `u`. -/
def spanRep (t u : Fin 768 → EReal) (W1 : FVec Ideal ⟨2, ![1536, 512]⟩ .f32) (b1 : FVec Ideal ⟨1, ![512]⟩ .f32)
    (W2 : FVec Ideal ⟨2, ![512, 768]⟩ .f32) (b2 : FVec Ideal ⟨1, ![768]⟩ .f32) (d : Fin 768) : EReal :=
  layer2 (fun x => leak (∑ k : Fin 768, t k * W1 (ix2 ⟨k.val, by omega⟩ x) + ∑ k : Fin 768, u k * W1 (ix2 ⟨768 + k.val, by omega⟩ x)
    + b1 (ix1 x))) W2 b2 d
/-- The logit of an entity representation against a span representation. -/
def logit (E R : Fin 768 → EReal) : EReal := ∑ d, E d * R d
/-- The score: the logistic function of the logit where the span ends inside the text, zero elsewhere. -/
def score (n : Nat) (x : EReal) : EReal := Ideal.logistic x * (if n < 480 then 1 else 0)
/-- The average of the two rows of word `w` of sample `b`. -/
def avg (A0 : FVec Ideal ⟨3, ![4, 1024, 768]⟩ .f32) (b : Fin 4) (w : Fin 480) (d : Fin 768) : EReal :=
  (A0 (ix3 b ⟨25 + w.val * 2, by omega⟩ d) + A0 (ix3 b ⟨26 + w.val * 2, by omega⟩ d)) * half
/-- The logit of entity row `e` against the span of words `w` to `u` (cut at the last word). -/
def LG (A0 : FVec Ideal ⟨3, ![4, 1024, 768]⟩ .f32) (A4 : FVec Ideal ⟨2, ![768, 512]⟩ .f32) (A5 : FVec Ideal ⟨1, ![512]⟩ .f32)
    (A6 : FVec Ideal ⟨2, ![512, 768]⟩ .f32) (A7 : FVec Ideal ⟨1, ![768]⟩ .f32) (A8 : FVec Ideal ⟨2, ![1536, 512]⟩ .f32) (A9 : FVec Ideal ⟨1, ![512]⟩ .f32)
    (A10 : FVec Ideal ⟨2, ![512, 768]⟩ .f32) (A11 : FVec Ideal ⟨1, ![768]⟩ .f32) (b : Fin 4) (w u : Nat) (e : Fin 32) : EReal :=
  logit (entRep (fun k => A0 (ix3 b ⟨e.val, by omega⟩ k)) A4 A5 A6 A7)
    (spanRep (avg A0 b ⟨min w 479, by omega⟩) (avg A0 b ⟨min u 479, by omega⟩) A8 A9 A10 A11)

/-- Equal inputs give equal logits. -/
theorem logit_congr {E E' t t' u u' : Fin 768 → EReal} {W1 W1' : FVec Ideal ⟨2, ![1536, 512]⟩ .f32} {b1 b1' : FVec Ideal ⟨1, ![512]⟩ .f32}
    {W2 W2' : FVec Ideal ⟨2, ![512, 768]⟩ .f32} {b2 b2' : FVec Ideal ⟨1, ![768]⟩ .f32} (hE : ∀ d, E d = E' d) (ht : ∀ d, t d = t' d) (hu : ∀ d, u d = u' d)
    (h1 : W1 = W1') (h2 : b1 = b1') (h3 : W2 = W2') (h4 : b2 = b2') : logit E (spanRep t u W1 b1 W2 b2) = logit E' (spanRep t' u' W1' b1' W2' b2') := by
  obtain rfl := funext hE; obtain rfl := funext ht; obtain rfl := funext hu; subst h1 h2 h3 h4; rfl
/-- Equal inputs give equal entity representations. -/
theorem entRep_congr {A A' : Fin 768 → EReal} {W1 W1' : FVec Ideal ⟨2, ![768, 512]⟩ .f32} {b1 b1' : FVec Ideal ⟨1, ![512]⟩ .f32}
    {W2 W2' : FVec Ideal ⟨2, ![512, 768]⟩ .f32} {b2 b2' : FVec Ideal ⟨1, ![768]⟩ .f32} (hA : ∀ d, A d = A' d)
    (h1 : W1 = W1') (h2 : b1 = b1') (h3 : W2 = W2') (h4 : b2 = b2') (d : Fin 768) : entRep A W1 b1 W2 b2 d = entRep A' W1' b1' W2' b2' d := by
  obtain rfl := funext hA; subst h1 h2 h3 h4; rfl

end Cert.Spec
-- ==== Proof.KVal0.lean ====
module
public import proofs.«01_k».proof.Proof.RunI
public import proofs.«01_k».proof.Proof.Spec
public import Idealize.ShloMosaic.Lib.Pointwise
public import Idealize.ShloMosaic.Lib.Pipeline.ValueKit
@[expose] public section
set_option maxRecDepth 16384
noncomputable section
namespace Cert.KernelIdeal.R0
open Cert.KernelIdeal Cert.KernelIdeal.Gen Idealize.ShloMosaic Idealize.ShloMosaic.TcCoe
open Idealize.ShloMosaic.Pipeline (Dat)
open Cert.Spec

/-- The index maps of region 0. -/
theorem idx : ∀ t : Fin cfg0.N, win0_0.index t = ![t.val, 0, 0, 0] ∧ win0_1.index t = ![t.val, 0, 0] ∧
    win0_2.index t = ![0, 0] ∧ win0_3.index t = ![0, 0] ∧ win0_4.index t = ![0, 0] ∧ win0_5.index t = ![0, 0] ∧
    win0_6.index t = ![t.val, 0, 0, 0] ∧ win0_7.index t = ![t.val, 0, 0] :=
  (by decide +kernel : ∀ t : Fin grid0.N, _)

variable (W : (c : Dev nD) → (b : Ref sig .tc) → Buf (Elt Ideal) ((c : Thread nD τ).loc b))

/-- The entity representations at an index. -/
def G7 (c : Dev nD) : FVec Ideal S4x32x768 .f32 := fun y =>
  entRep (fun k => (W c main_v2 : FVec Ideal S4x32x768 .f32) (ix3 (y 0) (y 1) k)) (W c main_arg4) (fun i => (W c main_v3 : FVec Ideal S1x512 .f32) (ix2 0 (i 0)))
    (W c main_arg6) (fun i => (W c main_v4 : FVec Ideal S1x768 .f32) (ix2 0 (i 0))) (y 2)
/-- The average of a word's two rows. -/
def word (X : FVec Ideal S4x480x2x768 .f32) (b : Fin 4) (w : Fin 480) (d : Fin 768) : EReal :=
  (X (ix4 b w 0 d) + X (ix4 b w 1 d)) * half
/-- The shifted word averages at an index. -/
def G6 (c : Dev nD) : FVec Ideal S4x12x480x768 .f32 := fun y =>
  word (W c main_v1) (y 0) ⟨min ((y 1).val + (y 2).val) 479, by omega⟩ (y 3)

/-- The entity representations after region 0. -/
theorem final7 (c : Dev nD) : (dats W c).arrAt 7 cfg0.N = G7 W c := by
  refine (dats W c).arrAt_eq_of_covers 7 _ (by decide +kernel) fun t _ y => ?_
  blk_simp
  rw [after0_7]; frame_out
  idx_vars y
  obtain rfl : y0 = 0 := Subsingleton.elim _ _
  refine Eq.trans (b := G7 W c (ix3 ⟨t.val, N_0 ▸ t.isLt⟩ y1 y2)) ?_ ?_
  · refine Eq.trans (b := entRep (fun k => (iblk W c 1 t : FVec Ideal S1x32x768 .f32) (ix3 0 y1 k)) (iblk W c 2 t : FVec Ideal S768x512 .f32)
        (fun i => (iblk W c 3 t : FVec Ideal S1x512 .f32) (ix2 0 (i 0)))
        (iblk W c 4 t : FVec Ideal S512x768 .f32) (fun i => (iblk W c 5 t : FVec Ideal S1x768 .f32) (ix2 0 (i 0))) y2) ?_ ?_
    · pointwise [k0_pay2]
      rfl
    · refine entRep_congr (fun d => ?_) ?_ (funext fun i => ?_) ?_ (funext fun i => ?_) y2
      · blk_ext [iblk, idx t]
      · blk_ext! [iblk, idx t]
      · blk_ext [iblk, idx t]
      · blk_ext! [iblk, idx t]
      · blk_ext [iblk, idx t]
  · blk_ext [idx t]

/-- The average of a word's two rows in a block. -/
def bword (X : FVec Ideal S1x480x2x768 .f32) (w : Fin 480) (d : Fin 768) : EReal :=
  (X (ix4 0 w 0 d) + X (ix4 0 w 1 d)) * half
/-- The stacked shifted averages at an index. -/
def B6 (X : FVec Ideal S1x480x2x768 .f32) : FVec Ideal S1x12x480x768 .f32 := fun y =>
  bword X ⟨min ((y 1).val + (y 2).val) 479, by omega⟩ (y 3)
/-- The stores of the averages, as one array. -/
theorem pieces (X : FVec Ideal S1x480x2x768 .f32) (x1 : FVec Ideal S1x32x768 .f32) (x2 : FVec Ideal S768x512 .f32) (x3 : FVec Ideal S1x512 .f32)
    (x4 : FVec Ideal S512x768 .f32) (x5 : FVec Ideal S1x768 .f32) (y : S1x12x480x768.Idx) : out0_6 (F := Ideal) X x1 x2 x3 x4 x5 y = B6 X y := by
  unfold out0_6
  canon_tiles x h
  all_goals
    idx_vars x
    unfold_payloads
    pointwise [B6, bword, half]
    try split
    all_goals blk_point []

/-- The word averages after region 0. -/
theorem final6 (c : Dev nD) : (dats W c).arrAt 6 cfg0.N = G6 W c := by
  refine (dats W c).arrAt_eq_of_covers 6 _ (by decide +kernel) fun t _ y => ?_
  blk_simp
  rw [after0_6]
  idx_vars y
  obtain rfl : y0 = 0 := Subsingleton.elim _ _
  refine Eq.trans (pieces _ _ _ _ _ _ _) ?_
  refine Eq.trans (b := G6 W c (ix4 ⟨t.val, N_0 ▸ t.isLt⟩ y1 y2 y3)) ?_ ?_
  · unfold G6 B6 bword word
    blk_point [iblk, idx t]
  · blk_ext [idx t]
end Cert.KernelIdeal.R0
-- ==== Proof.KVal1.lean ====
module
public import proofs.«01_k».proof.Proof.RunI
public import proofs.«01_k».proof.Proof.Spec
public import Idealize.ShloMosaic.Lib.Pointwise
public import Idealize.ShloMosaic.Lib.Pipeline.ValueKit
@[expose] public section
set_option maxRecDepth 16384
noncomputable section
namespace Cert.KernelIdeal.R1
open Cert.KernelIdeal Cert.KernelIdeal.Gen Idealize.ShloMosaic Idealize.ShloMosaic.TcCoe
open Idealize.ShloMosaic.Pipeline (Dat)
open Cert.Spec

/-- The index maps of region 1. -/
theorem idx : ∀ t : Fin cfg1.N, win1_0.index t = ![t.val / 12, 0, 0, 0] ∧ win1_1.index t = ![t.val / 12, t.val % 12, 0, 0] ∧
    win1_2.index t = ![t.val / 12, 0, 0] ∧ win1_3.index t = ![0, 0] ∧ win1_4.index t = ![0, 0] ∧ win1_5.index t = ![0, 0] ∧ win1_6.index t = ![0, 0] ∧
    win1_7.index t = ![t.val / 12, t.val % 12, 0, 0] ∧ win1_8.index t = ![t.val / 12, t.val % 12, 0, 0] ∧ win1_9.index t = ![t.val / 12, t.val % 12, 0, 0]
    ∧ (grid1.coords t 1).val = t.val % 12 ∧ t.val / 12 < 4 :=
  (by decide +kernel : ∀ t : Fin grid1.N, _)

/-- The logit of region 1 at sample `b`, end offset `k`, word `w` and entity row `e`, over the arrays the region reads. -/
def L (X : FVec Ideal S4x12x480x768 .f32) (E : FVec Ideal S4x32x768 .f32) (W1 : FVec Ideal S1536x512 .f32) (b1 : FVec Ideal S1x512 .f32)
    (W2 : FVec Ideal S512x768 .f32) (b2 : FVec Ideal S1x768 .f32) (b : Fin 4) (k : Fin 12) (w : Fin 480) (e : Fin 32) : EReal :=
  logit (fun d => E (ix3 b e d)) (spanRep (fun d => X (ix4 b 0 w d)) (fun d => X (ix4 b k w d)) W1 (fun i => b1 (ix2 0 (i 0))) W2 (fun i => b2 (ix2 0 (i 0))))

/-- The score of entity row `x` against one span ending `n` words in, zero in the padding rows. -/
def cell (n : Nat) (v : Fin 32 → EReal) (x : Fin 32) : EReal := if x.val < 25 then score n (v x) else 0
/-- The best score over the rows. -/
def top (p : Fin 32 → EReal) : EReal := Finset.fold max (Ideal.ofBits .f32 4286578688#32) p Finset.univ
/-- The first row with the best score, as the kernel finds it. -/
def arg (p : Fin 32 → EReal) : BitVec 32 :=
  Finset.fold IntOp.minsi 2147483647#32 (fun x : Fin 32 => if p x = top p then BitVec.ofNat 32 x.val else 131#32) Finset.univ

/-- The span-and-entity product at an index. -/
theorem pay6_at (v0 v2 : FVec Ideal S1x1x480x768 .f32) (v5 : FVec Ideal S1536x512 .f32) (v7 : FVec Ideal S1x512 .f32) (v17 : FVec Ideal S512x768 .f32)
    (v19 : FVec Ideal S1x768 .f32) (v24 : FVec Ideal S1x32x768 .f32) (w : Fin 480) (e : Fin 32) :
    k1_pay6 (F := Ideal) v0 v2 v5 v7 v17 v19 v24 (ix2 w e) = logit (fun d => v24 (ix3 0 e d)) (spanRep (fun d => v0 (ix4 0 0 w d)) (fun d => v2 (ix4 0 0 w d)) v5
      (fun i => v7 (ix2 0 (i 0))) v17 (fun i => v19 (ix2 0 (i 0)))) := by
  pointwise [k1_pay6]
  rfl

/-- The mark of a span that ends inside the text. -/
theorem valid_at (w : Fin 480) (g : Fin 12) : FloatOps.sitofp (F := Ideal) .f32
      (BitVec.setWidth 32 (IntOp.cmpi .slt (IntOp.addi (BitVec.ofNat 32 w.val) (BitVec.ofNat 32 g.val)) 480#32)) = if w.val + g.val < 480 then (1 : EReal) else 0 := by
  have h : IntOp.cmpi .slt (IntOp.addi (BitVec.ofNat 32 w.val) (BitVec.ofNat 32 g.val)) 480#32 = if w.val + g.val < 480 then 1#1 else 0#1 := by
    revert w g; decide +kernel
  rw [h]
  split
  · simp [FloatOps.sitofp]
  · simp [FloatOps.sitofp]

/-- The mark of a lane that holds an entity. -/
theorem lt25_at (x : Fin 32) : IntOp.cmpi .slt (BitVec.ofNat 32 x.val) 25#32 = if x.val < 25 then 1#1 else 0#1 := by
  revert x; decide +kernel

/-- The masked score as the kernel computes it. -/
theorem cell_at (v : Fin 32 → EReal) (w : Fin 480) (g : Fin 12) (x : Fin 32) :
    (Scalar.select (IntOp.cmpi .slt (BitVec.ofNat 32 x.val) 25#32) (Ideal.logistic (v x) * (FloatOps.sitofp (F := Ideal) .f32
      (BitVec.setWidth 32 (IntOp.cmpi .slt (IntOp.addi (BitVec.ofNat 32 w.val) (BitVec.ofNat 32 g.val)) 480#32)) : EReal)) 0 : EReal) = cell (w.val + g.val) v x := by
  rw [valid_at, lt25_at]; unfold cell score
  by_cases h : x.val < 25
  · rw [if_pos h, if_pos h]; rfl
  · rw [if_neg h, if_neg h]; rfl

/-- The scores at an index. -/
theorem pay2_at (v28 : FVec Ideal S480x32 .f32) (g : Fin 12) (w : Fin 480) (e : Fin 25) :
    k1_pay2 (F := Ideal) (BitVec.ofNat 32 g.val) v28 (iota .tc S480x32 32 [0] iota_S480x32_d0_w32) k1_pay7 (ix4 0 0 w e)
      = score (w.val + g.val) (v28 (ix2 w ⟨e.val, by omega⟩)) := by
  pointwise [k1_pay2, k1_pay1, k1_pay7]
  refine (cell_at (fun x => v28 (ix2 w x)) w g ⟨e.val, by omega⟩).trans ?_
  unfold cell; exact if_pos e.isLt
/-- The best score at an index. -/
theorem pay4_at (v28 : FVec Ideal S480x32 .f32) (g : Fin 12) (w : Fin 480)  :
    k1_pay4 (F := Ideal) (BitVec.ofNat 32 g.val) v28 (iota .tc S480x32 32 [0] iota_S480x32_d0_w32) k1_pay7 (ix4 0 0 0 w)
      = top (cell (w.val + g.val) (fun x => v28 (ix2 w x))) := by
  pointwise [k1_pay4, k1_pay3, k1_pay1, k1_pay7]
  exact congrArg top (funext fun x => cell_at (fun x => v28 (ix2 w x)) w g x)
/-- The best row at an index. -/
theorem pay5_at (v28 : FVec Ideal S480x32 .f32) (g : Fin 12) (w : Fin 480)  :
    k1_pay5 (F := Ideal) (BitVec.ofNat 32 g.val) v28 (iota .tc S480x32 32 [1] iota_S480x32_d1_w32) (iota .tc S480x32 32 [0] iota_S480x32_d0_w32) k1_pay7 (ix4 0 0 0 w)
      = FloatOps.sitofp (F := Ideal) .f32 (arg (cell (w.val + g.val) (fun x => v28 (ix2 w x)))) := by
  pointwise [k1_pay5, k1_pay3, k1_pay1, k1_pay7]
  exact congrArg (fun p => FloatOps.sitofp (F := Ideal) .f32 (arg p)) (funext fun x => cell_at (fun x => v28 (ix2 w x)) w g x)

variable (W : (c : Dev nD) → (b : Ref sig .tc) → Buf (Elt Ideal) ((c : Thread nD τ).loc b))

/-- The logits of a grid point's block are those of the arrays. -/
theorem pay9_at (c : Dev nD) (t : Fin cfg1.N) (w : Fin 480) (e : Fin 32) (b : Fin 4) (k : Fin 12) (hb : b.val = t.val / 12) (hk : k.val = t.val % 12) :
    k1_pay9 (F := Ideal) (grid1.coords t) (iblk W c 0 t) (iblk W c 1 t) (iblk W c 2 t) (iblk W c 3 t) (iblk W c 4 t) (iblk W c 5 t) (iblk W c 6 t) (ix2 w e)
      = L (W c main_v5_0) (W c main_v5_1) (W c main_arg8) (W c main_v6) (W c main_arg10) (W c main_v7) b k w e := by
  unfold k1_pay9
  frame_out
  refine (pay6_at _ _ _ _ _ _ _ w e).trans ?_
  refine logit_congr (fun d => ?_) (fun d => ?_) (fun d => ?_) ?_ (funext fun i => ?_) ?_ (funext fun i => ?_)
  · blk_ext [iblk, idx t, hb, hk]
  · blk_ext [iblk, idx t, hb, hk]
  · blk_ext [iblk, idx t, hb, hk]
  · blk_ext! [iblk, idx t]
  · blk_ext [iblk, idx t]
  · blk_ext! [iblk, idx t]
  · blk_ext [iblk, idx t]

/-- The logits over the arrays region 1 reads. -/
abbrev LW (c : Dev nD) : Fin 4 → Fin 12 → Fin 480 → Fin 32 → EReal :=
  L (W c main_v5_0) (W c main_v5_1) (W c main_arg8) (W c main_v6) (W c main_arg10) (W c main_v7)
/-- The scores at an index. -/
def G7 (c : Dev nD) : FVec Ideal S4x12x480x25 .f32 := fun y =>
  score ((y 2).val + (y 1).val) (LW W c (y 0) (y 1) (y 2) ⟨(y 3).val, (y 3).isLt.trans (by decide)⟩)
/-- The best scores at an index. -/
def G8 (c : Dev nD) : FVec Ideal S4x12x1x480 .f32 := fun y =>
  top (cell ((y 3).val + (y 1).val) (LW W c (y 0) (y 1) (y 3)))
/-- The best rows at an index. -/
def G9 (c : Dev nD) : FVec Ideal S4x12x1x480 .f32 := fun y =>
  FloatOps.sitofp (F := Ideal) .f32 (arg (cell ((y 3).val + (y 1).val) (LW W c (y 0) (y 1) (y 3))))

/-- The scores after region 1. -/
theorem final7 (c : Dev nD) : (dats W c).arrAt 7 cfg1.N = G7 W c := by
  refine (dats W c).arrAt_eq_of_covers 7 _ (by decide +kernel) fun t _ y => ?_
  blk_simp
  rw [after0_7]; frame_out
  obtain ⟨-, -, -, -, -, -, -, h7, h8, h9, hk, hb⟩ := idx t
  rw [hk]
  idx_vars y
  obtain rfl : y0 = 0 := Subsingleton.elim _ _
  obtain rfl : y1 = 0 := Subsingleton.elim _ _
  refine (pay2_at _ ⟨t.val % 12, Nat.mod_lt _ (by decide)⟩ y2 y3).trans ?_
  rw [pay9_at W c t _ _ ⟨t.val / 12, hb⟩ ⟨t.val % 12, Nat.mod_lt _ (by decide)⟩ rfl rfl]
  refine Eq.trans (b := G7 W c (ix4 ⟨t.val / 12, hb⟩ ⟨t.val % 12, Nat.mod_lt _ (by decide)⟩ y2 y3)) rfl ?_
  blk_ext [h7]
/-- The best scores after region 1. -/
theorem final8 (c : Dev nD) : (dats W c).arrAt 8 cfg1.N = G8 W c := by
  refine (dats W c).arrAt_eq_of_covers 8 _ (by decide +kernel) fun t _ y => ?_
  blk_simp
  rw [after0_8]; frame_out
  obtain ⟨-, -, -, -, -, -, -, h7, h8, h9, hk, hb⟩ := idx t
  rw [hk]
  idx_vars y
  obtain rfl : y0 = 0 := Subsingleton.elim _ _
  obtain rfl : y1 = 0 := Subsingleton.elim _ _
  obtain rfl : y2 = 0 := Subsingleton.elim _ _
  refine (pay4_at _ ⟨t.val % 12, Nat.mod_lt _ (by decide)⟩ y3).trans ?_
  rw [funext fun x => pay9_at W c t y3 x ⟨t.val / 12, hb⟩ ⟨t.val % 12, Nat.mod_lt _ (by decide)⟩ rfl rfl]
  refine Eq.trans (b := G8 W c (ix4 ⟨t.val / 12, hb⟩ ⟨t.val % 12, Nat.mod_lt _ (by decide)⟩ 0 y3)) rfl ?_
  blk_ext [h8]
/-- The best rows after region 1. -/
theorem final9 (c : Dev nD) : (dats W c).arrAt 9 cfg1.N = G9 W c := by
  refine (dats W c).arrAt_eq_of_covers 9 _ (by decide +kernel) fun t _ y => ?_
  blk_simp
  rw [after0_9]; frame_out
  obtain ⟨-, -, -, -, -, -, -, h7, h8, h9, hk, hb⟩ := idx t
  rw [hk]
  idx_vars y
  obtain rfl : y0 = 0 := Subsingleton.elim _ _
  obtain rfl : y1 = 0 := Subsingleton.elim _ _
  obtain rfl : y2 = 0 := Subsingleton.elim _ _
  refine (pay5_at _ ⟨t.val % 12, Nat.mod_lt _ (by decide)⟩ y3).trans ?_
  rw [funext fun x => pay9_at W c t y3 x ⟨t.val / 12, hb⟩ ⟨t.val % 12, Nat.mod_lt _ (by decide)⟩ rfl rfl]
  refine Eq.trans (b := G9 W c (ix4 ⟨t.val / 12, hb⟩ ⟨t.val % 12, Nat.mod_lt _ (by decide)⟩ 0 y3)) rfl ?_
  blk_ext [h9]
end Cert.KernelIdeal.R1
-- ==== Proof.KHost.lean ====
module
public import proofs.«01_k».proof.Proof.KVal0
public import proofs.«01_k».proof.Proof.KVal1
public import Idealize.ShloMosaic.Lib.StableHlo.ReadAt
public import Idealize.ShloMosaic.Lib.Tactic.WordOmega
@[expose] public section
set_option maxRecDepth 16384
noncomputable section
namespace Cert.KernelIdeal.Whole
open Cert.KernelIdeal Cert.KernelIdeal.Gen Idealize.ShloMosaic Idealize.ShloMosaic.TcCoe
open Cert.Spec
variable (m : (ℓ : Loc nD τ sig) → Buf (Elt Ideal) ℓ)

/-- The logits over the kernel's arguments. -/
abbrev KL (c : Dev nD) : Fin 4 → Nat → Nat → Fin 32 → EReal :=
  LG (m ((c : Thread nD τ).loc main_arg0)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11))

/-- The text tokens as the preparation call reads them. -/
theorem v1_at (c : Dev nD) (b : Fin 4) (w : Fin 480) (s : Fin 2) (d : Fin 768) :
    (V1 m c main_v1 : FVec Ideal S4x480x2x768 .f32) (ix4 b w s d) = (m ((c : Thread nD τ).loc main_arg0) : FVec Ideal S4x1024x768 .f32) (ix3 b ⟨25 + w.val * 2 + s.val, by omega⟩ d) := by
  unfold V1
  after_reads_at
  simp only [Nat.add_assoc]
/-- The first 32 tokens as the preparation call reads them. -/
theorem v2_at (c : Dev nD) (b : Fin 4) (e : Fin 32) (d : Fin 768) :
    (V1 m c main_v2 : FVec Ideal S4x32x768 .f32) (ix3 b e d) = (m ((c : Thread nD τ).loc main_arg0) : FVec Ideal S4x1024x768 .f32) (ix3 b ⟨e.val, by omega⟩ d) := by
  unfold V1
  after_reads_at
/-- The first bias of the entity layers, laid out as a row. -/
theorem v3_at (c : Dev nD) (i : Fin 512) :
    (V1 m c main_v3 : FVec Ideal S1x512 .f32) (ix2 0 i) = (m ((c : Thread nD τ).loc main_arg5) : FVec Ideal S512 .f32) (ix1 i) := by
  unfold V1
  after_reads_at
/-- The probabilities, reshaped to one row per span and cut to 25 entities. -/
theorem v10_at (W : Valuation τ sig (Elt Ideal)) (b : Fin 4) (n : Fin 5760) (e : Fin 25) :
    (StableHlo.after hostOps2 W main_v10 : FVec Ideal S4x5760x25 .f32) (ix3 b n e) =
      (W main_v8_0 : FVec Ideal S4x12x480x25 .f32) (ix4 b ⟨n.val % 12, by omega⟩ ⟨n.val / 12, by omega⟩ e) := by
  after_reads_at
/-- The best scores, reshaped to one per span. -/
theorem v13_at (W : Valuation τ sig (Elt Ideal)) (b : Fin 4) (n : Fin 5760) :
    (StableHlo.after hostOps2 W main_v13 : FVec Ideal S4x5760 .f32) (ix2 b n) =
      (W main_v8_1 : FVec Ideal S4x12x1x480 .f32) (ix4 b ⟨n.val % 12, by omega⟩ 0 ⟨n.val / 12, by omega⟩) := by
  after_reads_at
/-- The best rows, reshaped to one per span. -/
theorem v17_at (W : Valuation τ sig (Elt Ideal)) (b : Fin 4) (n : Fin 5760) :
    (StableHlo.after hostOps2 W main_v17 : IVec S4x5760 32) (ix2 b n) =
      FloatOps.fptosi (F := Ideal) (φ := .f32) 32 ((W main_v8_2 : FVec Ideal S4x12x1x480 .f32) (ix4 b ⟨n.val % 12, by omega⟩ 0 ⟨n.val / 12, by omega⟩)) := by
  after_reads_at

/-- The second bias of the entity layers, laid out as a row. -/
theorem v4_at (c : Dev nD) (i : Fin 768) :
    (V1 m c main_v4 : FVec Ideal S1x768 .f32) (ix2 0 i) = (m ((c : Thread nD τ).loc main_arg7) : FVec Ideal S768 .f32) (ix1 i) := by
  unfold V1
  after_reads_at
/-- The first bias of the span layers, laid out as a row. -/
theorem v6_at (W : Valuation τ sig (Elt Ideal)) (i : Fin 512) :
    (StableHlo.after hostOps1 W main_v6 : FVec Ideal S1x512 .f32) (ix2 0 i) = (W main_arg9 : FVec Ideal S512 .f32) (ix1 i) := by
  after_reads_at
/-- The second bias of the span layers, laid out as a row. -/
theorem v7_at (W : Valuation τ sig (Elt Ideal)) (i : Fin 768) :
    (StableHlo.after hostOps1 W main_v7 : FVec Ideal S1x768 .f32) (ix2 0 i) = (W main_arg11 : FVec Ideal S768 .f32) (ix1 i) := by
  after_reads_at

/-- What region 1 reads of region 0's averages. -/
theorem x_at (c : Dev nD) (b : Fin 4) (k : Fin 12) (w : Fin 480) (d : Fin 768) :
    (V3 m (outs m) c main_v5_0 : FVec Ideal S4x12x480x768 .f32) (ix4 b k w d)
      = avg (m ((c : Thread nD τ).loc main_arg0)) b ⟨min (w.val + k.val) 479, by omega⟩ d := by
  rw [V3_of m (outs m) c main_v5_0 (by decide), U2_0]
  refine (congrFun (R0.final6 (asW (V1 m)) c) _).trans ?_
  unfold R0.G6 R0.word avg
  have h0 := v1_at m c b ⟨min (w.val + k.val) 479, by omega⟩ 0 d
  have h1 := v1_at m c b ⟨min (w.val + k.val) 479, by omega⟩ 1 d
  refine congrArg (· * half) (congrArg₂ (· + ·) (Eq.trans ?_ (h0.trans ?_)) (Eq.trans ?_ (h1.trans ?_)))
  all_goals (try blk_ext [asW])
/-- What region 1 reads of region 0's entity representations. -/
theorem e_at (c : Dev nD) (b : Fin 4) (e : Fin 32) (d : Fin 768) :
    (V3 m (outs m) c main_v5_1 : FVec Ideal S4x32x768 .f32) (ix3 b e d)
      = entRep (fun k => (m ((c : Thread nD τ).loc main_arg0) : FVec Ideal S4x1024x768 .f32) (ix3 b ⟨e.val, by omega⟩ k)) (m ((c : Thread nD τ).loc main_arg4))
        (m ((c : Thread nD τ).loc main_arg5)) (m ((c : Thread nD τ).loc main_arg6)) (m ((c : Thread nD τ).loc main_arg7)) d := by
  rw [V3_of m (outs m) c main_v5_1 (by decide), U2_1]
  refine (congrFun (R0.final7 (asW (V1 m)) c) _).trans ?_
  unfold R0.G7
  refine entRep_congr (fun k => v2_at m c b e k) (V1_of m c main_arg4 (by decide)) (funext fun i => ?_) (V1_of m c main_arg6 (by decide)) (funext fun i => ?_) d
  · idx_vars i; exact v3_at m c i0
  · idx_vars i; exact v4_at m c i0
/-- Arguments as region 1 reads them. -/
theorem arg_V3 (c : Dev nD) (r : Ref sig .tc) (h3 : r ∉ hostOps1_W) (h2 : r ∉ ([main_v5_0, main_v5_1] : List (Ref sig .tc))) (h1 : r ∉ hostOps0_W) :
    V3 m (outs m) c r = m ((c : Thread nD τ).loc r) :=
  (V3_of m (outs m) c r h3).trans ((V2_of m (outs m) c r h2).trans ((V1_of m c r h1).trans rfl))
/-- The logits of region 1 over the arguments. -/
theorem LW_eq (c : Dev nD) (b : Fin 4) (k : Fin 12) (w : Fin 480) (e : Fin 32) :
    R1.LW (asW (V3 m (outsA m))) c b k w e = KL m c b w.val (w.val + k.val) e := by
  have hU : asW (V3 m (outsA m)) c = asW (V3 m (outs m)) c := by
    funext r; exact congrFun (U3_eq m c) _
  unfold R1.LW R1.L KL LG
  rw [hU]
  refine logit_congr (fun d => e_at m c b e d) (fun d => ?_) (fun d => ?_) ?_ (funext fun i => ?_) ?_ (funext fun i => ?_)
  · exact (x_at m c b 0 w d)
  · exact (x_at m c b k w d)
  · exact arg_V3 m c main_arg8 (by decide) (by decide) (by decide)
  · idx_vars i; exact (v6_at _ i0).trans (congrFun ((V2_of m (outs m) c main_arg9 (by decide)).trans (V1_of m c main_arg9 (by decide))) _)
  · exact arg_V3 m c main_arg10 (by decide) (by decide) (by decide)
  · idx_vars i; exact (v7_at _ i0).trans (congrFun ((V2_of m (outs m) c main_arg11 (by decide)).trans (V1_of m c main_arg11 (by decide))) _)

/-- The scores the kernel returns. -/
theorem K10 (c : Dev nD) (b : Fin 4) (n : Fin 5760) (e : Fin 25) :
    (V5 m (outs m) c main_v10 : FVec Ideal S4x5760x25 .f32) (ix3 b n e)
      = score (n.val / 12 + n.val % 12) (KL m c b (n.val / 12) (n.val / 12 + n.val % 12) ⟨e.val, by omega⟩) := by
  refine (v10_at (V4 m (outs m) c) b n e).trans ?_
  rw [U4_0]
  refine (congrFun (R1.final7 (asW (V3 m (outsA m))) c) _).trans ?_
  exact congrArg (score _) (LW_eq m c b _ _ _)
/-- The best scores the kernel's decoding reads. -/
theorem K13 (c : Dev nD) (b : Fin 4) (n : Fin 5760) :
    (V5 m (outs m) c main_v13 : FVec Ideal S4x5760 .f32) (ix2 b n)
      = R1.top (R1.cell (n.val / 12 + n.val % 12) (KL m c b (n.val / 12) (n.val / 12 + n.val % 12))) := by
  refine (v13_at (V4 m (outs m) c) b n).trans ?_
  rw [U4_1]
  refine (congrFun (R1.final8 (asW (V3 m (outsA m))) c) _).trans ?_
  exact congrArg (fun f => R1.top (R1.cell _ f)) (funext fun e => LW_eq m c b _ _ e)
/-- The best rows the kernel returns. -/
theorem K17 (c : Dev nD) (b : Fin 4) (n : Fin 5760) :
    (V5 m (outs m) c main_v17 : IVec S4x5760 32) (ix2 b n)
      = FloatOps.fptosi (F := Ideal) (φ := .f32) 32 (FloatOps.sitofp (F := Ideal) .f32
          (R1.arg (R1.cell (n.val / 12 + n.val % 12) (KL m c b (n.val / 12) (n.val / 12 + n.val % 12))))) := by
  refine (v17_at (V4 m (outs m) c) b n).trans ?_
  rw [U4_2]
  refine congrArg _ ((congrFun (R1.final9 (asW (V3 m (outsA m))) c) _).trans ?_)
  exact congrArg (fun f => FloatOps.sitofp (F := Ideal) .f32 (R1.arg (R1.cell _ f))) (funext fun e => LW_eq m c b _ _ e)
end Cert.KernelIdeal.Whole
-- ==== Proof.RChain.lean ====
/- The reference's buffers stretch by stretch, namespace `Cert.ReferenceIdeal.Whole`. -/
module
public import proofs.«01_k».proof.Proof.RefRun
public import proofs.«01_k».proof.Proof.Spec
@[expose] public section
set_option maxRecDepth 16384
noncomputable section
namespace Cert.ReferenceIdeal.Whole
open Cert.ReferenceIdeal Cert.ReferenceIdeal.Gen Cert.ReferenceIdeal.Value
open Idealize.ShloMosaic Idealize.ShloMosaic.TcCoe Idealize.ShloMosaic.StableHlo
variable (m : (ℓ : Loc nD τ sig) → Buf (Elt Ideal) ℓ)

/-- The launch contents. -/
def U0 (c : Dev nD) : Valuation τ sig (Elt Ideal) := launchContents m c
/-- The contents after stretch 0. -/
def U1 (c : Dev nD) : Valuation τ sig (Elt Ideal) := after hostOps0 (U0 m c)
/-- The contents after stretch 1. -/
def U2 (c : Dev nD) : Valuation τ sig (Elt Ideal) := after hostOps0_1 (U1 m c)
/-- The contents after stretch 2. -/
def U3 (c : Dev nD) : Valuation τ sig (Elt Ideal) := after hostOps0_2 (U2 m c)
/-- The contents after stretch 3. -/
def U4 (c : Dev nD) : Valuation τ sig (Elt Ideal) := after hostOps0_3 (U3 m c)
/-- The contents after stretch 4. -/
def U5 (c : Dev nD) : Valuation τ sig (Elt Ideal) := after hostOps0_4 (U4 m c)
/-- The contents after stretch 5. -/
def U6 (c : Dev nD) : Valuation τ sig (Elt Ideal) := after hostOps0_5 (U5 m c)
/-- The contents after stretch 6. -/
def U7 (c : Dev nD) : Valuation τ sig (Elt Ideal) := after hostOps0_6 (U6 m c)
/-- The contents after stretch 7. -/
def U8 (c : Dev nD) : Valuation τ sig (Elt Ideal) := after hostOps0_7 (U7 m c)
/-- The contents after stretch 8. -/
def U9 (c : Dev nD) : Valuation τ sig (Elt Ideal) := after hostOps0_8 (U8 m c)
/-- The contents after stretch 9. -/
def U10 (c : Dev nD) : Valuation τ sig (Elt Ideal) := after hostOps0_9 (U9 m c)
/-- The contents after stretch 10. -/
def U11 (c : Dev nD) : Valuation τ sig (Elt Ideal) := after hostOps0_10 (U10 m c)
/-- The contents after stretch 11. -/
def U12 (c : Dev nD) : Valuation τ sig (Elt Ideal) := after hostOps0_11 (U11 m c)
/-- The contents after stretch 12. -/
def U13 (c : Dev nD) : Valuation τ sig (Elt Ideal) := after hostOps0_12 (U12 m c)
/-- The contents after stretch 13. -/
def U14 (c : Dev nD) : Valuation τ sig (Elt Ideal) := after hostOps0_13 (U13 m c)
/-- The contents after stretch 14. -/
def U15 (c : Dev nD) : Valuation τ sig (Elt Ideal) := after hostOps0_14 (U14 m c)
/-- The contents after stretch 15. -/
def U16 (c : Dev nD) : Valuation τ sig (Elt Ideal) := after hostOps0_15 (U15 m c)
/-- The contents after stretch 16. -/
def U17 (c : Dev nD) : Valuation τ sig (Elt Ideal) := after hostOps0_16 (U16 m c)
/-- The contents after stretch 17. -/
def U18 (c : Dev nD) : Valuation τ sig (Elt Ideal) := after hostOps0_17 (U17 m c)
/-- The contents after stretch 18. -/
def U19 (c : Dev nD) : Valuation τ sig (Elt Ideal) := after hostOps0_18 (U18 m c)
/-- The contents after stretch 19. -/
def U20 (c : Dev nD) : Valuation τ sig (Elt Ideal) := after hostOps0_19 (U19 m c)
/-- The contents after stretch 20. -/
def U21 (c : Dev nD) : Valuation τ sig (Elt Ideal) := after hostOps0_20 (U20 m c)
/-- The contents after stretch 21. -/
def U22 (c : Dev nD) : Valuation τ sig (Elt Ideal) := after hostOps0_21 (U21 m c)
/-- The contents after stretch 22. -/
def U23 (c : Dev nD) : Valuation τ sig (Elt Ideal) := after hostOps0_22 (U22 m c)
/-- The contents after stretch 23. -/
def U24 (c : Dev nD) : Valuation τ sig (Elt Ideal) := after hostOps0_23 (U23 m c)
/-- The contents after stretch 24. -/
def U25 (c : Dev nD) : Valuation τ sig (Elt Ideal) := after hostOps0_24 (U24 m c)
/-- The contents after stretch 25. -/
def U26 (c : Dev nD) : Valuation τ sig (Elt Ideal) := after hostOps0_25 (U25 m c)
/-- The contents after stretch 26. -/
def U27 (c : Dev nD) : Valuation τ sig (Elt Ideal) := after hostOps0_26 (U26 m c)
/-- The contents at the loop. -/
theorem entry_eq (c : Dev nD) : entryContents (preI (F := Ideal)) m c = U27 m c := by
  simp only [entryContents, afterL_cons, afterL_nil]
  rfl
/-- Stretch 0 leaves what it does not write. -/
theorem U1_of (c : Dev nD) (r : Ref sig .tc) (h : r ∉ hostOps0_W) : U1 m c r = U0 m c r :=
  after_of_writes_sub (hostOps0 (F := Ideal)) _ (hostOps0_writes (F := Ideal)) h
/-- Stretch 1 leaves what it does not write. -/
theorem U2_of (c : Dev nD) (r : Ref sig .tc) (h : r ∉ hostOps0_1_W) : U2 m c r = U1 m c r :=
  after_of_writes_sub (hostOps0_1 (F := Ideal)) _ (hostOps0_1_writes (F := Ideal)) h
/-- Stretch 2 leaves what it does not write. -/
theorem U3_of (c : Dev nD) (r : Ref sig .tc) (h : r ∉ hostOps0_2_W) : U3 m c r = U2 m c r :=
  after_of_writes_sub (hostOps0_2 (F := Ideal)) _ (hostOps0_2_writes (F := Ideal)) h
/-- Stretch 3 leaves what it does not write. -/
theorem U4_of (c : Dev nD) (r : Ref sig .tc) (h : r ∉ hostOps0_3_W) : U4 m c r = U3 m c r :=
  after_of_writes_sub (hostOps0_3 (F := Ideal)) _ (hostOps0_3_writes (F := Ideal)) h
/-- Stretch 4 leaves what it does not write. -/
theorem U5_of (c : Dev nD) (r : Ref sig .tc) (h : r ∉ hostOps0_4_W) : U5 m c r = U4 m c r :=
  after_of_writes_sub (hostOps0_4 (F := Ideal)) _ (hostOps0_4_writes (F := Ideal)) h
/-- Stretch 5 leaves what it does not write. -/
theorem U6_of (c : Dev nD) (r : Ref sig .tc) (h : r ∉ hostOps0_5_W) : U6 m c r = U5 m c r :=
  after_of_writes_sub (hostOps0_5 (F := Ideal)) _ (hostOps0_5_writes (F := Ideal)) h
/-- Stretch 6 leaves what it does not write. -/
theorem U7_of (c : Dev nD) (r : Ref sig .tc) (h : r ∉ hostOps0_6_W) : U7 m c r = U6 m c r :=
  after_of_writes_sub (hostOps0_6 (F := Ideal)) _ (hostOps0_6_writes (F := Ideal)) h
/-- Stretch 7 leaves what it does not write. -/
theorem U8_of (c : Dev nD) (r : Ref sig .tc) (h : r ∉ hostOps0_7_W) : U8 m c r = U7 m c r :=
  after_of_writes_sub (hostOps0_7 (F := Ideal)) _ (hostOps0_7_writes (F := Ideal)) h
/-- Stretch 8 leaves what it does not write. -/
theorem U9_of (c : Dev nD) (r : Ref sig .tc) (h : r ∉ hostOps0_8_W) : U9 m c r = U8 m c r :=
  after_of_writes_sub (hostOps0_8 (F := Ideal)) _ (hostOps0_8_writes (F := Ideal)) h
/-- Stretch 9 leaves what it does not write. -/
theorem U10_of (c : Dev nD) (r : Ref sig .tc) (h : r ∉ hostOps0_9_W) : U10 m c r = U9 m c r :=
  after_of_writes_sub (hostOps0_9 (F := Ideal)) _ (hostOps0_9_writes (F := Ideal)) h
/-- Stretch 10 leaves what it does not write. -/
theorem U11_of (c : Dev nD) (r : Ref sig .tc) (h : r ∉ hostOps0_10_W) : U11 m c r = U10 m c r :=
  after_of_writes_sub (hostOps0_10 (F := Ideal)) _ (hostOps0_10_writes (F := Ideal)) h
/-- Stretch 11 leaves what it does not write. -/
theorem U12_of (c : Dev nD) (r : Ref sig .tc) (h : r ∉ hostOps0_11_W) : U12 m c r = U11 m c r :=
  after_of_writes_sub (hostOps0_11 (F := Ideal)) _ (hostOps0_11_writes (F := Ideal)) h
/-- Stretch 12 leaves what it does not write. -/
theorem U13_of (c : Dev nD) (r : Ref sig .tc) (h : r ∉ hostOps0_12_W) : U13 m c r = U12 m c r :=
  after_of_writes_sub (hostOps0_12 (F := Ideal)) _ (hostOps0_12_writes (F := Ideal)) h
/-- Stretch 13 leaves what it does not write. -/
theorem U14_of (c : Dev nD) (r : Ref sig .tc) (h : r ∉ hostOps0_13_W) : U14 m c r = U13 m c r :=
  after_of_writes_sub (hostOps0_13 (F := Ideal)) _ (hostOps0_13_writes (F := Ideal)) h
/-- Stretch 14 leaves what it does not write. -/
theorem U15_of (c : Dev nD) (r : Ref sig .tc) (h : r ∉ hostOps0_14_W) : U15 m c r = U14 m c r :=
  after_of_writes_sub (hostOps0_14 (F := Ideal)) _ (hostOps0_14_writes (F := Ideal)) h
/-- Stretch 15 leaves what it does not write. -/
theorem U16_of (c : Dev nD) (r : Ref sig .tc) (h : r ∉ hostOps0_15_W) : U16 m c r = U15 m c r :=
  after_of_writes_sub (hostOps0_15 (F := Ideal)) _ (hostOps0_15_writes (F := Ideal)) h
/-- Stretch 16 leaves what it does not write. -/
theorem U17_of (c : Dev nD) (r : Ref sig .tc) (h : r ∉ hostOps0_16_W) : U17 m c r = U16 m c r :=
  after_of_writes_sub (hostOps0_16 (F := Ideal)) _ (hostOps0_16_writes (F := Ideal)) h
/-- Stretch 17 leaves what it does not write. -/
theorem U18_of (c : Dev nD) (r : Ref sig .tc) (h : r ∉ hostOps0_17_W) : U18 m c r = U17 m c r :=
  after_of_writes_sub (hostOps0_17 (F := Ideal)) _ (hostOps0_17_writes (F := Ideal)) h
/-- Stretch 18 leaves what it does not write. -/
theorem U19_of (c : Dev nD) (r : Ref sig .tc) (h : r ∉ hostOps0_18_W) : U19 m c r = U18 m c r :=
  after_of_writes_sub (hostOps0_18 (F := Ideal)) _ (hostOps0_18_writes (F := Ideal)) h
/-- Stretch 19 leaves what it does not write. -/
theorem U20_of (c : Dev nD) (r : Ref sig .tc) (h : r ∉ hostOps0_19_W) : U20 m c r = U19 m c r :=
  after_of_writes_sub (hostOps0_19 (F := Ideal)) _ (hostOps0_19_writes (F := Ideal)) h
/-- Stretch 20 leaves what it does not write. -/
theorem U21_of (c : Dev nD) (r : Ref sig .tc) (h : r ∉ hostOps0_20_W) : U21 m c r = U20 m c r :=
  after_of_writes_sub (hostOps0_20 (F := Ideal)) _ (hostOps0_20_writes (F := Ideal)) h
/-- Stretch 21 leaves what it does not write. -/
theorem U22_of (c : Dev nD) (r : Ref sig .tc) (h : r ∉ hostOps0_21_W) : U22 m c r = U21 m c r :=
  after_of_writes_sub (hostOps0_21 (F := Ideal)) _ (hostOps0_21_writes (F := Ideal)) h
/-- Stretch 22 leaves what it does not write. -/
theorem U23_of (c : Dev nD) (r : Ref sig .tc) (h : r ∉ hostOps0_22_W) : U23 m c r = U22 m c r :=
  after_of_writes_sub (hostOps0_22 (F := Ideal)) _ (hostOps0_22_writes (F := Ideal)) h
/-- Stretch 23 leaves what it does not write. -/
theorem U24_of (c : Dev nD) (r : Ref sig .tc) (h : r ∉ hostOps0_23_W) : U24 m c r = U23 m c r :=
  after_of_writes_sub (hostOps0_23 (F := Ideal)) _ (hostOps0_23_writes (F := Ideal)) h
/-- Stretch 24 leaves what it does not write. -/
theorem U25_of (c : Dev nD) (r : Ref sig .tc) (h : r ∉ hostOps0_24_W) : U25 m c r = U24 m c r :=
  after_of_writes_sub (hostOps0_24 (F := Ideal)) _ (hostOps0_24_writes (F := Ideal)) h
/-- Stretch 25 leaves what it does not write. -/
theorem U26_of (c : Dev nD) (r : Ref sig .tc) (h : r ∉ hostOps0_25_W) : U26 m c r = U25 m c r :=
  after_of_writes_sub (hostOps0_25 (F := Ideal)) _ (hostOps0_25_writes (F := Ideal)) h
/-- Stretch 26 leaves what it does not write. -/
theorem U27_of (c : Dev nD) (r : Ref sig .tc) (h : r ∉ hostOps0_26_W) : U27 m c r = U26 m c r :=
  after_of_writes_sub (hostOps0_26 (F := Ideal)) _ (hostOps0_26_writes (F := Ideal)) h
/-- The arguments. -/
abbrev argL : List (Ref sig .tc) := [main_arg0, main_arg1, main_arg2, main_arg3, main_arg4, main_arg5, main_arg6, main_arg7, main_arg8, main_arg9, main_arg10, main_arg11]
/-- Arguments at the launch. -/
theorem U0_arg (c : Dev nD) (r : Ref sig .tc) : U0 m c r = m ((c.tc : Thread nD τ).loc r) := rfl
/-- Arguments after stretch 0. -/
theorem U1_arg (c : Dev nD) (r : Ref sig .tc) (h : r ∈ argL) : U1 m c r = m ((c.tc : Thread nD τ).loc r) :=
  (U1_of m c r ((by decide : ∀ r ∈ argL, r ∉ hostOps0_W) r h)).trans (U0_arg m c r)
/-- Arguments after stretch 1. -/
theorem U2_arg (c : Dev nD) (r : Ref sig .tc) (h : r ∈ argL) : U2 m c r = m ((c.tc : Thread nD τ).loc r) :=
  (U2_of m c r ((by decide : ∀ r ∈ argL, r ∉ hostOps0_1_W) r h)).trans (U1_arg m c r h)
/-- Arguments after stretch 2. -/
theorem U3_arg (c : Dev nD) (r : Ref sig .tc) (h : r ∈ argL) : U3 m c r = m ((c.tc : Thread nD τ).loc r) :=
  (U3_of m c r ((by decide : ∀ r ∈ argL, r ∉ hostOps0_2_W) r h)).trans (U2_arg m c r h)
/-- Arguments after stretch 3. -/
theorem U4_arg (c : Dev nD) (r : Ref sig .tc) (h : r ∈ argL) : U4 m c r = m ((c.tc : Thread nD τ).loc r) :=
  (U4_of m c r ((by decide : ∀ r ∈ argL, r ∉ hostOps0_3_W) r h)).trans (U3_arg m c r h)
/-- Arguments after stretch 4. -/
theorem U5_arg (c : Dev nD) (r : Ref sig .tc) (h : r ∈ argL) : U5 m c r = m ((c.tc : Thread nD τ).loc r) :=
  (U5_of m c r ((by decide : ∀ r ∈ argL, r ∉ hostOps0_4_W) r h)).trans (U4_arg m c r h)
/-- Arguments after stretch 5. -/
theorem U6_arg (c : Dev nD) (r : Ref sig .tc) (h : r ∈ argL) : U6 m c r = m ((c.tc : Thread nD τ).loc r) :=
  (U6_of m c r ((by decide : ∀ r ∈ argL, r ∉ hostOps0_5_W) r h)).trans (U5_arg m c r h)
/-- Arguments after stretch 6. -/
theorem U7_arg (c : Dev nD) (r : Ref sig .tc) (h : r ∈ argL) : U7 m c r = m ((c.tc : Thread nD τ).loc r) :=
  (U7_of m c r ((by decide : ∀ r ∈ argL, r ∉ hostOps0_6_W) r h)).trans (U6_arg m c r h)
/-- Arguments after stretch 7. -/
theorem U8_arg (c : Dev nD) (r : Ref sig .tc) (h : r ∈ argL) : U8 m c r = m ((c.tc : Thread nD τ).loc r) :=
  (U8_of m c r ((by decide : ∀ r ∈ argL, r ∉ hostOps0_7_W) r h)).trans (U7_arg m c r h)
/-- Arguments after stretch 8. -/
theorem U9_arg (c : Dev nD) (r : Ref sig .tc) (h : r ∈ argL) : U9 m c r = m ((c.tc : Thread nD τ).loc r) :=
  (U9_of m c r ((by decide : ∀ r ∈ argL, r ∉ hostOps0_8_W) r h)).trans (U8_arg m c r h)
/-- Arguments after stretch 9. -/
theorem U10_arg (c : Dev nD) (r : Ref sig .tc) (h : r ∈ argL) : U10 m c r = m ((c.tc : Thread nD τ).loc r) :=
  (U10_of m c r ((by decide : ∀ r ∈ argL, r ∉ hostOps0_9_W) r h)).trans (U9_arg m c r h)
/-- Arguments after stretch 10. -/
theorem U11_arg (c : Dev nD) (r : Ref sig .tc) (h : r ∈ argL) : U11 m c r = m ((c.tc : Thread nD τ).loc r) :=
  (U11_of m c r ((by decide : ∀ r ∈ argL, r ∉ hostOps0_10_W) r h)).trans (U10_arg m c r h)
/-- Arguments after stretch 11. -/
theorem U12_arg (c : Dev nD) (r : Ref sig .tc) (h : r ∈ argL) : U12 m c r = m ((c.tc : Thread nD τ).loc r) :=
  (U12_of m c r ((by decide : ∀ r ∈ argL, r ∉ hostOps0_11_W) r h)).trans (U11_arg m c r h)
/-- Arguments after stretch 12. -/
theorem U13_arg (c : Dev nD) (r : Ref sig .tc) (h : r ∈ argL) : U13 m c r = m ((c.tc : Thread nD τ).loc r) :=
  (U13_of m c r ((by decide : ∀ r ∈ argL, r ∉ hostOps0_12_W) r h)).trans (U12_arg m c r h)
/-- Arguments after stretch 13. -/
theorem U14_arg (c : Dev nD) (r : Ref sig .tc) (h : r ∈ argL) : U14 m c r = m ((c.tc : Thread nD τ).loc r) :=
  (U14_of m c r ((by decide : ∀ r ∈ argL, r ∉ hostOps0_13_W) r h)).trans (U13_arg m c r h)
/-- Arguments after stretch 14. -/
theorem U15_arg (c : Dev nD) (r : Ref sig .tc) (h : r ∈ argL) : U15 m c r = m ((c.tc : Thread nD τ).loc r) :=
  (U15_of m c r ((by decide : ∀ r ∈ argL, r ∉ hostOps0_14_W) r h)).trans (U14_arg m c r h)
/-- Arguments after stretch 15. -/
theorem U16_arg (c : Dev nD) (r : Ref sig .tc) (h : r ∈ argL) : U16 m c r = m ((c.tc : Thread nD τ).loc r) :=
  (U16_of m c r ((by decide : ∀ r ∈ argL, r ∉ hostOps0_15_W) r h)).trans (U15_arg m c r h)
/-- Arguments after stretch 16. -/
theorem U17_arg (c : Dev nD) (r : Ref sig .tc) (h : r ∈ argL) : U17 m c r = m ((c.tc : Thread nD τ).loc r) :=
  (U17_of m c r ((by decide : ∀ r ∈ argL, r ∉ hostOps0_16_W) r h)).trans (U16_arg m c r h)
/-- Arguments after stretch 17. -/
theorem U18_arg (c : Dev nD) (r : Ref sig .tc) (h : r ∈ argL) : U18 m c r = m ((c.tc : Thread nD τ).loc r) :=
  (U18_of m c r ((by decide : ∀ r ∈ argL, r ∉ hostOps0_17_W) r h)).trans (U17_arg m c r h)
/-- Arguments after stretch 18. -/
theorem U19_arg (c : Dev nD) (r : Ref sig .tc) (h : r ∈ argL) : U19 m c r = m ((c.tc : Thread nD τ).loc r) :=
  (U19_of m c r ((by decide : ∀ r ∈ argL, r ∉ hostOps0_18_W) r h)).trans (U18_arg m c r h)
/-- Arguments after stretch 19. -/
theorem U20_arg (c : Dev nD) (r : Ref sig .tc) (h : r ∈ argL) : U20 m c r = m ((c.tc : Thread nD τ).loc r) :=
  (U20_of m c r ((by decide : ∀ r ∈ argL, r ∉ hostOps0_19_W) r h)).trans (U19_arg m c r h)
/-- Arguments after stretch 20. -/
theorem U21_arg (c : Dev nD) (r : Ref sig .tc) (h : r ∈ argL) : U21 m c r = m ((c.tc : Thread nD τ).loc r) :=
  (U21_of m c r ((by decide : ∀ r ∈ argL, r ∉ hostOps0_20_W) r h)).trans (U20_arg m c r h)
/-- Arguments after stretch 21. -/
theorem U22_arg (c : Dev nD) (r : Ref sig .tc) (h : r ∈ argL) : U22 m c r = m ((c.tc : Thread nD τ).loc r) :=
  (U22_of m c r ((by decide : ∀ r ∈ argL, r ∉ hostOps0_21_W) r h)).trans (U21_arg m c r h)
/-- Arguments after stretch 22. -/
theorem U23_arg (c : Dev nD) (r : Ref sig .tc) (h : r ∈ argL) : U23 m c r = m ((c.tc : Thread nD τ).loc r) :=
  (U23_of m c r ((by decide : ∀ r ∈ argL, r ∉ hostOps0_22_W) r h)).trans (U22_arg m c r h)
/-- Arguments after stretch 23. -/
theorem U24_arg (c : Dev nD) (r : Ref sig .tc) (h : r ∈ argL) : U24 m c r = m ((c.tc : Thread nD τ).loc r) :=
  (U24_of m c r ((by decide : ∀ r ∈ argL, r ∉ hostOps0_23_W) r h)).trans (U23_arg m c r h)
/-- Arguments after stretch 24. -/
theorem U25_arg (c : Dev nD) (r : Ref sig .tc) (h : r ∈ argL) : U25 m c r = m ((c.tc : Thread nD τ).loc r) :=
  (U25_of m c r ((by decide : ∀ r ∈ argL, r ∉ hostOps0_24_W) r h)).trans (U24_arg m c r h)
/-- Arguments after stretch 25. -/
theorem U26_arg (c : Dev nD) (r : Ref sig .tc) (h : r ∈ argL) : U26 m c r = m ((c.tc : Thread nD τ).loc r) :=
  (U26_of m c r ((by decide : ∀ r ∈ argL, r ∉ hostOps0_25_W) r h)).trans (U25_arg m c r h)
/-- Arguments after stretch 26. -/
theorem U27_arg (c : Dev nD) (r : Ref sig .tc) (h : r ∈ argL) : U27 m c r = m ((c.tc : Thread nD τ).loc r) :=
  (U27_of m c r ((by decide : ∀ r ∈ argL, r ∉ hostOps0_26_W) r h)).trans (U26_arg m c r h)
/-- A buffer kept by the stretches in between. -/
theorem keep_v4_2 (c : Dev nD) : U2 m c main_v4 = U1 m c main_v4 :=
  U2_of m c main_v4 (by decide)
/-- A buffer kept by the stretches in between. -/
theorem keep_v101_6 (c : Dev nD) : U6 m c main_v101 = U3 m c main_v101 :=
  ((U6_of m c main_v101 (by decide)).trans (U5_of m c main_v101 (by decide))).trans (U4_of m c main_v101 (by decide))
/-- A buffer kept by the stretches in between. -/
theorem keep_v116_10 (c : Dev nD) : U10 m c main_v116 = U7 m c main_v116 :=
  ((U10_of m c main_v116 (by decide)).trans (U9_of m c main_v116 (by decide))).trans (U8_of m c main_v116 (by decide))
/-- A buffer kept by the stretches in between. -/
theorem keep_v131_14 (c : Dev nD) : U14 m c main_v131 = U11 m c main_v131 :=
  ((U14_of m c main_v131 (by decide)).trans (U13_of m c main_v131 (by decide))).trans (U12_of m c main_v131 (by decide))
/-- A buffer kept by the stretches in between. -/
theorem keep_v146_18 (c : Dev nD) : U18 m c main_v146 = U15 m c main_v146 :=
  ((U18_of m c main_v146 (by decide)).trans (U17_of m c main_v146 (by decide))).trans (U16_of m c main_v146 (by decide))
/-- A buffer kept by the stretches in between. -/
theorem keep_v114_18 (c : Dev nD) : U18 m c main_v114 = U7 m c main_v114 :=
  ((((((((((U18_of m c main_v114 (by decide)).trans (U17_of m c main_v114 (by decide))).trans (U16_of m c main_v114 (by decide))).trans (U15_of m c main_v114 (by decide))).trans (U14_of m c main_v114 (by decide))).trans (U13_of m c main_v114 (by decide))).trans (U12_of m c main_v114 (by decide))).trans (U11_of m c main_v114 (by decide))).trans (U10_of m c main_v114 (by decide))).trans (U9_of m c main_v114 (by decide))).trans (U8_of m c main_v114 (by decide))
/-- A buffer kept by the stretches in between. -/
theorem keep_v129_18 (c : Dev nD) : U18 m c main_v129 = U11 m c main_v129 :=
  ((((((U18_of m c main_v129 (by decide)).trans (U17_of m c main_v129 (by decide))).trans (U16_of m c main_v129 (by decide))).trans (U15_of m c main_v129 (by decide))).trans (U14_of m c main_v129 (by decide))).trans (U13_of m c main_v129 (by decide))).trans (U12_of m c main_v129 (by decide))
/-- A buffer kept by the stretches in between. -/
theorem keep_v144_18 (c : Dev nD) : U18 m c main_v144 = U15 m c main_v144 :=
  ((U18_of m c main_v144 (by decide)).trans (U17_of m c main_v144 (by decide))).trans (U16_of m c main_v144 (by decide))
/-- A buffer kept by the stretches in between. -/
theorem keep_v99_20 (c : Dev nD) : U20 m c main_v99 = U3 m c main_v99 :=
  ((((((((((((((((U20_of m c main_v99 (by decide)).trans (U19_of m c main_v99 (by decide))).trans (U18_of m c main_v99 (by decide))).trans (U17_of m c main_v99 (by decide))).trans (U16_of m c main_v99 (by decide))).trans (U15_of m c main_v99 (by decide))).trans (U14_of m c main_v99 (by decide))).trans (U13_of m c main_v99 (by decide))).trans (U12_of m c main_v99 (by decide))).trans (U11_of m c main_v99 (by decide))).trans (U10_of m c main_v99 (by decide))).trans (U9_of m c main_v99 (by decide))).trans (U8_of m c main_v99 (by decide))).trans (U7_of m c main_v99 (by decide))).trans (U6_of m c main_v99 (by decide))).trans (U5_of m c main_v99 (by decide))).trans (U4_of m c main_v99 (by decide))
/-- A buffer kept by the stretches in between. -/
theorem keep_v187_22 (c : Dev nD) : U22 m c main_v187 = U21 m c main_v187 :=
  U22_of m c main_v187 (by decide)
/-- A buffer kept by the stretches in between. -/
theorem keep_v177_22 (c : Dev nD) : U22 m c main_v177 = U21 m c main_v177 :=
  U22_of m c main_v177 (by decide)
/-- A buffer kept by the stretches in between. -/
theorem keep_v228_27 (c : Dev nD) : U27 m c main_v228 = U23 m c main_v228 :=
  (((U27_of m c main_v228 (by decide)).trans (U26_of m c main_v228 (by decide))).trans (U25_of m c main_v228 (by decide))).trans (U24_of m c main_v228 (by decide))
/-- A buffer kept by the stretches in between. -/
theorem keep_v230_27 (c : Dev nD) : U27 m c main_v230 = U24 m c main_v230 :=
  ((U27_of m c main_v230 (by decide)).trans (U26_of m c main_v230 (by decide))).trans (U25_of m c main_v230 (by decide))
/-- A buffer kept by the stretches in between. -/
theorem keep_v229_27 (c : Dev nD) : U27 m c main_v229 = U23 m c main_v229 :=
  (((U27_of m c main_v229 (by decide)).trans (U26_of m c main_v229 (by decide))).trans (U25_of m c main_v229 (by decide))).trans (U24_of m c main_v229 (by decide))
/-- A buffer kept by the stretches in between. -/
theorem keep_v229_25 (c : Dev nD) : U25 m c main_v229 = U23 m c main_v229 :=
  (U25_of m c main_v229 (by decide)).trans (U24_of m c main_v229 (by decide))
end Cert.ReferenceIdeal.Whole
end
-- ==== Proof.RScat.lean ====
module
public import proofs.«01_k».proof.Proof.RefRun
public import proofs.«01_k».proof.Proof.Spec
public import Idealize.ShloMosaic.Lib.StableHlo.ReadAt
public import Idealize.ShloMosaic.Lib.Routing.OpsPair
public import Idealize.ShloMosaic.Lib.Routing.Ops
@[expose] public section
set_option maxRecDepth 16384
noncomputable section
namespace Cert.ReferenceIdeal.Whole
open Cert.ReferenceIdeal Cert.ReferenceIdeal.Gen Idealize.ShloMosaic Idealize.ShloMosaic.TcCoe
open Idealize.ShloMosaic.StableHlo
open Cert.Spec

/-- Where an update row of the row scatter lands. -/
theorem lands_row (idx : IVec S1024x1 32) (l : Fin 1024) (y d : Fin 768) (w : Fin 481) :
    (scatter_S481x768_S1024x1_S1024x768_1_0_0_1).resultIdx? (ix2 l y) idx = some (ix2 w d) ↔ (idx (ix2 l 0)).toInt = (w.val : Int) ∧ y = d := by
  have hs0 : (scatter_S481x768_S1024x1_S1024x768_1_0_0_1).start (ix2 l y) idx 0 = (idx (ix2 l 0)).toInt := by
    unfold ScatterDims.start
    rw [dif_pos (by decide)]
    refine congrArg (fun i => (idx i).toInt) ?_
    funext a
    match a with
    | ⟨0, _⟩ => rfl
    | ⟨1, _⟩ => rfl
  have hs1 : (scatter_S481x768_S1024x1_S1024x768_1_0_0_1).start (ix2 l y) idx 1 = 0 := by
    unfold ScatterDims.start
    rw [dif_neg (by decide)]
  have hw0 : (scatter_S481x768_S1024x1_S1024x768_1_0_0_1).window (ix2 l y) 0 = 0 := by
    rfl
  have hw1 : (scatter_S481x768_S1024x1_S1024x768_1_0_0_1).window (ix2 l y) 1 = y.val := by
    rfl
  rw [Routing.resultIdx?_eq_some]
  constructor
  · intro h
    have h0 : (idx (ix2 l 0)).toInt + ((0 : Nat) : Int) = (w.val : Int) :=
      (congrArg₂ (fun p q => p + ((q : Nat) : Int)) hs0 hw0).symm.trans (h 0)
    have h1 : (0 : Int) + (y.val : Int) = (d.val : Int) :=
      (congrArg₂ (fun p q => p + ((q : Nat) : Int)) hs1 hw1).symm.trans (h 1)
    exact ⟨by omega, Fin.ext (by omega)⟩
  · rintro ⟨h, rfl⟩ a
    match a with
    | ⟨0, _⟩ =>
      refine (congrArg₂ (fun p q => p + ((q : Nat) : Int)) hs0 hw0).trans ?_
      show _ = (w.val : Int)
      omega
    | ⟨1, _⟩ =>
      refine (congrArg₂ (fun p q => p + ((q : Nat) : Int)) hs1 hw1).trans ?_
      show _ = (y.val : Int)
      omega
/-- Where an update of the count scatter lands. -/
theorem lands_one (idx : IVec S1024x1 32) (l : Fin 1024) (w : Fin 481) :
    (scatter_S481_S1024x1_S1024_n_0_0_1).resultIdx? (ix1 l) idx = some (ix1 w) ↔ (idx (ix2 l 0)).toInt = (w.val : Int) := by
  have hs0 : (scatter_S481_S1024x1_S1024_n_0_0_1).start (ix1 l) idx 0 = (idx (ix2 l 0)).toInt := by
    unfold ScatterDims.start
    rw [dif_pos (by decide)]
    refine congrArg (fun i => (idx i).toInt) ?_
    funext a
    match a with
    | ⟨0, _⟩ => rfl
    | ⟨1, _⟩ => rfl
  have hw0 : (scatter_S481_S1024x1_S1024_n_0_0_1).window (ix1 l) 0 = 0 := by
    rfl
  rw [Routing.resultIdx?_eq_some]
  constructor
  · intro h
    have h0 : (idx (ix2 l 0)).toInt + ((0 : Nat) : Int) = (w.val : Int) :=
      (congrArg₂ (fun p q => p + ((q : Nat) : Int)) hs0 hw0).symm.trans (h 0)
    omega
  · intro h a
    match a with
    | ⟨0, _⟩ =>
      refine (congrArg₂ (fun p q => p + ((q : Nat) : Int)) hs0 hw0).trans ?_
      show _ = (w.val : Int)
      omega

/-- The word index of every token, padding tokens in bucket 480. -/
def Drawn (idx : IVec S1024x1 32) : Prop :=
  ∀ l : Fin 1024, idx (ix2 l 0) = if 25 ≤ l.val ∧ l.val < 985 then BitVec.ofNat 32 ((l.val - 25) / 2) else 480#32

/-- The tokens of word `w`. -/
theorem word_tokens {idx : IVec S1024x1 32} (hidx : Drawn idx) (w : Fin 480) (l : Fin 1024) :
    (idx (ix2 l 0)).toInt = (w.val : Int) ↔ l = ⟨25 + w.val * 2, by omega⟩ ∨ l = ⟨26 + w.val * 2, by omega⟩ := by
  have e : (idx (ix2 l 0)).toInt = if 25 ≤ l.val ∧ l.val < 985 then (((l.val - 25) / 2 : Nat) : Int) else 480 := by
    rw [hidx l]
    split
    · have h : (BitVec.ofNat 32 ((l.val - 25) / 2)).toNat = (l.val - 25) / 2 := by
        rw [BitVec.toNat_ofNat]; exact Nat.mod_eq_of_lt (by omega)
      rw [BitVec.toInt_eq_toNat_of_lt (by rw [h]; omega), h]
    · decide
  rw [e]
  have hw := w.isLt
  constructor
  · intro h
    split at h
    · have : l.val = 25 + w.val * 2 ∨ l.val = 26 + w.val * 2 := by omega
      rcases this with h | h
      · exact Or.inl (Fin.ext h)
      · exact Or.inr (Fin.ext h)
    · omega
  · intro h
    have : l.val = 25 + w.val * 2 ∨ l.val = 26 + w.val * 2 := by
      rcases h with h | h
      · exact Or.inl (congrArg Fin.val h)
      · exact Or.inr (congrArg Fin.val h)
    rw [if_pos (by omega)]
    omega

/-- The rows a row scatter adds up at word `w`: tokens `25 + 2 w` and `26 + 2 w`. -/
theorem sum_rows (idx : IVec S1024x1 32) (hidx : Drawn idx)
    (x : FVec Ideal S481x768 .f32) (upd : FVec Ideal S1024x768 .f32) (w : Fin 480) (d : Fin 768) :
    Host.scatterAdd (F := Ideal) scatter_S481x768_S1024x1_S1024x768_1_0_0_1 x idx upd (ix2 ⟨w.val, by omega⟩ d)
      = ((x (ix2 ⟨w.val, by omega⟩ d) : EReal) + ((upd (ix2 ⟨25 + w.val * 2, by omega⟩ d) : EReal) + (upd (ix2 ⟨26 + w.val * 2, by omega⟩ d) : EReal)) : EReal) := by
  unfold Host.scatterAdd
  rw [Ideal.hostScatterAdd_def]
  unfold Ideal.hostScatterAdd
  refine congrArg (fun z : EReal => (x (ix2 ⟨w.val, by omega⟩ d) : EReal) + z) ?_
  rw [← Finset.sum_pair (f := fun j => (upd j : EReal)) (a := (ix2 ⟨25 + w.val * 2, by omega⟩ d : S1024x768.Idx)) (b := ix2 ⟨26 + w.val * 2, by omega⟩ d)]
  · refine Finset.sum_congr (Finset.ext fun j => ?_) fun _ _ => rfl
    idx_vars j
    rw [Finset.mem_filter]
    refine Iff.trans (and_iff_right (Finset.mem_univ _)) ((lands_row idx j0 j1 d ⟨w.val, by omega⟩).trans ?_)
    rw [word_tokens hidx w j0, Finset.mem_insert, Finset.mem_singleton]
    constructor
    · rintro ⟨h | h, rfl⟩
      · exact Or.inl (by rw [h])
      · exact Or.inr (by rw [h])
    · rintro (h | h)
      · exact ⟨Or.inl (congrFun h 0), congrFun h 1⟩
      · exact ⟨Or.inr (congrFun h 0), congrFun h 1⟩
  · intro h
    have := congrArg Fin.val (congrFun h 0)
    change 25 + w.val * 2 = 26 + w.val * 2 at this
    omega
/-- The numbers a count scatter adds up at word `w`. -/
theorem sum_ones (idx : IVec S1024x1 32) (hidx : Drawn idx)
    (x : FVec Ideal S481 .f32) (upd : FVec Ideal S1024 .f32) (w : Fin 480) :
    Host.scatterAdd (F := Ideal) scatter_S481_S1024x1_S1024_n_0_0_1 x idx upd (ix1 ⟨w.val, by omega⟩)
      = ((x (ix1 ⟨w.val, by omega⟩) : EReal) + ((upd (ix1 ⟨25 + w.val * 2, by omega⟩) : EReal) + (upd (ix1 ⟨26 + w.val * 2, by omega⟩) : EReal)) : EReal) := by
  unfold Host.scatterAdd
  rw [Ideal.hostScatterAdd_def]
  unfold Ideal.hostScatterAdd
  refine congrArg (fun z : EReal => (x (ix1 ⟨w.val, by omega⟩) : EReal) + z) ?_
  rw [← Finset.sum_pair (f := fun j => (upd j : EReal)) (a := (ix1 ⟨25 + w.val * 2, by omega⟩ : S1024.Idx)) (b := ix1 ⟨26 + w.val * 2, by omega⟩)]
  · refine Finset.sum_congr (Finset.ext fun j => ?_) fun _ _ => rfl
    idx_vars j
    rw [Finset.mem_filter]
    refine Iff.trans (and_iff_right (Finset.mem_univ _)) ((lands_one idx j0 ⟨w.val, by omega⟩).trans ?_)
    rw [word_tokens hidx w j0, Finset.mem_insert, Finset.mem_singleton]
    constructor
    · rintro (h | h)
      · exact Or.inl (by rw [h])
      · exact Or.inr (by rw [h])
    · rintro (h | h)
      · exact (Or.inl (congrFun h 0))
      · exact (Or.inr (congrFun h 0))
  · intro h
    have := congrArg Fin.val (congrFun h 0)
    change 25 + w.val * 2 = 26 + w.val * 2 at this
    omega

/-- Twice one is the count of a word's tokens, and dividing by it halves. -/
theorem div_two (a b : EReal) : Ideal.div (0 + (a * 1 + b * 1)) (max (0 + (1 + 1)) 1) = (a + b) * half := by
  have h2 : (max (0 + (1 + 1)) 1 : EReal) = ((2 : ℝ) : EReal) := by
    have : ((0 : EReal) + (1 + 1)) = ((2 : ℝ) : EReal) := by
      rw [zero_add]; norm_cast
    rw [this]
    refine max_eq_left ?_
    norm_cast
  rw [h2, Ideal.div_coe (by norm_num), zero_add, mul_one, mul_one]
  refine congrArg (fun z => (a + b) * z) ?_
  unfold half
  simp [Ideal.ofBits, Ideal.ieee, -EReal.coe_mul]; norm_num
end Cert.ReferenceIdeal.Whole
-- ==== Proof.RVal0.lean ====
module
public import proofs.«01_k».proof.Proof.RChain
public import proofs.«01_k».proof.Proof.RScat
public import Idealize.ShloMosaic.Lib.StableHlo.ReadAt
public import Idealize.ShloMosaic.Lib.Tactic.WordOmega
@[expose] public section
/-! The word representations of the reference: with the masks as drawn, each word is the mean of its two tokens. -/
set_option maxRecDepth 16384
noncomputable section
namespace Cert.ReferenceIdeal.Whole
open Cert.ReferenceIdeal Cert.ReferenceIdeal.Gen Idealize.ShloMosaic Idealize.ShloMosaic.TcCoe
open Idealize.ShloMosaic.StableHlo
open Cert.Spec
variable (m : (ℓ : Loc nD τ sig) → Buf (Elt Ideal) ℓ)

/-- The three integer arguments as drawn. -/
structure Masks (A1 A2 A3 : IVec S4x1024 32) : Prop where
  h1 : ∀ b l, A1 (ix2 b l) = if 25 ≤ l.val ∧ l.val < 985 then 1#32 else 0#32
  h2 : ∀ b l, A2 (ix2 b l) = if 25 ≤ l.val ∧ l.val < 985 then BitVec.ofNat 32 ((l.val - 25) / 2) else 4294967295#32
  h3 : ∀ b l, A3 (ix2 b l) = if l.val < 25 then 1#32 else 0#32

/-- The arguments of `m` have the masks as drawn. -/
abbrev Drawn3 (c : Dev nD) : Prop :=
  Masks (m ((c.tc : Thread nD τ).loc main_arg1)) (m ((c.tc : Thread nD τ).loc main_arg2)) (m ((c.tc : Thread nD τ).loc main_arg3))

/-- The text tokens that have a word, at the masks as drawn. -/
theorem v4_at (W : Valuation τ sig (Elt Ideal)) (h : Masks (W main_arg1) (W main_arg2) (W main_arg3)) (b : Fin 4) (l : Fin 1024) :
    (after hostOps0 W main_v4 : IVec S4x1024 1) (ix2 b l) = if 25 ≤ l.val ∧ l.val < 985 then 1#1 else 0#1 := by
  after_reads_at
  rw [h.h1, h.h2]
  by_cases hl : 25 ≤ l.val ∧ l.val < 985
  · simp only [if_pos hl]
    have e : (BitVec.ofNat 32 ((l.val - 25) / 2)).toNat = (l.val - 25) / 2 := by
      rw [BitVec.toNat_ofNat]; exact Nat.mod_eq_of_lt (by omega)
    word_omega
  · simp only [if_neg hl]
    decide
/-- The segment of the tokens that have no word. -/
theorem c1_at (W : Valuation τ sig (Elt Ideal)) :
    (after hostOps0 W main_c_1 : IVec S_ 32) ix0 = 480#32 := by
  after_reads_at
/-- The segment of a token: its word, or the extra segment. -/
theorem v5_at (W : Valuation τ sig (Elt Ideal)) (b : Fin 4) (l : Fin 1024) : (after hostOps0_1 W main_v5 : IVec S4x1024 32) (ix2 b l) =
    Scalar.select ((W main_v4 : IVec S4x1024 1) (ix2 b l)) ((W main_arg2 : IVec S4x1024 32) (ix2 b l)) ((W main_c_1 : IVec S_ 32) ix0) := by
  after_reads_at
  try rfl

/-- The tokens that have a word, as the pooling finds them. -/
theorem U2_v4 (c : Dev nD) (h : Drawn3 m c) (b : Fin 4) (l : Fin 1024) :
    (U2 m c main_v4 : IVec S4x1024 1) (ix2 b l) = if 25 ≤ l.val ∧ l.val < 985 then 1#1 else 0#1 := by
  rw [keep_v4_2]
  exact v4_at (U0 m c) h b l
/-- The segment of a token, as the pooling finds it. -/
theorem U2_v5 (c : Dev nD) (h : Drawn3 m c) (b : Fin 4) (l : Fin 1024) :
    (U2 m c main_v5 : IVec S4x1024 32) (ix2 b l) = if 25 ≤ l.val ∧ l.val < 985 then BitVec.ofNat 32 ((l.val - 25) / 2) else 480#32 := by
  refine (v5_at (U1 m c) b l).trans ?_
  have e4 : (U1 m c main_v4 : IVec S4x1024 1) (ix2 b l) = if 25 ≤ l.val ∧ l.val < 985 then 1#1 else 0#1 := v4_at (U0 m c) h b l
  have e2 : (U1 m c main_arg2 : IVec S4x1024 32) (ix2 b l) = if 25 ≤ l.val ∧ l.val < 985 then BitVec.ofNat 32 ((l.val - 25) / 2) else 4294967295#32 := by
    rw [U1_arg m c main_arg2 (by decide)]; exact h.h2 b l
  have e1 : (U1 m c main_c_1 : IVec S_ 32) ix0 = 480#32 := c1_at (U0 m c)
  rw [e4, e2, e1]
  split <;> rfl

/-- One word's pooled representation over one sample's arrays. -/
theorem pool_word (f : IVec S1024 32) (a : FVec Ideal S1024x768 .f32) (t : IVec S1024 1)
    (hf : ∀ l : Fin 1024, f (ix1 l) = if 25 ≤ l.val ∧ l.val < 985 then BitVec.ofNat 32 ((l.val - 25) / 2) else 480#32)
    (ht : ∀ l : Fin 1024, t (ix1 l) = if 25 ≤ l.val ∧ l.val < 985 then 1#1 else 0#1) (w : Fin 480) (d : Fin 768) :
    Ideal.div
      (Host.scatterAdd (F := Ideal) scatter_S481x768_S1024x1_S1024x768_1_0_0_1
        (broadcastInDim S481x768 ![] bcast_S_S481x768 (constant S_ FTy.f32 0#32))
        (broadcastInDim S1024x1 ![0] bcast_S1024_S1024x1_0 f)
        (mulf a (broadcastInDim S1024x768 ![0, 1] bcast_S1024x1_S1024x768_0_1
            (broadcastInDim S1024x1 ![0] bcast_S1024_S1024x1_0 fun i => FloatOps.uitofp (F := Ideal) FTy.f32 (t i))))
        (ix2 ⟨w.val, by omega⟩ d))
      (max
        (Host.scatterAdd (F := Ideal) scatter_S481_S1024x1_S1024_n_0_0_1
          (broadcastInDim S481 ![] bcast_S_S481 (constant S_ FTy.f32 0#32))
          (broadcastInDim S1024x1 ![0] bcast_S1024_S1024x1_0 f)
          (fun i => FloatOps.uitofp (F := Ideal) FTy.f32 (t i)) (ix1 ⟨w.val, by omega⟩))
        1 : EReal)
      = ((a (ix2 ⟨25 + w.val * 2, by omega⟩ d) : EReal) + (a (ix2 ⟨26 + w.val * 2, by omega⟩ d) : EReal)) * half := by
  have hd : Drawn (broadcastInDim S1024x1 ![0] bcast_S1024_S1024x1_0 f) := by
    intro l
    refine Eq.trans ?_ (hf l)
    pointwise []
  have hw := w.isLt
  have ta : FloatOps.uitofp (F := Ideal) FTy.f32 (t (ix1 ⟨25 + w.val * 2, by omega⟩)) = (1 : EReal) := by
    rw [ht, if_pos ⟨by show 25 ≤ 25 + w.val * 2; omega, by show 25 + w.val * 2 < 985; omega⟩]
    simp [FloatOps.uitofp]
  have tb : FloatOps.uitofp (F := Ideal) FTy.f32 (t (ix1 ⟨26 + w.val * 2, by omega⟩)) = (1 : EReal) := by
    rw [ht, if_pos ⟨by show 25 ≤ 26 + w.val * 2; omega, by show 26 + w.val * 2 < 985; omega⟩]
    simp [FloatOps.uitofp]
  rw [sum_rows _ hd, sum_ones _ hd]
  rw [← div_two]
  refine congrArg₂ Ideal.div ?_ (congrArg (fun z : EReal => max z 1) ?_)
  · pointwise []
    rw [ta, tb]
    simp
  · rw [ta, tb]
    pointwise []
/-- The pooled words of sample 0. -/
theorem v28_at (W : Valuation τ sig (Elt Ideal))
    (hf : ∀ b l, (W main_v5 : IVec S4x1024 32) (ix2 b l) = if 25 ≤ l.val ∧ l.val < 985 then BitVec.ofNat 32 ((l.val - 25) / 2) else 480#32)
    (ht : ∀ b l, (W main_v4 : IVec S4x1024 1) (ix2 b l) = if 25 ≤ l.val ∧ l.val < 985 then 1#1 else 0#1)
    (w : Fin 480) (d : Fin 768) :
    (after hostOps0_2 W main_v28 : FVec Ideal S480x768 .f32) (ix2 w d) = avg (W main_arg0) 0 w d := by
  after_reads_at
  exact pool_word _ _ _ (hf 0) (ht 0) w d
/-- The pooled words of sample 1. -/
theorem v50_at (W : Valuation τ sig (Elt Ideal))
    (hf : ∀ b l, (W main_v5 : IVec S4x1024 32) (ix2 b l) = if 25 ≤ l.val ∧ l.val < 985 then BitVec.ofNat 32 ((l.val - 25) / 2) else 480#32)
    (ht : ∀ b l, (W main_v4 : IVec S4x1024 1) (ix2 b l) = if 25 ≤ l.val ∧ l.val < 985 then 1#1 else 0#1)
    (w : Fin 480) (d : Fin 768) :
    (after hostOps0_2 W main_v50 : FVec Ideal S480x768 .f32) (ix2 w d) = avg (W main_arg0) 1 w d := by
  after_reads_at
  exact pool_word _ _ _ (hf 1) (ht 1) w d
/-- The pooled words of sample 2. -/
theorem v72_at (W : Valuation τ sig (Elt Ideal))
    (hf : ∀ b l, (W main_v5 : IVec S4x1024 32) (ix2 b l) = if 25 ≤ l.val ∧ l.val < 985 then BitVec.ofNat 32 ((l.val - 25) / 2) else 480#32)
    (ht : ∀ b l, (W main_v4 : IVec S4x1024 1) (ix2 b l) = if 25 ≤ l.val ∧ l.val < 985 then 1#1 else 0#1)
    (w : Fin 480) (d : Fin 768) :
    (after hostOps0_2 W main_v72 : FVec Ideal S480x768 .f32) (ix2 w d) = avg (W main_arg0) 2 w d := by
  after_reads_at
  exact pool_word _ _ _ (hf 2) (ht 2) w d
/-- The pooled words of sample 3. -/
theorem v94_at (W : Valuation τ sig (Elt Ideal))
    (hf : ∀ b l, (W main_v5 : IVec S4x1024 32) (ix2 b l) = if 25 ≤ l.val ∧ l.val < 985 then BitVec.ofNat 32 ((l.val - 25) / 2) else 480#32)
    (ht : ∀ b l, (W main_v4 : IVec S4x1024 1) (ix2 b l) = if 25 ≤ l.val ∧ l.val < 985 then 1#1 else 0#1)
    (w : Fin 480) (d : Fin 768) :
    (after hostOps0_2 W main_v94 : FVec Ideal S480x768 .f32) (ix2 w d) = avg (W main_arg0) 3 w d := by
  after_reads_at
  exact pool_word _ _ _ (hf 3) (ht 3) w d
/-- The pooled words. -/
theorem v99_at (W : Valuation τ sig (Elt Ideal))
    (hf : ∀ b l, (W main_v5 : IVec S4x1024 32) (ix2 b l) = if 25 ≤ l.val ∧ l.val < 985 then BitVec.ofNat 32 ((l.val - 25) / 2) else 480#32)
    (ht : ∀ b l, (W main_v4 : IVec S4x1024 1) (ix2 b l) = if 25 ≤ l.val ∧ l.val < 985 then 1#1 else 0#1)
    (b : Fin 4) (w : Fin 480) (d : Fin 768) :
    (after hostOps0_2 W main_v99 : FVec Ideal S4x480x768 .f32) (ix3 b w d) = avg (W main_arg0) b w d := by
  fin_cases b
  · after_reads_at
    after_reads_at
    exact pool_word _ _ _ (hf 0) (ht 0) w d
  · after_reads_at
    after_reads_at
    exact pool_word _ _ _ (hf 1) (ht 1) w d
  · after_reads_at
    after_reads_at
    exact pool_word _ _ _ (hf 2) (ht 2) w d
  · after_reads_at
    after_reads_at
    exact pool_word _ _ _ (hf 3) (ht 3) w d
/-- The pooled words as the gathers read them. -/
theorem U20_v99 (c : Dev nD) (h : Drawn3 m c) (b : Fin 4) (w : Fin 480) (d : Fin 768) :
    (U20 m c main_v99 : FVec Ideal S4x480x768 .f32) (ix3 b w d) = avg (m ((c.tc : Thread nD τ).loc main_arg0)) b w d := by
  rw [keep_v99_20]
  refine (v99_at (U2 m c) (U2_v5 m c h) (U2_v4 m c h) b w d).trans ?_
  rw [U2_arg m c main_arg0 (by decide)]
end Cert.ReferenceIdeal.Whole
-- ==== Proof.RSort.lean ====
module
public import proofs.«01_k».proof.Proof.RefRun
public import proofs.«01_k».proof.Proof.Spec
public import Idealize.ShloMosaic.Lib.SortFacts
public import Idealize.ShloMosaic.Lib.StableHlo.ReadAt
public import Idealize.ShloMosaic.Lib.Routing.Ops
public import Idealize.ShloMosaic.Lib.Tactic.WordOmega
@[expose] public section
/-! Sorting what is sorted already, and the rows the entity gather reads. -/
set_option maxRecDepth 16384
noncomputable section
namespace Cert.ReferenceIdeal.Whole
open Cert.ReferenceIdeal Cert.ReferenceIdeal.Gen Idealize.ShloMosaic Idealize.ShloMosaic.TcCoe
open Idealize.ShloMosaic.StableHlo
open Cert.Spec

/-- A list in order is its own stable sort. -/
theorem stableSort_self {ι : Type} (B : ι → ι → Bool) : ∀ l : List ι, (l.Pairwise fun a b => B b a = false) → stableSort B l = l
  | [], _ => rfl
  | a :: l, h => by
    have h' := List.pairwise_cons.mp h
    show insertBefore B a (stableSort B l) = a :: l
    rw [stableSort_self B l h'.2]
    match l, h' with
    | [], _ => rfl
    | b :: l, h' =>
      show (if B b a then b :: insertBefore B a l else a :: b :: l) = a :: b :: l
      rw [h'.1 b List.mem_cons_self]
      rfl
/-- Positions in order stay where they are. -/
theorem sortedFrom_self {n : Nat} (B : Fin n → Fin n → Bool) (h : ∀ a b, a < b → B b a = false) (k : Fin n) : sortedFrom B k = k := by
  have e : sortPositions n B = List.finRange n :=
    stableSort_self B _ ((List.pairwise_lt_finRange n).imp fun {a b} hab => h a b hab)
  unfold sortedFrom
  rw [List.get_of_eq e]
  simp
/-- Two spellings of a rank-1 index. -/
theorem ofFin_ix1 {n : Nat} (k : Fin n) : Shape.Idx.ofFin k = (ix1 k : (⟨1, ![n]⟩ : Shape).Idx) := by
  funext a
  have : a = 0 := Subsingleton.elim _ _
  subst this
  exact Fin.ext rfl
/-- The stable sort of keys in order. -/
theorem sort_self {n : Nat} {α : Type} (cmp : α → α → BitVec 1) (x : (⟨1, ![n]⟩ : Shape).Idx → α)
    (h : ∀ a b : Fin n, a < b → cmp (x (ix1 b)) (x (ix1 a)) = 0#1) : Host.sort ⟨1, ![n]⟩ 0 cmp x = x := by
  funext j
  refine (Host.sort_rank1 cmp x j).trans ((congrArg (fun k => x (Shape.Idx.ofFin k)) (sortedFrom_self (n := n) _ (fun a b hab => ?_) (j 0))).trans
    (congrArg x (Shape.Idx.eq_ofFin j).symm))
  rw [ofFin_ix1, ofFin_ix1, h a b hab]
  rfl
/-- The stable sort of pairs whose keys are in order. -/
theorem sort2_self {n : Nat} {α β : Type} (cmp : α × β → α × β → BitVec 1) (x : (⟨1, ![n]⟩ : Shape).Idx → α) (y : (⟨1, ![n]⟩ : Shape).Idx → β)
    (h : ∀ a b : Fin n, a < b → cmp (x (ix1 b), y (ix1 b)) (x (ix1 a), y (ix1 a)) = 0#1) : (Host.sort2 ⟨1, ![n]⟩ 0 cmp x y).2 = y := by
  funext j
  unfold Host.sort2
  rw [dif_pos (show 0 < (⟨1, ![n]⟩ : Shape).rank from Nat.zero_lt_one)]
  refine (congrArg (fun k => y (j.along (0 : Fin 1) k)) (sortedFrom_self (n := n) _ (fun a b hab => ?_) (j 0))).trans
    (congrArg y ((Shape.Idx.along_rank1 j (j 0)).trans (Shape.Idx.eq_ofFin j).symm))
  refine beq_false_of_ne (fun e => absurd ((h a b hab).symm.trans (Eq.trans ?_ e)) (by decide))
  exact congrArg₂ (fun p q => cmp (x p, y p) (x q, y q)) ((Shape.Idx.along_rank1 j b).trans (ofFin_ix1 b)).symm ((Shape.Idx.along_rank1 j a).trans (ofFin_ix1 a)).symm
/-- The first 25 positions of a sort by descending entity mask: the mask marks tokens 0 to 24. -/
theorem order_drawn (x : IVec S1024 32) (hx : ∀ l : Fin 1024, x (ix1 l) = if l.val < 25 then 4294967295#32 else 0#32) :
    (Host.sort2 S1024 0 comparator_i32_i32_d0 x (iotaInDim S1024 32 0)).2 = iotaInDim S1024 32 0 := by
  refine sort2_self _ x _ fun a b hab => ?_
  show IntOp.cmpi .slt (x (ix1 b)) (x (ix1 a)) = 0#1
  rw [hx a, hx b]
  have : a.val < b.val := hab
  split <;> split <;> first | (exfalso; omega) | decide
/-- Sorting the numbers 0 to 24. -/
theorem order_iota (x : IVec S25 32) (hx : ∀ l : Fin 25, x (ix1 l) = BitVec.ofNat 32 l.val) :
    Host.sort S25 0 comparator_i32_d0 x = x := by
  refine sort_self _ x fun a b hab => ?_
  show IntOp.cmpi .slt (x (ix1 b)) (x (ix1 a)) = 0#1
  rw [hx a, hx b]
  revert a b
  decide
end Cert.ReferenceIdeal.Whole
-- ==== Proof.RVal1.lean ====
module
public import proofs.«01_k».proof.Proof.RVal0
public import proofs.«01_k».proof.Proof.RSort
@[expose] public section
/-! The entity rows of the reference: with the masks as drawn, rows 0 to 24 of each sample. -/
set_option maxRecDepth 16384
noncomputable section
namespace Cert.ReferenceIdeal.Whole
open Cert.ReferenceIdeal Cert.ReferenceIdeal.Gen Idealize.ShloMosaic Idealize.ShloMosaic.TcCoe
open Idealize.ShloMosaic.StableHlo
open Cert.Spec
variable (m : (ℓ : Loc nD τ sig) → Buf (Elt Ideal) ℓ)
/-- An index among the first 25 is not moved by the wrap of negative indices. -/
theorem wrap_row (x : BitVec 32) (e : Fin 25) (h : x = BitVec.ofNat 32 e.val) :
    Scalar.select (IntOp.cmpi .slt x 0#32) (IntOp.addi x 1024#32) x = BitVec.ofNat 32 e.val := by
  subst h
  revert e
  decide
/-- A word's negative. -/
def negw (x : BitVec 32) : BitVec 32 := -x
/-- The negated entity mask. -/
theorem neg_mask {A1 A2 A3 : IVec S4x1024 32} (h : Masks A1 A2 A3) (b : Fin 4) (l : Fin 1024) :
    negw (A3 (ix2 b l)) = if l.val < 25 then 4294967295#32 else 0#32 := by
  rw [h.h3]
  split <;> decide
/-- The first 25 sorted positions. -/
theorem first_rows (x : IVec S1024 32) (hx : ∀ l : Fin 1024, x (ix1 l) = if l.val < 25 then 4294967295#32 else 0#32)
    (y : IVec S25 32) (hy : ∀ l : Fin 25, y (ix1 l) = (Host.sort2 S1024 0 comparator_i32_i32_d0 x (iotaInDim S1024 32 0)).2 (ix1 ⟨l.val, by omega⟩)) (l : Fin 25) :
    Host.sort S25 0 comparator_i32_d0 y (ix1 l) = BitVec.ofNat 32 l.val := by
  have h : ∀ l : Fin 25, y (ix1 l) = BitVec.ofNat 32 l.val := fun l => by
    rw [hy l, order_drawn x hx]
    rfl
  rw [order_iota y h]
  exact h l
/-- Sample 0's rows. -/
theorem rows0_at (W : Valuation τ sig (Elt Ideal)) (l : Fin 1024) (d : Fin 768) :
    (after hostOps0_2 W main_v101 : FVec Ideal S1024x768 .f32) (ix2 l d) = (W main_arg0 : FVec Ideal S4x1024x768 .f32) (ix3 0 l d) := by
  after_reads_at
/-- Sample 0's negated entity mask. -/
theorem neg0_at (W : Valuation τ sig (Elt Ideal)) (l : Fin 1024) :
    (after hostOps0_2 W main_v104 : IVec S1024 32) (ix1 l) = negw ((W main_arg3 : IVec S4x1024 32) (ix2 0 l)) := by
  after_reads_at
  rfl
/-- Sample 0's sort. -/
theorem sort0_at (W : Valuation τ sig (Elt Ideal)) :
    (after hostOps0_3 W main_v105 : IVec S1024 32) = (Host.sort2 S1024 0 comparator_i32_i32_d0 (W main_v104 : IVec S1024 32) (iotaInDim S1024 32 0)).2 := by
  rfl
/-- Sample 0's first 25 positions. -/
theorem take0_at (W : Valuation τ sig (Elt Ideal)) (l : Fin 25) :
    (after hostOps0_4 W main_v106 : IVec S25 32) (ix1 l) = (W main_v105 : IVec S1024 32) (ix1 ⟨l.val, by omega⟩) := by
  after_reads_at
/-- Sample 0's positions sorted. -/
theorem again0_at (W : Valuation τ sig (Elt Ideal)) :
    (after hostOps0_5 W main_v107 : IVec S25 32) = Host.sort S25 0 comparator_i32_d0 (W main_v106 : IVec S25 32) := by
  rfl
/-- Sample 0's gathered rows. -/
theorem ent0_at (W : Valuation τ sig (Elt Ideal)) (h : ∀ l : Fin 25, (W main_v107 : IVec S25 32) (ix1 l) = BitVec.ofNat 32 l.val) (e : Fin 25) (d : Fin 768) :
    (after hostOps0_6 W main_v114 : FVec Ideal S25x768 .f32) (ix2 e d) = (W main_v101 : FVec Ideal S1024x768 .f32) (ix2 ⟨e.val, by omega⟩ d) := by
  after_reads_at
  refine Routing.gather_row gather_S1024x768_S25x1_S25x768_1_0_n_n_0_1_1768 rfl rfl rfl rfl rfl _ _ e d ⟨e.val, by omega⟩ ?_ (by decide)
  pointwise []
  exact wrap_row _ e (h e)
/-- Sample 0's entity rows over the arguments. -/
theorem U_ent0 (c : Dev nD) (h : Drawn3 m c) (e : Fin 25) (d : Fin 768) :
    (U7 m c main_v114 : FVec Ideal S25x768 .f32) (ix2 e d) = (m ((c.tc : Thread nD τ).loc main_arg0) : FVec Ideal S4x1024x768 .f32) (ix3 0 ⟨e.val, by omega⟩ d) := by
  refine (ent0_at (U6 m c) (fun l => ?_) e d).trans ?_
  · refine (congrFun (again0_at (U5 m c)) _).trans (first_rows (U3 m c main_v104) (fun l => ?_) _ (fun l => ?_) l)
    · refine (neg0_at (U2 m c) l).trans ?_
      rw [U2_arg m c main_arg3 (by decide)]
      exact neg_mask h 0 l
    · exact (take0_at (U4 m c) l).trans (congrFun (sort0_at (U3 m c)) _)
  · rw [keep_v101_6]
    refine (rows0_at (U2 m c) _ d).trans ?_
    rw [U2_arg m c main_arg0 (by decide)]
/-- Sample 1's rows. -/
theorem rows1_at (W : Valuation τ sig (Elt Ideal)) (l : Fin 1024) (d : Fin 768) :
    (after hostOps0_6 W main_v116 : FVec Ideal S1024x768 .f32) (ix2 l d) = (W main_arg0 : FVec Ideal S4x1024x768 .f32) (ix3 1 l d) := by
  after_reads_at
/-- Sample 1's negated entity mask. -/
theorem neg1_at (W : Valuation τ sig (Elt Ideal)) (l : Fin 1024) :
    (after hostOps0_6 W main_v119 : IVec S1024 32) (ix1 l) = negw ((W main_arg3 : IVec S4x1024 32) (ix2 1 l)) := by
  after_reads_at
  rfl
/-- Sample 1's sort. -/
theorem sort1_at (W : Valuation τ sig (Elt Ideal)) :
    (after hostOps0_7 W main_v120 : IVec S1024 32) = (Host.sort2 S1024 0 comparator_i32_i32_d0 (W main_v119 : IVec S1024 32) (iotaInDim S1024 32 0)).2 := by
  rfl
/-- Sample 1's first 25 positions. -/
theorem take1_at (W : Valuation τ sig (Elt Ideal)) (l : Fin 25) :
    (after hostOps0_8 W main_v121 : IVec S25 32) (ix1 l) = (W main_v120 : IVec S1024 32) (ix1 ⟨l.val, by omega⟩) := by
  after_reads_at
/-- Sample 1's positions sorted. -/
theorem again1_at (W : Valuation τ sig (Elt Ideal)) :
    (after hostOps0_9 W main_v122 : IVec S25 32) = Host.sort S25 0 comparator_i32_d0 (W main_v121 : IVec S25 32) := by
  rfl
/-- Sample 1's gathered rows. -/
theorem ent1_at (W : Valuation τ sig (Elt Ideal)) (h : ∀ l : Fin 25, (W main_v122 : IVec S25 32) (ix1 l) = BitVec.ofNat 32 l.val) (e : Fin 25) (d : Fin 768) :
    (after hostOps0_10 W main_v129 : FVec Ideal S25x768 .f32) (ix2 e d) = (W main_v116 : FVec Ideal S1024x768 .f32) (ix2 ⟨e.val, by omega⟩ d) := by
  after_reads_at
  refine Routing.gather_row gather_S1024x768_S25x1_S25x768_1_0_n_n_0_1_1768 rfl rfl rfl rfl rfl _ _ e d ⟨e.val, by omega⟩ ?_ (by decide)
  pointwise []
  exact wrap_row _ e (h e)
/-- Sample 1's entity rows over the arguments. -/
theorem U_ent1 (c : Dev nD) (h : Drawn3 m c) (e : Fin 25) (d : Fin 768) :
    (U11 m c main_v129 : FVec Ideal S25x768 .f32) (ix2 e d) = (m ((c.tc : Thread nD τ).loc main_arg0) : FVec Ideal S4x1024x768 .f32) (ix3 1 ⟨e.val, by omega⟩ d) := by
  refine (ent1_at (U10 m c) (fun l => ?_) e d).trans ?_
  · refine (congrFun (again1_at (U9 m c)) _).trans (first_rows (U7 m c main_v119) (fun l => ?_) _ (fun l => ?_) l)
    · refine (neg1_at (U6 m c) l).trans ?_
      rw [U6_arg m c main_arg3 (by decide)]
      exact neg_mask h 1 l
    · exact (take1_at (U8 m c) l).trans (congrFun (sort1_at (U7 m c)) _)
  · rw [keep_v116_10]
    refine (rows1_at (U6 m c) _ d).trans ?_
    rw [U6_arg m c main_arg0 (by decide)]
/-- Sample 2's rows. -/
theorem rows2_at (W : Valuation τ sig (Elt Ideal)) (l : Fin 1024) (d : Fin 768) :
    (after hostOps0_10 W main_v131 : FVec Ideal S1024x768 .f32) (ix2 l d) = (W main_arg0 : FVec Ideal S4x1024x768 .f32) (ix3 2 l d) := by
  after_reads_at
/-- Sample 2's negated entity mask. -/
theorem neg2_at (W : Valuation τ sig (Elt Ideal)) (l : Fin 1024) :
    (after hostOps0_10 W main_v134 : IVec S1024 32) (ix1 l) = negw ((W main_arg3 : IVec S4x1024 32) (ix2 2 l)) := by
  after_reads_at
  rfl
/-- Sample 2's sort. -/
theorem sort2_at (W : Valuation τ sig (Elt Ideal)) :
    (after hostOps0_11 W main_v135 : IVec S1024 32) = (Host.sort2 S1024 0 comparator_i32_i32_d0 (W main_v134 : IVec S1024 32) (iotaInDim S1024 32 0)).2 := by
  rfl
/-- Sample 2's first 25 positions. -/
theorem take2_at (W : Valuation τ sig (Elt Ideal)) (l : Fin 25) :
    (after hostOps0_12 W main_v136 : IVec S25 32) (ix1 l) = (W main_v135 : IVec S1024 32) (ix1 ⟨l.val, by omega⟩) := by
  after_reads_at
/-- Sample 2's positions sorted. -/
theorem again2_at (W : Valuation τ sig (Elt Ideal)) :
    (after hostOps0_13 W main_v137 : IVec S25 32) = Host.sort S25 0 comparator_i32_d0 (W main_v136 : IVec S25 32) := by
  rfl
/-- Sample 2's gathered rows. -/
theorem ent2_at (W : Valuation τ sig (Elt Ideal)) (h : ∀ l : Fin 25, (W main_v137 : IVec S25 32) (ix1 l) = BitVec.ofNat 32 l.val) (e : Fin 25) (d : Fin 768) :
    (after hostOps0_14 W main_v144 : FVec Ideal S25x768 .f32) (ix2 e d) = (W main_v131 : FVec Ideal S1024x768 .f32) (ix2 ⟨e.val, by omega⟩ d) := by
  after_reads_at
  refine Routing.gather_row gather_S1024x768_S25x1_S25x768_1_0_n_n_0_1_1768 rfl rfl rfl rfl rfl _ _ e d ⟨e.val, by omega⟩ ?_ (by decide)
  pointwise []
  exact wrap_row _ e (h e)
/-- Sample 2's entity rows over the arguments. -/
theorem U_ent2 (c : Dev nD) (h : Drawn3 m c) (e : Fin 25) (d : Fin 768) :
    (U15 m c main_v144 : FVec Ideal S25x768 .f32) (ix2 e d) = (m ((c.tc : Thread nD τ).loc main_arg0) : FVec Ideal S4x1024x768 .f32) (ix3 2 ⟨e.val, by omega⟩ d) := by
  refine (ent2_at (U14 m c) (fun l => ?_) e d).trans ?_
  · refine (congrFun (again2_at (U13 m c)) _).trans (first_rows (U11 m c main_v134) (fun l => ?_) _ (fun l => ?_) l)
    · refine (neg2_at (U10 m c) l).trans ?_
      rw [U10_arg m c main_arg3 (by decide)]
      exact neg_mask h 2 l
    · exact (take2_at (U12 m c) l).trans (congrFun (sort2_at (U11 m c)) _)
  · rw [keep_v131_14]
    refine (rows2_at (U10 m c) _ d).trans ?_
    rw [U10_arg m c main_arg0 (by decide)]
/-- Sample 3's rows. -/
theorem rows3_at (W : Valuation τ sig (Elt Ideal)) (l : Fin 1024) (d : Fin 768) :
    (after hostOps0_14 W main_v146 : FVec Ideal S1024x768 .f32) (ix2 l d) = (W main_arg0 : FVec Ideal S4x1024x768 .f32) (ix3 3 l d) := by
  after_reads_at
/-- Sample 3's negated entity mask. -/
theorem neg3_at (W : Valuation τ sig (Elt Ideal)) (l : Fin 1024) :
    (after hostOps0_14 W main_v149 : IVec S1024 32) (ix1 l) = negw ((W main_arg3 : IVec S4x1024 32) (ix2 3 l)) := by
  after_reads_at
  rfl
/-- Sample 3's sort. -/
theorem sort3_at (W : Valuation τ sig (Elt Ideal)) :
    (after hostOps0_15 W main_v150 : IVec S1024 32) = (Host.sort2 S1024 0 comparator_i32_i32_d0 (W main_v149 : IVec S1024 32) (iotaInDim S1024 32 0)).2 := by
  rfl
/-- Sample 3's first 25 positions. -/
theorem take3_at (W : Valuation τ sig (Elt Ideal)) (l : Fin 25) :
    (after hostOps0_16 W main_v151 : IVec S25 32) (ix1 l) = (W main_v150 : IVec S1024 32) (ix1 ⟨l.val, by omega⟩) := by
  after_reads_at
/-- Sample 3's positions sorted. -/
theorem again3_at (W : Valuation τ sig (Elt Ideal)) :
    (after hostOps0_17 W main_v152 : IVec S25 32) = Host.sort S25 0 comparator_i32_d0 (W main_v151 : IVec S25 32) := by
  rfl
/-- Sample 3's gathered rows. -/
theorem ent3_at (W : Valuation τ sig (Elt Ideal)) (h : ∀ l : Fin 25, (W main_v152 : IVec S25 32) (ix1 l) = BitVec.ofNat 32 l.val) (e : Fin 25) (d : Fin 768) :
    (after hostOps0_18 W main_v159 : FVec Ideal S25x768 .f32) (ix2 e d) = (W main_v146 : FVec Ideal S1024x768 .f32) (ix2 ⟨e.val, by omega⟩ d) := by
  after_reads_at
  refine Routing.gather_row gather_S1024x768_S25x1_S25x768_1_0_n_n_0_1_1768 rfl rfl rfl rfl rfl _ _ e d ⟨e.val, by omega⟩ ?_ (by decide)
  pointwise []
  exact wrap_row _ e (h e)
/-- Sample 3's entity rows over the arguments. -/
theorem U_ent3 (c : Dev nD) (h : Drawn3 m c) (e : Fin 25) (d : Fin 768) :
    (U19 m c main_v159 : FVec Ideal S25x768 .f32) (ix2 e d) = (m ((c.tc : Thread nD τ).loc main_arg0) : FVec Ideal S4x1024x768 .f32) (ix3 3 ⟨e.val, by omega⟩ d) := by
  refine (ent3_at (U18 m c) (fun l => ?_) e d).trans ?_
  · refine (congrFun (again3_at (U17 m c)) _).trans (first_rows (U15 m c main_v149) (fun l => ?_) _ (fun l => ?_) l)
    · refine (neg3_at (U14 m c) l).trans ?_
      rw [U14_arg m c main_arg3 (by decide)]
      exact neg_mask h 3 l
    · exact (take3_at (U16 m c) l).trans (congrFun (sort3_at (U15 m c)) _)
  · rw [keep_v146_18]
    refine (rows3_at (U14 m c) _ d).trans ?_
    rw [U14_arg m c main_arg0 (by decide)]
end Cert.ReferenceIdeal.Whole
-- ==== Proof.RVal2.lean ====
module
public import proofs.«01_k».proof.Proof.RVal1
@[expose] public section
/-! The two perceptrons of the reference and the scores. -/
set_option maxRecDepth 16384
noncomputable section
namespace Cert.ReferenceIdeal.Whole
open Cert.ReferenceIdeal Cert.ReferenceIdeal.Gen Idealize.ShloMosaic Idealize.ShloMosaic.TcCoe
open Idealize.ShloMosaic.StableHlo
open Cert.Spec
variable (m : (ℓ : Loc nD τ sig) → Buf (Elt Ideal) ℓ)
/-- The span gather reads sample `b`'s word `idx n`. -/
theorem gather_span (x : FVec Ideal S4x480x768 .f32) (idx : IVec S5760x1 32) (b : Fin 4) (n : Fin 5760) (d : Fin 768) (w : Fin 480)
    (hw : idx (ix2 n 0) = BitVec.ofNat 32 w.val) :
    Host.gather gather_S4x480x768_S5760x1_S4x5760x768_02_1_n_n_1_1_41768 x idx (ix3 b n d) = x (ix3 b w d) := by
  unfold Host.gather
  refine congrArg x (funext fun a => Fin.ext ?_)
  have hi : (gather_S4x480x768_S5760x1_S4x5760x768_02_1_n_n_1_1_41768).siIdx (ix3 b n d) ⟨0, by decide⟩ = ix2 n 0 := by
    funext a
    match a with
    | ⟨0, _⟩ => rfl
    | ⟨1, _⟩ => rfl
  have hz : (idx (ix2 n 0)).toInt = (w.val : Int) := by
    have := w.isLt
    rw [hw, StableHlo.Predicate.toInt_ofNat_small _ (by omega)]
  match a with
  | ⟨0, _⟩ =>
    have hs : (gather_S4x480x768_S5760x1_S4x5760x768_02_1_n_n_1_1_41768).start (ix3 b n d) idx 0 = 0 := by
      unfold GatherDims.start
      rw [dif_neg (by decide)]
    exact (congrArg (fun q => q + 0 + b.val) hs).trans (Nat.zero_add b.val)
  | ⟨1, _⟩ =>
    have hs : (gather_S4x480x768_S5760x1_S4x5760x768_02_1_n_n_1_1_41768).start (ix3 b n d) idx 1 = w.val := by
      unfold GatherDims.start
      rw [dif_pos (by decide)]
      refine (congrArg (fun i => min (idx i).toInt.toNat (480 - 1)) hi).trans ?_
      have := w.isLt
      rw [hz]
      omega
    exact congrArg (fun q => q + 0 + 0) hs
  | ⟨2, _⟩ =>
    have hs : (gather_S4x480x768_S5760x1_S4x5760x768_02_1_n_n_1_1_41768).start (ix3 b n d) idx 2 = 0 := by
      unfold GatherDims.start
      rw [dif_neg (by decide)]
    exact (congrArg (fun q => q + 0 + d.val) hs).trans (Nat.zero_add d.val)
/-- A first layer before its rectifier. -/
def hid (A : Fin 768 → EReal) (W1 : FVec Ideal S768x512 .f32) (b1 : FVec Ideal S512 .f32) (x : Fin 512) : EReal :=
  ∑ k, A k * W1 (ix2 k x) + b1 (ix1 x)
/-- A first layer over a pair of words before its rectifier. -/
def hid2 (A B : Fin 768 → EReal) (W1 : FVec Ideal S1536x512 .f32) (b1 : FVec Ideal S512 .f32) (x : Fin 512) : EReal :=
  ∑ k : Fin 768, A k * W1 (ix2 ⟨k.val, by omega⟩ x) + ∑ k : Fin 768, B k * W1 (ix2 ⟨768 + k.val, by omega⟩ x) + b1 (ix1 x)
/-- Sample 0's first layer over entity rows. -/
theorem hid0_at (W : Valuation τ sig (Elt Ideal)) (e : Fin 25) (d : Fin 512) :
    (after hostOps0_18 W main_v168 : FVec Ideal S4x25x512 .f32) (ix3 0 e d) =
      hid (fun k => (W main_v114 : FVec Ideal S25x768 .f32) (ix2 e k)) (W main_arg4) (W main_arg5) d := by
  unfold hid
  after_reads_at
  after_reads_at
/-- Sample 1's first layer over entity rows. -/
theorem hid1_at (W : Valuation τ sig (Elt Ideal)) (e : Fin 25) (d : Fin 512) :
    (after hostOps0_18 W main_v168 : FVec Ideal S4x25x512 .f32) (ix3 1 e d) =
      hid (fun k => (W main_v129 : FVec Ideal S25x768 .f32) (ix2 e k)) (W main_arg4) (W main_arg5) d := by
  unfold hid
  after_reads_at
  after_reads_at
/-- Sample 2's first layer over entity rows. -/
theorem hid2_at (W : Valuation τ sig (Elt Ideal)) (e : Fin 25) (d : Fin 512) :
    (after hostOps0_18 W main_v168 : FVec Ideal S4x25x512 .f32) (ix3 2 e d) =
      hid (fun k => (W main_v144 : FVec Ideal S25x768 .f32) (ix2 e k)) (W main_arg4) (W main_arg5) d := by
  unfold hid
  after_reads_at
  after_reads_at
/-- Sample 3's first layer over entity rows. -/
theorem hid3_at (W : Valuation τ sig (Elt Ideal)) (e : Fin 25) (d : Fin 512) :
    (after hostOps0_18 W main_v168 : FVec Ideal S4x25x512 .f32) (ix3 3 e d) =
      hid (fun k => (after hostOps0_18 W main_v159 : FVec Ideal S25x768 .f32) (ix2 e k)) (W main_arg4) (W main_arg5) d := by
  unfold hid
  after_reads_at
  after_reads_at

/-- The rectifier's comparison. -/
theorem v170_at (W : Valuation τ sig (Elt Ideal)) (b : Fin 4) (e : Fin 25) (d : Fin 512) :
    (after hostOps0_18 W main_v170 : IVec S4x25x512 1) (ix3 b e d) = FloatOps.cmpf (F := Ideal) (φ := .f32) .oge
      ((after hostOps0_18 W main_v168 : FVec Ideal S4x25x512 .f32) (ix3 b e d)) (0 : EReal) := by
  after_reads_simp
  refine congrArg (FloatOps.cmpf (F := Ideal) (φ := .f32) .oge _) ?_
  pointwise []
/-- The rectifier's other branch. -/
theorem v172_at (W : Valuation τ sig (Elt Ideal)) (b : Fin 4) (e : Fin 25) (d : Fin 512) :
    (after hostOps0_18 W main_v172 : FVec Ideal S4x25x512 .f32) (ix3 b e d) = Ideal.ofBits .f32 1008981770#32 *
      ((after hostOps0_18 W main_v168 : FVec Ideal S4x25x512 .f32) (ix3 b e d) : EReal) := by
  after_reads_simp
  refine congrArg (fun z : EReal => z * _) ?_
  pointwise []
/-- The comparison and the choice are the rectifier. -/
theorem leak_at (z : EReal) : Scalar.select (FloatOps.cmpf (F := Ideal) (φ := .f32) .oge z (0 : EReal)) z (Ideal.ofBits .f32 1008981770#32 * z) = leak z := by
  unfold leak
  pointwise []
/-- The activated hidden layer of an entity, by choice of branch. -/
theorem v173_at (W : Valuation τ sig (Elt Ideal)) (b : Fin 4) (e : Fin 25) (d : Fin 512) :
    (after hostOps0_19 W main_v173 : FVec Ideal S4x25x512 .f32) (ix3 b e d) = Scalar.select ((W main_v170 : IVec S4x25x512 1) (ix3 b e d)) ((W main_v168 : FVec Ideal S4x25x512 .f32) (ix3 b e d))
     ((W main_v172 : FVec Ideal S4x25x512 .f32) (ix3 b e d)) := by
  after_reads_at
/-- The representation of an entity. -/
theorem v177_at (W : Valuation τ sig (Elt Ideal)) (b : Fin 4) (e : Fin 25) (d : Fin 768) :
    (after hostOps0_20 W main_v177 : FVec Ideal S4x25x768 .f32) (ix3 b e d) =
      layer2 (fun x => (W main_v173 : FVec Ideal S4x25x512 .f32) (ix3 b e x)) (W main_arg6) (W main_arg7) d := by
  unfold layer2
  after_reads_at
/-- The first word of a span. -/
theorem startw (w : Fin 480) : Scalar.select (IntOp.cmpi CmpIPredicate.slt (BitVec.ofNat 32 w.val) 0#32)
      (IntOp.addi (BitVec.ofNat 32 w.val) 480#32) (BitVec.ofNat 32 w.val) = BitVec.ofNat 32 w.val := by
  revert w; decide +kernel
/-- The last word of a span. -/
theorem endw (w : Fin 480) (g : Fin 12) : Scalar.select
      (IntOp.cmpi CmpIPredicate.slt
        (IntOp.minsi (IntOp.addi (BitVec.ofNat 32 w.val) (BitVec.ofNat 32 g.val)) 479#32) 0#32)
      (IntOp.addi (IntOp.minsi (IntOp.addi (BitVec.ofNat 32 w.val) (BitVec.ofNat 32 g.val)) 479#32) 480#32)
      (IntOp.minsi (IntOp.addi (BitVec.ofNat 32 w.val) (BitVec.ofNat 32 g.val)) 479#32) = BitVec.ofNat 32 (min (w.val + g.val) 479) := by
  revert w g; decide +kernel
/-- The first words gathered. -/
theorem v196_at (W : Valuation τ sig (Elt Ideal)) (b : Fin 4) (n : Fin 5760) (d : Fin 768) :
    (after hostOps0_20 W main_v196 : FVec Ideal S4x5760x768 .f32) (ix3 b n d) =
      (W main_v99 : FVec Ideal S4x480x768 .f32) (ix3 b ⟨min (n.val / 12) 479, by omega⟩ d) := by
  after_reads_at
  refine gather_span _ _ b n d _ ?_
  pointwise []
  refine (startw ⟨n.val / 12, by omega⟩).trans (congrArg (BitVec.ofNat 32) ?_)
  show n.val / 12 = min (n.val / 12) 479
  omega
/-- The last words gathered. -/
theorem v203_at (W : Valuation τ sig (Elt Ideal)) (b : Fin 4) (n : Fin 5760) (d : Fin 768) :
    (after hostOps0_20 W main_v203 : FVec Ideal S4x5760x768 .f32) (ix3 b n d) =
      (W main_v99 : FVec Ideal S4x480x768 .f32) (ix3 b ⟨min (n.val / 12 + n.val % 12) 479, by omega⟩ d) := by
  after_reads_at
  refine gather_span _ _ b n d _ ?_
  pointwise []
  exact endw ⟨n.val / 12, by omega⟩ ⟨n.val % 12, by omega⟩
/-- The first layer over spans. -/
theorem v208_at (W : Valuation τ sig (Elt Ideal)) (b : Fin 4) (n : Fin 5760) (d : Fin 512) :
    (after hostOps0_20 W main_v208 : FVec Ideal S4x5760x512 .f32) (ix3 b n d) =
      hid2 (fun x => (after hostOps0_20 W main_v196 : FVec Ideal S4x5760x768 .f32) (ix3 b n x)) (fun x => (after hostOps0_20 W main_v203 : FVec Ideal S4x5760x768 .f32) (ix3 b n x))
        (W main_arg8) (W main_arg9) d := by
  unfold hid2
  after_reads_at
  after_reads_at
/-- The second rectifier's comparison. -/
theorem v210_at (W : Valuation τ sig (Elt Ideal)) (b : Fin 4) (n : Fin 5760) (d : Fin 512) :
    (after hostOps0_20 W main_v210 : IVec S4x5760x512 1) (ix3 b n d) = FloatOps.cmpf (F := Ideal) (φ := .f32) .oge
      ((after hostOps0_20 W main_v208 : FVec Ideal S4x5760x512 .f32) (ix3 b n d)) (0 : EReal) := by
  after_reads_simp
  refine congrArg (FloatOps.cmpf (F := Ideal) (φ := .f32) .oge _) ?_
  pointwise []
/-- The second rectifier's other branch. -/
theorem v212_at (W : Valuation τ sig (Elt Ideal)) (b : Fin 4) (n : Fin 5760) (d : Fin 512) :
    (after hostOps0_20 W main_v212 : FVec Ideal S4x5760x512 .f32) (ix3 b n d) = Ideal.ofBits .f32 1008981770#32 *
      ((after hostOps0_20 W main_v208 : FVec Ideal S4x5760x512 .f32) (ix3 b n d) : EReal) := by
  after_reads_simp
  refine congrArg (fun z : EReal => z * _) ?_
  pointwise []
/-- The second rectifier. -/
theorem v213_at (W : Valuation τ sig (Elt Ideal)) (b : Fin 4) (n : Fin 5760) (d : Fin 512) :
    (after hostOps0_21 W main_v213 : FVec Ideal S4x5760x512 .f32) (ix3 b n d) = Scalar.select ((W main_v210 : IVec S4x5760x512 1) (ix3 b n d))
     ((W main_v208 : FVec Ideal S4x5760x512 .f32) (ix3 b n d)) ((W main_v212 : FVec Ideal S4x5760x512 .f32) (ix3 b n d)) := by
  after_reads_at
/-- Whether a span ends inside the sentence. -/
theorem v187_at (W : Valuation τ sig (Elt Ideal)) (n : Fin 5760) :
    (after hostOps0_20 W main_v187 : IVec S5760 1) (ix1 n) =
      IntOp.cmpi .slt (IntOp.addi (BitVec.ofNat 32 (n.val / 12)) (BitVec.ofNat 32 (n.val % 12))) 480#32 := by
  after_reads_at
/-- The same as a number. -/
theorem valid_at (w : Fin 480) (g : Fin 12) : FloatOps.uitofp (F := Ideal) .f32
      (IntOp.cmpi .slt (IntOp.addi (BitVec.ofNat 32 w.val) (BitVec.ofNat 32 g.val)) 480#32) = if w.val + g.val < 480 then (1 : EReal) else 0 := by
  have h : IntOp.cmpi .slt (IntOp.addi (BitVec.ofNat 32 w.val) (BitVec.ofNat 32 g.val)) 480#32 = if w.val + g.val < 480 then 1#1 else 0#1 := by
    revert w g; decide +kernel
  rw [h]
  split
  · simp [FloatOps.uitofp]
  · simp [FloatOps.uitofp]
/-- The scores over the two representations. -/
theorem v228_at (W : Valuation τ sig (Elt Ideal)) (b : Fin 4) (n : Fin 5760) (e : Fin 25) :
    (after hostOps0_22 W main_v228 : FVec Ideal S4x5760x25 .f32) (ix3 b n e) =
      Ideal.logistic (∑ d, layer2 (fun x => (W main_v213 : FVec Ideal S4x5760x512 .f32) (ix3 b n x)) (W main_arg10) (W main_arg11) d *
        (W main_v177 : FVec Ideal S4x25x768 .f32) (ix3 b e d)) * FloatOps.uitofp (F := Ideal) .f32 ((W main_v187 : IVec S5760 1) (ix1 n)) := by
  unfold layer2
  after_reads_at
  try rfl
end Cert.ReferenceIdeal.Whole
-- ==== Proof.RArg.lean ====
module
public import proofs.«01_k».proof.Proof.RefRun
public import proofs.«01_k».proof.Proof.Spec
public import proofs.«01_k».proof.Proof.KVal1
public import Idealize.ShloMosaic.Lib.Pointwise
@[expose] public section
/-! The best row of a span, as both programs find it. -/
set_option maxRecDepth 16384
noncomputable section
namespace Cert.ReferenceIdeal.Whole
open Cert.ReferenceIdeal Cert.ReferenceIdeal.Gen Idealize.ShloMosaic
open Cert.Spec

/-- Scores are never negative. -/
theorem score_nonneg (n : Nat) (x : EReal) : 0 ≤ score n x := by
  have hl : 0 ≤ Ideal.logistic x := by
    unfold Ideal.logistic Ideal.div
    have he : 0 ≤ Ideal.exp (-x) := by
      generalize -x = y
      induction y with
      | bot => exact le_refl _
      | top => exact le_top
      | coe r => exact EReal.coe_nonneg.mpr (Real.exp_pos r).le
    have h1 : (0 : EReal) < 1 + Ideal.exp (-x) := lt_of_lt_of_le zero_lt_one (le_add_of_nonneg_right he)
    rw [if_neg h1.ne']
    rw [one_mul]
    exact EReal.inv_nonneg_of_nonneg h1.le
  unfold score
  split
  · rw [mul_one]; exact hl
  · rw [mul_zero]

/-- `e` is the first of the greatest. -/
structure First (s : Fin 25 → EReal) (e : Fin 25) : Prop where
  top : ∀ x, s x ≤ s e
  least : ∀ x, s x = s e → e.val ≤ x.val

/-- There is only one first of the greatest. -/
theorem First.unique {s : Fin 25 → EReal} {e f : Fin 25} (he : First s e) (hf : First s f) : e = f := by
  have h : s e = s f := le_antisymm (hf.top e) (he.top f)
  exact Fin.ext (le_antisymm (he.least f h.symm) (hf.least e h))

/-- The arg-max body, spelled as a choice. -/
theorem body_eq (a b : EReal × BitVec 32) :
    reducer_argmax_f32_i32 (F := Ideal) a b = if b.1 < a.1 ∨ (a.1 = b.1 ∧ a.2.slt b.2 = true) then a else b := by
  obtain ⟨x, i⟩ := a
  obtain ⟨y, j⟩ := b
  unfold reducer_argmax_f32_i32
  have h1 : FloatOps.cmpf (F := Ideal) (φ := .f32) .ogt x y = if y < x then 1#1 else 0#1 := by
    show BitVec.ofBool (decide (y < x)) = _
    by_cases h : y < x <;> simp [h]
  have h2 : FloatOps.cmpf (F := Ideal) (φ := .f32) .une x x = 0#1 := by
    show BitVec.ofBool (decide (x ≠ x)) = _
    simp
  have h3 : FloatOps.cmpf (F := Ideal) (φ := .f32) .oeq x y = if x = y then 1#1 else 0#1 := by
    show BitVec.ofBool (decide (x = y)) = _
    by_cases h : x = y <;> simp [h]
  have h4 : IntOp.cmpi .slt i j = if i.slt j = true then 1#1 else 0#1 := by
    show BitVec.ofBool (i.slt j) = _
    by_cases h : i.slt j = true
    · rw [if_pos h, h]; rfl
    · rw [if_neg h, Bool.eq_false_iff.mpr h]; rfl
  simp only [h1, h2, h3, h4]
  by_cases hyx : y < x
  · have hne : x ≠ y := hyx.ne'
    simp only [hyx, if_true, true_or]
    by_cases hij : i.slt j = true <;> simp [Scalar.select, IntOp.ori, IntOp.andi, hne, hij]
  · by_cases hxy : x = y
    · subst hxy
      by_cases hij : i.slt j = true
      · simp [Scalar.select, IntOp.ori, IntOp.andi, hij]
      · simp [Scalar.select, IntOp.ori, IntOp.andi, hij]
    · simp [Scalar.select, IntOp.ori, IntOp.andi, hyx, hxy]

/-- A pair at least as good as another. -/
def Better (r p : EReal × BitVec 32) : Prop := p.1 < r.1 ∨ (p.1 = r.1 ∧ r.2.toInt ≤ p.2.toInt)
/-- Being at least as good is transitive. -/
theorem Better.trans {r p q : EReal × BitVec 32} (h : Better r p) (h' : Better p q) : Better r q := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩
/-- A pair is at least as good as itself. -/
theorem Better.refl (r : EReal × BitVec 32) : Better r r := Or.inr ⟨rfl, le_refl _⟩
/-- The arg-max body picks one of its two pairs, and the better one. -/
theorem body_best (a b : EReal × BitVec 32) :
    (reducer_argmax_f32_i32 (F := Ideal) a b = a ∨ reducer_argmax_f32_i32 (F := Ideal) a b = b) ∧
      Better (reducer_argmax_f32_i32 (F := Ideal) a b) a ∧ Better (reducer_argmax_f32_i32 (F := Ideal) a b) b := by
  rw [body_eq]
  have hs : a.2.slt b.2 = true ↔ a.2.toInt < b.2.toInt := by
    rw [BitVec.slt]; exact decide_eq_true_iff
  by_cases h : b.1 < a.1 ∨ (a.1 = b.1 ∧ a.2.slt b.2 = true)
  · rw [if_pos h]
    refine ⟨Or.inl rfl, Better.refl a, ?_⟩
    rcases h with h | ⟨h, i⟩
    · exact Or.inl h
    · exact Or.inr ⟨h.symm, (hs.mp i).le⟩
  · rw [if_neg h]
    refine ⟨Or.inr rfl, ?_, Better.refl b⟩
    rw [not_or] at h
    rcases lt_or_eq_of_le (not_lt.mp h.1) with h' | h'
    · exact Or.inl h'
    · refine Or.inr ⟨h', ?_⟩
      by_contra hc
      exact h.2 ⟨h', hs.mpr (not_le.mp hc)⟩
/-- The fold of the arg-max body is one of the pairs and the best of them. -/
theorem fold_best : ∀ (L : List (EReal × BitVec 32)) (a : EReal × BitVec 32),
    (L.foldl (reducer_argmax_f32_i32 (F := Ideal)) a = a ∨ L.foldl (reducer_argmax_f32_i32 (F := Ideal)) a ∈ L) ∧
      Better (L.foldl (reducer_argmax_f32_i32 (F := Ideal)) a) a ∧ ∀ p ∈ L, Better (L.foldl (reducer_argmax_f32_i32 (F := Ideal)) a) p
  | [], a => ⟨Or.inl rfl, Better.refl a, fun p hp => absurd hp List.not_mem_nil⟩
  | b :: L, a => by
    obtain ⟨h1, h2, h3⟩ := fold_best L (reducer_argmax_f32_i32 (F := Ideal) a b)
    obtain ⟨g1, g2, g3⟩ := body_best a b
    rw [List.foldl_cons]
    refine ⟨?_, h2.trans g2, fun p hp => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.mp hp with rfl | hp
      · exact h2.trans g3
      · exact h3 p hp
/-- A small word read as a number. -/
theorem word_toInt (e : Fin 25) : (BitVec.ofNat 32 e.val).toInt = (e.val : Int) := by
  revert e; decide

/-- The reference's best row: the first of the greatest scores. -/
theorem ref_arg (x : FVec Ideal S4x5760x25 .f32) (b : Fin 4) (n : Fin 5760) (h0 : ∀ e, (0 : EReal) ≤ x (ix3 b n e)) :
    ∃ e : Fin 25, First (fun e => (x (ix3 b n e) : EReal)) e ∧
      (Host.argReduce reducer_argmax_f32_i32 x (iotaInDim S4x5760x25 32 2) (constant (F := Ideal) S_ FTy.f32 4286578688#32) (constantI S_ 32 0#32)
        reducesTo_S4x5760x25_S4x5760_d2 h_S_ (ix2 b n)).2 = BitVec.ofNat 32 e.val := by
  rw [Ideal.argReduce_eq_reduce2, Host.reduce2_eq_foldl_fiber]
  have hmem : ∀ p, p ∈ Host.argReduceFiber x (iotaInDim S4x5760x25 32 2) reducesTo_S4x5760x25_S4x5760_d2 (ix2 b n) ↔
      ∃ e : Fin 25, p = (x (ix3 b n e), BitVec.ofNat 32 e.val) := by
    intro p
    unfold Host.argReduceFiber
    rw [List.mem_map]
    constructor
    · rintro ⟨q, hq, rfl⟩
      rw [List.mem_filter] at hq
      obtain ⟨k, hk⟩ := (Shape.ReducesTo.fiber_r3_a2 _ _ _).mp (of_decide_eq_true hq.2)
      refine ⟨k, ?_⟩
      rw [← hk]
      rfl
    · rintro ⟨e, rfl⟩
      refine ⟨S4x5760x25.rowMajor (ix3 b n e), ?_, ?_⟩
      · rw [List.mem_filter]
        refine ⟨List.mem_finRange _, decide_eq_true ?_⟩
        rw [Equiv.symm_apply_apply]
        exact (Shape.ReducesTo.fiber_r3_a2 _ _ _).mpr ⟨e, rfl⟩
      · rw [Equiv.symm_apply_apply]
        rfl
  obtain ⟨h1, h2, h3⟩ := fold_best (Host.argReduceFiber x (iotaInDim S4x5760x25 32 2) reducesTo_S4x5760x25_S4x5760_d2 (ix2 b n))
    (constant (F := Ideal) S_ FTy.f32 4286578688#32 (Shape.Idx.first h_S_), constantI S_ 32 0#32 (Shape.Idx.first h_S_))
  generalize List.foldl (reducer_argmax_f32_i32 (F := Ideal)) _ (Host.argReduceFiber x (iotaInDim S4x5760x25 32 2) reducesTo_S4x5760x25_S4x5760_d2 (ix2 b n)) = r at h1 h2 h3 ⊢
  have hb : (Ideal.ofBits .f32 4286578688#32 : EReal) = ⊥ := by
    simp [Ideal.ofBits, Ideal.ieee]
  have hr : ∃ e : Fin 25, r = (x (ix3 b n e), BitVec.ofNat 32 e.val) := by
    rcases h1 with h1 | h1
    · exfalso
      have := h3 _ ((hmem _).mpr ⟨0, rfl⟩)
      have hr1 : r.1 = ⊥ := by rw [h1]; exact hb
      have hx := h0 0
      rcases this with h | ⟨h, _⟩
      · rw [hr1] at h; exact absurd h not_lt_bot
      · rw [hr1] at h
        have h' : (x (ix3 b n 0) : EReal) = ⊥ := h
        rw [h'] at hx
        exact absurd hx (by simp)
    · exact (hmem r).mp h1
  obtain ⟨e, rfl⟩ := hr
  refine ⟨e, ⟨fun k => ?_, fun k hk => ?_⟩, rfl⟩
  · rcases h3 _ ((hmem _).mpr ⟨k, rfl⟩) with h | ⟨h, _⟩
    · exact le_of_lt h
    · exact le_of_eq h
  · rcases h3 _ ((hmem _).mpr ⟨k, rfl⟩) with h | ⟨_, h⟩
    · exact absurd hk (ne_of_lt h)
    · have h' : (BitVec.ofNat 32 e.val).toInt ≤ (BitVec.ofNat 32 k.val).toInt := h
      rw [word_toInt, word_toInt] at h'
      exact_mod_cast h'
/-- The least of a family of words is one that is in it and below all of it. -/
theorem fold_min {ι : Type} [DecidableEq ι] (f : ι → BitVec 32) (a : BitVec 32) (s : Finset ι) :
    (Finset.fold IntOp.minsi a f s = a ∨ ∃ x ∈ s, Finset.fold IntOp.minsi a f s = f x) ∧ (Finset.fold IntOp.minsi a f s).toInt ≤ a.toInt ∧
      ∀ x ∈ s, (Finset.fold IntOp.minsi a f s).toInt ≤ (f x).toInt := by
  have hm : ∀ p q : BitVec 32, IntOp.minsi p q = if p.toInt < q.toInt then p else q := by
    intro p q
    unfold IntOp.minsi
    rw [BitVec.slt]
    by_cases h : p.toInt < q.toInt <;> simp [h]
  induction s using Finset.induction_on with
  | empty => exact ⟨Or.inl rfl, le_refl _, fun x hx => absurd hx (Finset.notMem_empty x)⟩
  | insert y s hy ih =>
    obtain ⟨h1, h2, h3⟩ := ih
    rw [Finset.fold_insert hy, hm]
    split
    · rename_i h
      refine ⟨Or.inr ⟨y, Finset.mem_insert_self _ _, rfl⟩, h.le.trans h2, fun x hx => ?_⟩
      rcases Finset.mem_insert.mp hx with rfl | hx
      · exact le_refl _
      · exact h.le.trans (h3 x hx)
    · rename_i h
      refine ⟨?_, h2, fun x hx => ?_⟩
      · rcases h1 with h1 | ⟨x, hx, h1⟩
        · exact Or.inl h1
        · exact Or.inr ⟨x, Finset.mem_insert_of_mem hx, h1⟩
      · rcases Finset.mem_insert.mp hx with rfl | hx
        · exact not_lt.mp h
        · exact h3 x hx
/-- A lane number read as a number. -/
theorem word_toInt32 (e : Fin 32) : (BitVec.ofNat 32 e.val).toInt = (e.val : Int) := by
  revert e; decide
open Cert.KernelIdeal in
/-- The kernel's best score: the greatest of the 25, padding rows scoring zero. -/
theorem ker_top (n : Nat) (v : Fin 32 → EReal) (e : Fin 25) (he : First (fun e => score n (v ⟨e.val, by omega⟩)) e) :
    R1.top (R1.cell n v) = score n (v ⟨e.val, by omega⟩) := by
  unfold R1.top
  refine le_antisymm ?_ ?_
  · refine (Finset.fold_max_le _).mpr ⟨?_, fun x _ => ?_⟩
    · have hb : (Ideal.ofBits .f32 4286578688#32 : EReal) = ⊥ := by
        simp [Ideal.ofBits, Ideal.ieee]
      rw [hb]; exact bot_le
    · unfold R1.cell
      split
      · rename_i h
        exact he.top ⟨x.val, h⟩
      · exact score_nonneg n _
  · refine (Finset.le_fold_max _).mpr (Or.inr ⟨⟨e.val, by omega⟩, Finset.mem_univ _, ?_⟩)
    unfold R1.cell
    rw [if_pos e.isLt]
open Cert.KernelIdeal in
/-- The kernel's best row: the first of the greatest scores. -/
theorem ker_arg (n : Nat) (v : Fin 32 → EReal) (e : Fin 25) (he : First (fun e => score n (v ⟨e.val, by omega⟩)) e) :
    R1.arg (R1.cell n v) = BitVec.ofNat 32 e.val := by
  have ht := ker_top n v e he
  unfold R1.arg
  obtain ⟨h1, h2, h3⟩ := fold_min (fun x : Fin 32 => if R1.cell n v x = R1.top (R1.cell n v) then BitVec.ofNat 32 x.val else 131#32) 2147483647#32 Finset.univ
  have hc : R1.cell n v ⟨e.val, by omega⟩ = R1.top (R1.cell n v) := by
    rw [ht]; unfold R1.cell; rw [if_pos e.isLt]
  have hle := h3 ⟨e.val, by omega⟩ (Finset.mem_univ _)
  rw [if_pos hc, word_toInt32] at hle
  have hle' : (Finset.fold IntOp.minsi 2147483647#32 (fun x : Fin 32 => if R1.cell n v x = R1.top (R1.cell n v) then BitVec.ofNat 32 x.val else 131#32) Finset.univ).toInt ≤ (e.val : Int) := hle
  have hlt := e.isLt
  rcases h1 with h1 | ⟨x, _, h1⟩
  · exfalso
    rw [h1] at hle'
    have : (2147483647#32).toInt = 2147483647 := by decide
    omega
  · by_cases hx : R1.cell n v x = R1.top (R1.cell n v)
    · rw [if_pos hx] at h1
      rw [h1, word_toInt32] at hle'
      rw [h1]
      have hx25 : x.val < 25 := by omega
      have := he.least ⟨x.val, hx25⟩ (by rw [ht] at hx; unfold R1.cell at hx; rw [if_pos hx25] at hx; exact hx)
      have h' : e.val ≤ x.val := this
      exact congrArg (BitVec.ofNat 32) (by omega)
    · exfalso
      rw [if_neg hx] at h1
      rw [h1] at hle'
      have : (131#32).toInt = 131 := by decide
      omega
/-- A small number goes to a real and back. -/
theorem round_trip (e : Fin 25) : FloatOps.fptosi (F := Ideal) (φ := .f32) 32 (FloatOps.sitofp (F := Ideal) .f32 (BitVec.ofNat 32 e.val)) = BitVec.ofNat 32 e.val := by
  have h : FloatOps.sitofp (F := Ideal) .f32 (BitVec.ofNat 32 e.val) = (((e.val : ℝ)) : EReal) := by
    show (((BitVec.ofNat 32 e.val).toInt : ℝ) : EReal) = _
    rw [word_toInt]
    norm_cast
  rw [h]
  show Ideal.fptosi 32 _ = _
  rw [Ideal.fptosi, Ideal.toIntClamped_coe]
  fin_cases e <;> norm_num
end Cert.ReferenceIdeal.Whole
-- ==== Proof.RVal3.lean ====
module
public import proofs.«01_k».proof.Proof.RVal2
public import proofs.«01_k».proof.Proof.RArg
@[expose] public section
/-! The scores of the reference over its arguments. -/
set_option maxRecDepth 16384
noncomputable section
namespace Cert.ReferenceIdeal.Whole
open Cert.ReferenceIdeal Cert.ReferenceIdeal.Gen Idealize.ShloMosaic Idealize.ShloMosaic.TcCoe
open Idealize.ShloMosaic.StableHlo
open Cert.Spec
variable (m : (ℓ : Loc nD τ sig) → Buf (Elt Ideal) ℓ)

/-- The logits over the reference's arguments. -/
abbrev RL (c : Dev nD) : Fin 4 → Nat → Nat → Fin 32 → EReal :=
  LG (m ((c.tc : Thread nD τ).loc main_arg0)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10))
    (m ((c.tc : Thread nD τ).loc main_arg11))

/-- A first layer depends only on its row. -/
theorem hid_congr {A B : Fin 768 → EReal} {W V : FVec Ideal S768x512 .f32} {a b : FVec Ideal S512 .f32} (h : ∀ k, A k = B k) (hW : W = V) (hb : a = b) (x : Fin 512) :
    hid A W a x = hid B V b x := by
  rw [funext h, hW, hb]
/-- The entity rows' first layer. -/
theorem U19_v168 (c : Dev nD) (h : Drawn3 m c) (b : Fin 4) (e : Fin 25) (d : Fin 512) :
    (U19 m c main_v168 : FVec Ideal S4x25x512 .f32) (ix3 b e d) =
      hid (fun k => (m ((c.tc : Thread nD τ).loc main_arg0) : FVec Ideal S4x1024x768 .f32) (ix3 b ⟨e.val, by omega⟩ k))
        (m ((c.tc : Thread nD τ).loc main_arg4)) (m ((c.tc : Thread nD τ).loc main_arg5)) d := by
  have h4 := U18_arg m c main_arg4 (by decide)
  have h5 := U18_arg m c main_arg5 (by decide)
  fin_cases b
  · refine (hid0_at (U18 m c) e d).trans (hid_congr (fun k => ?_) h4 h5 d)
    rw [keep_v114_18]
    exact U_ent0 m c h e k
  · refine (hid1_at (U18 m c) e d).trans (hid_congr (fun k => ?_) h4 h5 d)
    rw [keep_v129_18]
    exact U_ent1 m c h e k
  · refine (hid2_at (U18 m c) e d).trans (hid_congr (fun k => ?_) h4 h5 d)
    rw [keep_v144_18]
    exact U_ent2 m c h e k
  · exact (hid3_at (U18 m c) e d).trans (hid_congr (fun k => U_ent3 m c h e k) h4 h5 d)
/-- The entity rows' hidden layer. -/
theorem U20_v173 (c : Dev nD) (h : Drawn3 m c) (b : Fin 4) (e : Fin 25) (d : Fin 512) :
    (U20 m c main_v173 : FVec Ideal S4x25x512 .f32) (ix3 b e d) =
      leak (hid (fun k => (m ((c.tc : Thread nD τ).loc main_arg0) : FVec Ideal S4x1024x768 .f32) (ix3 b ⟨e.val, by omega⟩ k))
        (m ((c.tc : Thread nD τ).loc main_arg4)) (m ((c.tc : Thread nD τ).loc main_arg5)) d) := by
  refine (v173_at (U19 m c) b e d).trans ?_
  have h1 := v170_at (U18 m c) b e d
  have h2 := v172_at (U18 m c) b e d
  have h0 := U19_v168 m c h b e d
  have hz := leak_at ((U19 m c main_v168 : FVec Ideal S4x25x512 .f32) (ix3 b e d))
  refine Eq.trans (congrArg₂ (fun p q => Scalar.select p ((U19 m c main_v168 : FVec Ideal S4x25x512 .f32) (ix3 b e d)) q) h1 h2) ?_
  exact hz.trans (congrArg leak h0)
/-- The entity representations. -/
theorem U22_v177 (c : Dev nD) (h : Drawn3 m c) (b : Fin 4) (e : Fin 25) (d : Fin 768) :
    (U22 m c main_v177 : FVec Ideal S4x25x768 .f32) (ix3 b e d) =
      entRep (fun k => (m ((c.tc : Thread nD τ).loc main_arg0) : FVec Ideal S4x1024x768 .f32) (ix3 b ⟨e.val, by omega⟩ k))
        (m ((c.tc : Thread nD τ).loc main_arg4)) (m ((c.tc : Thread nD τ).loc main_arg5)) (m ((c.tc : Thread nD τ).loc main_arg6)) (m ((c.tc : Thread nD τ).loc main_arg7)) d := by
  rw [keep_v177_22]
  refine (v177_at (U20 m c) b e d).trans ?_
  rw [U20_arg m c main_arg6 (by decide), U20_arg m c main_arg7 (by decide)]
  exact congrArg (fun f => layer2 f (m ((c.tc : Thread nD τ).loc main_arg6)) (m ((c.tc : Thread nD τ).loc main_arg7)) d) (funext fun x => U20_v173 m c h b e x)
/-- The spans' first layer. -/
theorem U21_v208 (c : Dev nD) (h : Drawn3 m c) (b : Fin 4) (n : Fin 5760) (d : Fin 512) :
    (U21 m c main_v208 : FVec Ideal S4x5760x512 .f32) (ix3 b n d) =
      hid2 (avg (m ((c.tc : Thread nD τ).loc main_arg0)) b ⟨min (n.val / 12) 479, by omega⟩) (avg (m ((c.tc : Thread nD τ).loc main_arg0)) b ⟨min (n.val / 12 + n.val % 12) 479, by omega⟩)
        (m ((c.tc : Thread nD τ).loc main_arg8)) (m ((c.tc : Thread nD τ).loc main_arg9)) d := by
  refine (v208_at (U20 m c) b n d).trans ?_
  rw [U20_arg m c main_arg8 (by decide), U20_arg m c main_arg9 (by decide)]
  refine congrArg₂ (fun f g => hid2 f g (m ((c.tc : Thread nD τ).loc main_arg8)) (m ((c.tc : Thread nD τ).loc main_arg9)) d) (funext fun x => ?_) (funext fun x => ?_)
  · exact (v196_at (U20 m c) b n x).trans (U20_v99 m c h b _ x)
  · exact (v203_at (U20 m c) b n x).trans (U20_v99 m c h b _ x)
/-- The spans' hidden layer. -/
theorem U22_v213 (c : Dev nD) (h : Drawn3 m c) (b : Fin 4) (n : Fin 5760) (d : Fin 512) :
    (U22 m c main_v213 : FVec Ideal S4x5760x512 .f32) (ix3 b n d) =
      leak (hid2 (avg (m ((c.tc : Thread nD τ).loc main_arg0)) b ⟨min (n.val / 12) 479, by omega⟩) (avg (m ((c.tc : Thread nD τ).loc main_arg0)) b ⟨min (n.val / 12 + n.val % 12) 479, by omega⟩)
        (m ((c.tc : Thread nD τ).loc main_arg8)) (m ((c.tc : Thread nD τ).loc main_arg9)) d) := by
  refine (v213_at (U21 m c) b n d).trans ?_
  have h1 := v210_at (U20 m c) b n d
  have h2 := v212_at (U20 m c) b n d
  have h0 := U21_v208 m c h b n d
  have hz := leak_at ((U21 m c main_v208 : FVec Ideal S4x5760x512 .f32) (ix3 b n d))
  refine Eq.trans (congrArg₂ (fun p q => Scalar.select p ((U21 m c main_v208 : FVec Ideal S4x5760x512 .f32) (ix3 b n d)) q) h1 h2) ?_
  exact hz.trans (congrArg leak h0)
/-- The reference's scores. -/
theorem U23_v228 (c : Dev nD) (h : Drawn3 m c) (b : Fin 4) (n : Fin 5760) (e : Fin 25) :
    (U23 m c main_v228 : FVec Ideal S4x5760x25 .f32) (ix3 b n e) =
      score (n.val / 12 + n.val % 12) (RL m c b (n.val / 12) (n.val / 12 + n.val % 12) ⟨e.val, by omega⟩) := by
  refine (v228_at (U22 m c) b n e).trans ?_
  unfold score
  refine congrArg₂ (fun p q : EReal => Ideal.logistic p * q) ?_ ?_
  · unfold RL LG logit
    refine Finset.sum_congr rfl fun d _ => ?_
    rw [mul_comm]
    refine congrArg₂ (fun p q : EReal => p * q) (U22_v177 m c h b e d) ?_
    rw [U22_arg m c main_arg10 (by decide), U22_arg m c main_arg11 (by decide)]
    unfold spanRep
    exact congrArg (fun f => layer2 f (m ((c.tc : Thread nD τ).loc main_arg10)) (m ((c.tc : Thread nD τ).loc main_arg11)) d) (funext fun x => U22_v213 m c h b n x)
  · rw [keep_v187_22]
    refine (congrArg (FloatOps.uitofp (F := Ideal) .f32) (v187_at (U20 m c) n)).trans ?_
    exact valid_at ⟨n.val / 12, by omega⟩ ⟨n.val % 12, by omega⟩
/-- A greatest element along the last axis. -/
theorem reduce_max_at (X : FVec Ideal S4x5760x25 .f32) (b : Fin 4) (n : Fin 5760) :
    Host.reduce (FloatOps.maximumf (F := Ideal)) X (constant S_ FTy.f32 4286578688#32) reducesTo_S4x5760x25_S4x5760_d2 h_S_ (ix2 b n) =
      Finset.fold max (Ideal.ofBits .f32 4286578688#32) (fun e => (X (ix3 b n e) : EReal)) Finset.univ := by
  pointwise []
/-- The best scores. -/
theorem v229_at (W : Valuation τ sig (Elt Ideal)) (b : Fin 4) (n : Fin 5760) :
    (after hostOps0_22 W main_v229 : FVec Ideal S4x5760 .f32) (ix2 b n) = Finset.fold max (Ideal.ofBits .f32 4286578688#32)
      (fun e => ((after hostOps0_22 W main_v228 : FVec Ideal S4x5760x25 .f32) (ix3 b n e) : EReal)) Finset.univ := by
  after_reads_simp
  exact reduce_max_at _ b n
/-- The best rows. -/
theorem v230_at (W : Valuation τ sig (Elt Ideal)) (b : Fin 4) (n : Fin 5760) :
    (after hostOps0_23 W main_v230 : IVec S4x5760 32) (ix2 b n) =
      (Host.argReduce reducer_argmax_f32_i32 (W main_v228 : FVec Ideal S4x5760x25 .f32) (iotaInDim S4x5760x25 32 2)
        (constant (F := Ideal) S_ FTy.f32 4286578688#32) (constantI S_ 32 0#32) reducesTo_S4x5760x25_S4x5760_d2 h_S_ (ix2 b n)).2 := by
  after_reads_at
/-- The reference's best row is the first of the greatest scores. -/
theorem U24_v230 (c : Dev nD) (h : Drawn3 m c) (b : Fin 4) (n : Fin 5760) : ∃ e : Fin 25,
    First (fun e => score (n.val / 12 + n.val % 12) (RL m c b (n.val / 12) (n.val / 12 + n.val % 12) ⟨e.val, by omega⟩)) e ∧
      (U24 m c main_v230 : IVec S4x5760 32) (ix2 b n) = BitVec.ofNat 32 e.val := by
  have hs := fun e => U23_v228 m c h b n e
  obtain ⟨e, he, hv⟩ := ref_arg (U23 m c main_v228) b n (fun e => by rw [hs e]; exact score_nonneg _ _)
  refine ⟨e, ?_, (v230_at (U23 m c) b n).trans hv⟩
  rw [← funext hs]
  exact he
end Cert.ReferenceIdeal.Whole
-- ==== Proof.PreMasks.lean ====
module
public import proofs.«01_k».proof.Defs
public import proofs.«01_k».proof.Proof.RVal0
@[expose] public section
/-! The precondition, read as the masks the setup draws. -/
set_option maxRecDepth 16384
noncomputable section
namespace Cert.Proof
open Idealize.ShloMosaic Idealize.ShloMosaic.TcCoe

/-- The side conditions of the precondition. -/
theorem preFacts : Cert.Pre_masks_as_drawn.Facts := ⟨by decide, by decide⟩
/-- The word mask's bit of a token. -/
def inW (l : Nat) : BitVec 1 :=
  IntOp.andi (IntOp.cmpi .sge (BitVec.ofNat 32 l) 25#32) (IntOp.cmpi .slt (BitVec.ofNat 32 l) 985#32)

/-- The word mask of a token. -/
theorem inW_mask (l : Fin 1024) : (inW l.val).setWidth 32 = if 25 ≤ l.val ∧ l.val < 985 then 1#32 else 0#32 := by
  revert l; decide +kernel
/-- The word number of a token. -/
theorem inW_word (l : Fin 1024) : (if inW l.val = 1#1 then IntOp.shrsi .host (IntOp.subi (BitVec.ofNat 32 l.val) 25#32) 1#32 else 4294967295#32)
    = if 25 ≤ l.val ∧ l.val < 985 then BitVec.ofNat 32 ((l.val - 25) / 2) else 4294967295#32 := by
  revert l; decide +kernel
/-- The entity mask of a token. -/
theorem inE_mask (l : Fin 1024) : (IntOp.cmpi .slt (BitVec.ofNat 32 l.val) 25#32).setWidth 32 = if l.val < 25 then 1#32 else 0#32 := by
  revert l; decide +kernel

/-- A conjunction of two bits that is one has both bits one. -/
theorem and_ones {x y : BitVec 1} (h : IntOp.andi x y = 1#1) : x = 1#1 ∧ y = 1#1 := by
  revert x y; decide
/-- The bit of an equality that holds. -/
theorem eq_of_bit {x y : BitVec 32} (h : IntOp.cmpi .eq x y = 1#1) : x = y := by
  by_contra hn
  have : IntOp.cmpi .eq x y = 0#1 := by
    show BitVec.ofBool (x == y) = 0#1
    rw [beq_eq_false_iff_ne.mpr hn]
    rfl
  rw [this] at h
  exact absurd h (by decide)

/-- The precondition says that the masks are as drawn. -/
theorem masks_of (a0 : FVec Ideal ⟨3, ![4, 1024, 768]⟩ .f32) (a1 a2 a3 : IVec ⟨2, ![4, 1024]⟩ 32) (a4 : FVec Ideal ⟨2, ![768, 512]⟩ .f32) (a5 : FVec Ideal ⟨1, ![512]⟩ .f32)
    (a6 : FVec Ideal ⟨2, ![512, 768]⟩ .f32) (a7 : FVec Ideal ⟨1, ![768]⟩ .f32) (a8 : FVec Ideal ⟨2, ![1536, 512]⟩ .f32) (a9 : FVec Ideal ⟨1, ![512]⟩ .f32)
    (a10 : FVec Ideal ⟨2, ![512, 768]⟩ .f32) (a11 : FVec Ideal ⟨1, ![768]⟩ .f32)
    (h : letI := preFacts; Cert.Pre_masks_as_drawn.fn (F := Ideal) a0 a1 a2 a3 a4 a5 a6 a7 a8 a9 a10 a11 = fun _ => 1#1) :
    Cert.ReferenceIdeal.Whole.Masks a1 a2 a3 := by
  have key : ∀ (b : Fin 4) (l : Fin 1024), a1 (ix2 b l) = (inW l.val).setWidth 32 ∧
      a2 (ix2 b l) = (if inW l.val = 1#1 then IntOp.shrsi .host (IntOp.subi (BitVec.ofNat 32 l.val) 25#32) 1#32 else 4294967295#32) ∧
      a3 (ix2 b l) = (IntOp.cmpi .slt (BitVec.ofNat 32 l.val) 25#32).setWidth 32 := by
    intro b l
    have e := congrFun h (ix2 b l)
    unfold Cert.Pre_masks_as_drawn.fn Cert.Pre_masks_as_drawn.fn_part1 Cert.Pre_masks_as_drawn.fn_where at e
    pointwise at e
    obtain ⟨e', e3⟩ := and_ones e
    obtain ⟨e1, e2⟩ := and_ones e'
    exact ⟨eq_of_bit e1, eq_of_bit e2, eq_of_bit e3⟩
  exact ⟨fun b l => (key b l).1.trans (inW_mask l), fun b l => (key b l).2.1.trans (inW_word l), fun b l => (key b l).2.2.trans (inE_mask l)⟩

end Cert.Proof
-- ==== Proof.Agree.lean ====
module
public import proofs.«01_k».proof.Defs
public import proofs.«01_k».proof.Proof.Frames
public import proofs.«01_k».proof.Proof.KHost
public import proofs.«01_k».proof.Proof.RVal3
public import proofs.«01_k».proof.Proof.PreMasks
@[expose] public section
/-! The kernel's results against the reference's, over equal arguments. -/
set_option maxRecDepth 16384
noncomputable section
namespace Cert.Proof
open Idealize.ShloMosaic Idealize.ShloMosaic.TcCoe Idealize.ShloMosaic.StableHlo Idealize.SL.Sem
open Cert.Spec

/-- A memory of the kernel. -/
abbrev MemK := (ℓ : Loc Cert.KernelIdeal.nD Cert.KernelIdeal.τ Cert.KernelIdeal.sig) → Buf (Elt Ideal) ℓ
/-- A memory of the reference. -/
abbrev MemR := (ℓ : Loc Cert.ReferenceIdeal.nD Cert.ReferenceIdeal.τ Cert.ReferenceIdeal.sig) → Buf (Elt Ideal) ℓ

/-- The two memories hold the same arguments on a core, and its masks are as drawn. -/
structure Same (m : MemK) (m' : MemR) (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  masks : Cert.ReferenceIdeal.Whole.Drawn3 m' c

variable {m : MemK} {m' : MemR} {c : Dev Cert.KernelIdeal.nD}

/-- The logits of the two programs agree. -/
theorem logits_eq (h : Same m m' c) : Cert.ReferenceIdeal.Whole.RL m' c = Cert.KernelIdeal.Whole.KL m c := by
  unfold Cert.ReferenceIdeal.Whole.RL Cert.KernelIdeal.Whole.KL
  rw [h.a0, h.a4, h.a5, h.a6, h.a7, h.a8, h.a9, h.a10, h.a11]

/-- What the reference leaves in a buffer that its loop does not write. -/
abbrev RF (m' : MemR) (c : Dev Cert.KernelIdeal.nD) (r : Ref Cert.ReferenceIdeal.sig .tc) :=
  finalContents Cert.ReferenceIdeal.Value.condOps (Cert.ReferenceIdeal.Value.preI (F := Ideal)) Cert.ReferenceIdeal.Value.bodyI Cert.ReferenceIdeal.Value.postI 512 m' c r
/-- What the kernel leaves in a buffer. -/
abbrev KF (m : MemK) (c : Dev Cert.KernelIdeal.nD) (r : Ref Cert.KernelIdeal.sig .tc) :=
  Cert.KernelIdeal.Gen.V7 m (Cert.KernelIdeal.Whole.outs m) c r

/-- The scores agree. -/
theorem scores_agree (h : Same m m' c) (i : (⟨3, ![4, 5760, 25]⟩ : Shape).Idx) :
    (KF m c Cert.KernelIdeal.main_v10 : FVec Ideal ⟨3, ![4, 5760, 25]⟩ .f32) i = (RF m' c Cert.ReferenceIdeal.main_v228 : FVec Ideal ⟨3, ![4, 5760, 25]⟩ .f32) i := by
  obtain ⟨b, n, e, rfl⟩ : ∃ b n e, i = ix3 b n e := ⟨_, _, _, eq_ix3 i⟩
  have hk : KF m c Cert.KernelIdeal.main_v10 = Cert.KernelIdeal.Gen.V5 m (Cert.KernelIdeal.Whole.outs m) c Cert.KernelIdeal.main_v10 :=
    (Cert.KernelIdeal.Gen.V7_of m (Cert.KernelIdeal.Whole.outs m) c Cert.KernelIdeal.main_v10 (by decide)).trans (Cert.KernelIdeal.Gen.V6_of m (Cert.KernelIdeal.Whole.outs m) c Cert.KernelIdeal.main_v10 (by decide))
  have hr : RF m' c Cert.ReferenceIdeal.main_v228 = Cert.ReferenceIdeal.Whole.U23 m' c Cert.ReferenceIdeal.main_v228 :=
    (Cert.ReferenceIdeal.Whole.final_of m' c Cert.ReferenceIdeal.main_v228 (by decide)).trans
      ((congrFun (Cert.ReferenceIdeal.Whole.entry_eq m' c) _).trans (Cert.ReferenceIdeal.Whole.keep_v228_27 m' c))
  refine (congrFun hk _).trans ((Cert.KernelIdeal.Whole.K10 m c b n e).trans (Eq.symm ((congrFun hr _).trans ?_)))
  rw [← logits_eq h]
  exact Cert.ReferenceIdeal.Whole.U23_v228 m' c h.masks b n e

/-- The best entity rows agree. -/
theorem rows_agree (h : Same m m' c) (i : (⟨2, ![4, 5760]⟩ : Shape).Idx) :
    (KF m c Cert.KernelIdeal.main_v17 : IVec ⟨2, ![4, 5760]⟩ 32) i = (RF m' c Cert.ReferenceIdeal.main_v230 : IVec ⟨2, ![4, 5760]⟩ 32) i := by
  obtain ⟨b, n, rfl⟩ : ∃ b n, i = ix2 b n := ⟨_, _, eq_ix2 i⟩
  have hk : KF m c Cert.KernelIdeal.main_v17 = Cert.KernelIdeal.Gen.V5 m (Cert.KernelIdeal.Whole.outs m) c Cert.KernelIdeal.main_v17 :=
    (Cert.KernelIdeal.Gen.V7_of m (Cert.KernelIdeal.Whole.outs m) c Cert.KernelIdeal.main_v17 (by decide)).trans (Cert.KernelIdeal.Gen.V6_of m (Cert.KernelIdeal.Whole.outs m) c Cert.KernelIdeal.main_v17 (by decide))
  have hr : RF m' c Cert.ReferenceIdeal.main_v230 = Cert.ReferenceIdeal.Whole.U24 m' c Cert.ReferenceIdeal.main_v230 :=
    (Cert.ReferenceIdeal.Whole.final_of m' c Cert.ReferenceIdeal.main_v230 (by decide)).trans
      ((congrFun (Cert.ReferenceIdeal.Whole.entry_eq m' c) _).trans (Cert.ReferenceIdeal.Whole.keep_v230_27 m' c))
  obtain ⟨e, he, hv⟩ := Cert.ReferenceIdeal.Whole.U24_v230 m' c h.masks b n
  refine (congrFun hk _).trans ((Cert.KernelIdeal.Whole.K17 m c b n).trans (Eq.symm ((congrFun hr _).trans (hv.trans ?_))))
  rw [← logits_eq h, Cert.ReferenceIdeal.Whole.ker_arg _ _ e he, Cert.ReferenceIdeal.Whole.round_trip]

end Cert.Proof
-- ==== Proof.Greedy.lean ====
module
public import proofs.«01_k».proof.Proof.RArg
public import Idealize.ShloMosaic.Lib.SortFacts
@[expose] public section
/-! Choosing the greatest entry again and again is sorting; marking covered words is suppressing overlapping spans. -/
noncomputable section
namespace Cert.Spec
open Idealize.ShloMosaic

/-! ## The ranks -/

/-- `q` lists the places of `x` by descending entry, equal entries by ascending place. -/
structure Ranks (x : Fin 5760 → EReal) (q : ℕ → Fin 5760) : Prop where
  ord : ∀ s t, s < t → t < 5760 → x (q t) < x (q s) ∨ (x (q s) = x (q t) ∧ q s < q t)
  sur : ∀ n, ∃ s, s < 5760 ∧ q s = n

/-- Different ranks are at different places. -/
theorem Ranks.inj {x : Fin 5760 → EReal} {q : ℕ → Fin 5760} (h : Ranks x q) {s t : ℕ} (hst : s < t) (ht : t < 5760) : q s ≠ q t := by
  intro e
  rcases h.ord s t hst ht with h1 | ⟨-, h1⟩
  · rw [e] at h1; exact lt_irrefl _ h1
  · rw [e] at h1; exact lt_irrefl _ h1

open Classical in
/-- What is left of `x` once its first `t` ranks are struck out. -/
def rest (lo : EReal) (x : Fin 5760 → EReal) (q : ℕ → Fin 5760) (t : ℕ) (n : Fin 5760) : EReal := if ∃ s, s < t ∧ q s = n then lo else x n

variable {lo : EReal} {x : Fin 5760 → EReal} {q : ℕ → Fin 5760}

/-- Nothing is struck out at first. -/
theorem rest_zero (n : Fin 5760) : rest lo x q 0 n = x n := by
  unfold rest
  rw [if_neg]
  rintro ⟨s, hs, -⟩
  exact absurd hs (Nat.not_lt_zero s)

/-- Striking out one more rank. -/
theorem rest_succ (t : ℕ) (n : Fin 5760) : (if n = q t then lo else rest lo x q t n) = rest lo x q (t + 1) n := by
  unfold rest
  by_cases h : n = q t
  · rw [if_pos h, if_pos ⟨t, Nat.lt_succ_self t, h.symm⟩]
  · rw [if_neg h]
    refine if_congr ⟨fun ⟨s, hs, e⟩ => ⟨s, Nat.lt_succ_of_lt hs, e⟩, fun ⟨s, hs, e⟩ => ⟨s, ?_, e⟩⟩ rfl rfl
    rcases Nat.lt_succ_iff_lt_or_eq.mp hs with h1 | h1
    · exact h1
    · rw [h1] at e; exact absurd e.symm h

/-- The next rank is not struck out yet. -/
theorem rest_at (hq : Ranks x q) {t : ℕ} (ht : t < 5760) : rest lo x q t (q t) = x (q t) := by
  unfold rest
  rw [if_neg]
  rintro ⟨s, hs, e⟩
  exact hq.inj hs ht e

/-- The next rank holds the greatest entry left. -/
theorem rest_le (hq : Ranks x q) (hlo : ∀ n, lo < x n) {t : ℕ} (ht : t < 5760) (n : Fin 5760) : rest lo x q t n ≤ x (q t) := by
  unfold rest
  split
  · exact (hlo _).le
  · next h =>
    obtain ⟨s, hs, rfl⟩ := hq.sur n
    rcases Nat.lt_trichotomy s t with h1 | h1 | h1
    · exact absurd ⟨s, h1, rfl⟩ h
    · rw [h1]
    · rcases hq.ord t s h1 hs with h2 | ⟨h2, -⟩
      · exact h2.le
      · exact h2.ge

/-- The next rank is the first place of the greatest entry left. -/
theorem rest_first (hq : Ranks x q) (hlo : ∀ n, lo < x n) {t : ℕ} (ht : t < 5760) (n : Fin 5760) (h : rest lo x q t n = x (q t)) : q t ≤ n := by
  unfold rest at h
  split at h
  · exact absurd h (hlo _).ne
  · next hn =>
    obtain ⟨s, hs, rfl⟩ := hq.sur n
    rcases Nat.lt_trichotomy s t with h1 | h1 | h1
    · exact absurd ⟨s, h1, rfl⟩ hn
    · rw [h1]
    · rcases hq.ord t s h1 hs with h2 | ⟨-, h2⟩
      · exact absurd h h2.ne
      · exact h2.le

/-- The maximum of what is left. -/
theorem rest_max (hq : Ranks x q) (hlo : ∀ n, lo < x n) {t : ℕ} (ht : t < 5760) {bot : EReal} (hb : bot ≤ x (q t)) :
    Finset.fold max bot (rest lo x q t) Finset.univ = x (q t) := by
  refine le_antisymm ((Finset.fold_max_le _).mpr ⟨hb, fun n _ => rest_le hq hlo ht n⟩) ?_
  exact (Finset.le_fold_max _).mpr (Or.inr ⟨q t, Finset.mem_univ _, (rest_at hq ht).ge⟩)

/-- A small number as a signed word. -/
theorem place_toInt (n : ℕ) (h : n < 2 ^ 31) : (BitVec.ofNat 32 n).toInt = n := by
  rw [BitVec.toInt_ofNat']
  refine Int.bmod_eq_of_le ?_ ?_ <;> omega

/-- The first place of the maximum of what is left. -/
theorem rest_arg (hq : Ranks x q) (hlo : ∀ n, lo < x n) {t : ℕ} (ht : t < 5760) (f : Fin 5760 → BitVec 32)
    (hf : ∀ n, f n = if rest lo x q t n = x (q t) then BitVec.ofNat 32 n.val else 5760#32) :
    Finset.fold IntOp.minsi 2147483647#32 f Finset.univ = BitVec.ofNat 32 (q t).val := by
  obtain ⟨h1, h2, h3⟩ := Cert.ReferenceIdeal.Whole.fold_min f 2147483647#32 Finset.univ
  have ha : f (q t) = BitVec.ofNat 32 (q t).val := by rw [hf, if_pos (rest_at hq ht)]
  have hle := h3 (q t) (Finset.mem_univ _)
  rw [ha, place_toInt _ (by omega)] at hle
  have hI : (2147483647#32 : BitVec 32).toInt = 2147483647 := by decide
  rcases h1 with h1 | ⟨n, -, h1⟩
  · rw [h1, hI] at hle
    have := (q t).isLt
    omega
  · rw [h1, hf] at hle
    rw [h1, hf]
    split at hle
    · next hn =>
      rw [if_pos hn]
      have h4 := rest_first hq hlo ht n hn
      rw [place_toInt _ (by omega)] at hle
      have : n = q t := Fin.ext (le_antisymm (by exact_mod_cast hle) h4)
      rw [this]
    · have hB : (5760#32 : BitVec 32).toInt = 5760 := by decide
      rw [hB] at hle
      have := (q t).isLt
      omega

/-! ## The suppression -/

/-- Rank `j` is suppressed by one of the first `t` ranks: `hi` says which ranks are above the threshold, `ov` which overlap. -/
def supp (hi : ℕ → Prop) (ov : ℕ → ℕ → Prop) : ℕ → ℕ → Prop
  | 0, _ => False
  | t + 1, j => supp hi ov t j ∨ ((¬ supp hi ov t t ∧ hi t) ∧ ov t j ∧ t < j)

/-- Rank `t` is chosen. -/
def chosen (hi : ℕ → Prop) (ov : ℕ → ℕ → Prop) (t : ℕ) : Prop := ¬ supp hi ov t t ∧ hi t

/-- Word `w` is covered by one of the first `t` ranks: `sp` says which words a rank spans. -/
def cov (hi : ℕ → Prop) (sp : ℕ → ℕ → Prop) : ℕ → ℕ → Prop
  | 0, _ => False
  | t + 1, w => (sp t w ∧ hi t ∧ ∀ v, v < 480 → sp t v → ¬ cov hi sp t v) ∨ cov hi sp t w

/-- Rank `t` is taken. -/
def taken (hi : ℕ → Prop) (sp : ℕ → ℕ → Prop) (t : ℕ) : Prop := hi t ∧ ∀ v, v < 480 → sp t v → ¬ cov hi sp t v

variable {hi : ℕ → Prop} {ov sp : ℕ → ℕ → Prop}

/-- Suppressed is overlapping an earlier chosen rank. -/
theorem supp_iff (t j : ℕ) : supp hi ov t j ↔ ∃ s, s < t ∧ chosen hi ov s ∧ ov s j ∧ s < j := by
  induction t with
  | zero => exact ⟨fun h => h.elim, fun ⟨s, hs, _⟩ => absurd hs (Nat.not_lt_zero s)⟩
  | succ t ih =>
    show supp hi ov t j ∨ (chosen hi ov t ∧ ov t j ∧ t < j) ↔ _
    rw [ih]
    constructor
    · rintro (⟨s, hs, h⟩ | h)
      · exact ⟨s, Nat.lt_succ_of_lt hs, h⟩
      · exact ⟨t, Nat.lt_succ_self t, h⟩
    · rintro ⟨s, hs, h⟩
      rcases Nat.lt_succ_iff_lt_or_eq.mp hs with h1 | h1
      · exact Or.inl ⟨s, h1, h⟩
      · subst h1; exact Or.inr h

/-- Covered is spanned by an earlier taken rank. -/
theorem cov_iff (t w : ℕ) : cov hi sp t w ↔ ∃ s, s < t ∧ taken hi sp s ∧ sp s w := by
  induction t with
  | zero => exact ⟨fun h => h.elim, fun ⟨s, hs, _⟩ => absurd hs (Nat.not_lt_zero s)⟩
  | succ t ih =>
    show (sp t w ∧ taken hi sp t) ∨ cov hi sp t w ↔ _
    rw [ih]
    constructor
    · rintro (⟨h, h'⟩ | ⟨s, hs, h⟩)
      · exact ⟨t, Nat.lt_succ_self t, h', h⟩
      · exact ⟨s, Nat.lt_succ_of_lt hs, h⟩
    · rintro ⟨s, hs, h, h'⟩
      rcases Nat.lt_succ_iff_lt_or_eq.mp hs with h1 | h1
      · exact Or.inr ⟨s, h1, h, h'⟩
      · subst h1; exact Or.inl ⟨h', h⟩

/-- The two ways of choosing agree, when overlapping is sharing a word. -/
theorem taken_iff (ho : ∀ s t, ov s t ↔ ∃ w, w < 480 ∧ sp s w ∧ sp t w) (t : ℕ) : taken hi sp t ↔ chosen hi ov t := by
  induction t using Nat.strong_induction_on with
  | _ t ih =>
    unfold taken chosen
    rw [supp_iff, and_comm]
    refine and_congr_left fun _ => ?_
    constructor
    · rintro h ⟨s, hs, hc, h', -⟩
      obtain ⟨w, hw, h1, h2⟩ := (ho s t).mp h'
      exact h w hw h2 ((cov_iff t w).mpr ⟨s, hs, (ih s hs).mpr hc, h1⟩)
    · intro h w hw h2 hc
      obtain ⟨s, hs, h3, h1⟩ := (cov_iff t w).mp hc
      exact h ⟨s, hs, (ih s hs).mp h3, (ho s t).mpr ⟨w, hw, h1, h2⟩, hs⟩

/-- The first word of the span at place `n`. -/
def first (n : Fin 5760) : ℕ := n.val / 12
/-- The last word of the span at place `n`. -/
def last (n : Fin 5760) : ℕ := n.val / 12 + n.val % 12
/-- Two spans share a word when neither ends before the other starts. -/
theorem share (n k : Fin 5760) : ¬ (last k < first n ∨ last n < first k) ↔ ∃ w, w < 480 ∧ (first n ≤ w ∧ w ≤ last n) ∧ (first k ≤ w ∧ w ≤ last k) := by
  unfold first last
  constructor
  · intro h
    exact ⟨max (n.val / 12) (k.val / 12), by omega, by omega, by omega⟩
  · rintro ⟨w, hw, h1, h2⟩
    omega

end Cert.Spec
-- ==== Proof.KWord.lean ====
module
public import proofs.«01_k».proof.Proof.Greedy
public import Idealize.ShloMosaic.Lib.Pointwise
@[expose] public section
/-! The integer words of a span: its first and its last position from its place, and the tests of the decoding loop. -/
set_option maxRecDepth 16384
noncomputable section
namespace Cert.KernelIdeal.R2
open Idealize.ShloMosaic
open Cert.Spec

/-- The floor division by 12 the kernel writes out. -/
abbrev startW (p : BitVec 32) : BitVec 32 :=
  Scalar.select (IntOp.andi (IntOp.cmpi .ne (IntOp.subi (IntOp.cmpi .sgt p 0#32 |>.setWidth 32) (IntOp.cmpi .slt p 0#32 |>.setWidth 32))
      (Scalar.subi (Scalar.extui (Scalar.cmpi .sgt 12#32 0#32)) (Scalar.extui (Scalar.cmpi .slt 12#32 0#32)))) (IntOp.cmpi .ne (IntOp.remsi .vector p 12#32) 0#32))
    (IntOp.subi (IntOp.divsi .vector p 12#32) 1#32) (IntOp.divsi .vector p 12#32)
/-- The width word the kernel divides by. -/
abbrev twelve : BitVec 32 := Scalar.select (Scalar.cmpi .eq 12#32 0#32) 1#32 12#32
/-- The remainder by 12 the kernel writes out, of nonnegative sign. -/
abbrev modW (p : BitVec 32) : BitVec 32 :=
  Scalar.select (IntOp.andi (IntOp.xori (IntOp.cmpi .slt (IntOp.remsi .vector p twelve) 0#32) (Scalar.cmpi .slt twelve 0#32)) (IntOp.cmpi .ne (IntOp.remsi .vector p twelve) 0#32))
    (IntOp.addi (IntOp.remsi .vector p twelve) twelve) (IntOp.remsi .vector p twelve)

/-- The kernel's division gives the first word of the span. -/
theorem startW_at (n : Fin 5760) : startW (BitVec.ofNat 32 n.val) = BitVec.ofNat 32 (first n) := by
  unfold first; revert n; decide +kernel
/-- The kernel's remainder gives the width of the span less one. -/
theorem lastW_at (n : Fin 5760) : IntOp.addi (BitVec.ofNat 32 (first n)) (modW (BitVec.ofNat 32 n.val)) = BitVec.ofNat 32 (last n) := by
  unfold first last; revert n; decide +kernel

/-- Comparing small words for order. -/
theorem sle_at (m n : ℕ) (hm : m < 2 ^ 31) (hn : n < 2 ^ 31) : IntOp.cmpi .sle (BitVec.ofNat 32 m) (BitVec.ofNat 32 n) = BitVec.ofBool (decide (m ≤ n)) := by
  show BitVec.ofBool (decide ((BitVec.ofNat 32 m).toInt ≤ (BitVec.ofNat 32 n).toInt)) = _
  rw [place_toInt m hm, place_toInt n hn]
  exact congrArg BitVec.ofBool (decide_eq_decide.mpr Nat.cast_le)
/-- The same from the other side. -/
theorem sge_at (m n : ℕ) (hm : m < 2 ^ 31) (hn : n < 2 ^ 31) : IntOp.cmpi .sge (BitVec.ofNat 32 m) (BitVec.ofNat 32 n) = BitVec.ofBool (decide (n ≤ m)) :=
  sle_at n m hn hm
/-- Comparing small words for equality. -/
theorem eq_at (m n : ℕ) (hm : m < 2 ^ 31) (hn : n < 2 ^ 31) : IntOp.cmpi .eq (BitVec.ofNat 32 m) (BitVec.ofNat 32 n) = BitVec.ofBool (decide (m = n)) := by
  show BitVec.ofBool (BitVec.ofNat 32 m == BitVec.ofNat 32 n) = _
  refine congrArg BitVec.ofBool ?_
  by_cases h : m = n
  · subst h; simp
  · rw [decide_eq_false h, beq_eq_false_iff_ne]
    intro e
    exact h (by have := congrArg BitVec.toInt e; rw [place_toInt m hm, place_toInt n hn] at this; exact_mod_cast this)
/-- The conjunction of two decided bits. -/
theorem and_bits (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]
/-- A selection by a decided bit. -/
theorem select_bit {α : Type} (p : Prop) [Decidable p] (x y : α) : Scalar.select (BitVec.ofBool (decide p)) x y = if p then x else y := by
  by_cases hp : p <;> simp [hp, Scalar.select]
/-- A word of the sentence is in a span exactly when it lies between the span's ends. -/
theorem span_bit (n : Fin 5760) (w : Fin 480) :
    IntOp.andi (IntOp.cmpi .sge (BitVec.ofNat 32 w.val) (BitVec.ofNat 32 (first n))) (IntOp.cmpi .sle (BitVec.ofNat 32 w.val) (BitVec.ofNat 32 (last n)))
      = BitVec.ofBool (decide (first n ≤ w.val ∧ w.val ≤ last n)) := by
  have h1 : first n < 2 ^ 31 := by unfold first; omega
  have h2 : last n < 2 ^ 31 := by unfold last; omega
  rw [sge_at _ _ (by omega) h1, sle_at _ _ (by omega) h2, and_bits]
/-- The loop's counter. -/
theorem iv_at (k : ℕ) : Scf.iv 0#32 1#32 k = BitVec.ofNat 32 k := by
  unfold Scf.iv
  rw [BitVec.zero_add, BitVec.mul_one]
/-- Writing at the trip's column. -/
theorem column {α : Type} (t : ℕ) (ht : t < 512) (j : Fin 512) (x y : α) :
    Scalar.select (IntOp.cmpi .eq (BitVec.ofNat 32 j.val) (Scf.iv 0#32 1#32 t)) x y = if j.val = t then x else y := by
  rw [iv_at, eq_at _ _ (by omega) (by omega), select_bit]
end Cert.KernelIdeal.R2
-- ==== Proof.KDec.lean ====
module
public import proofs.«01_k».proof.Proof.KWord
public import proofs.«01_k».proof.Proof.Body2I
public import Idealize.ShloMosaic.Lib.Pointwise
@[expose] public section
/-! One trip of the decoding loop, entry by entry. -/
set_option maxRecDepth 16384
noncomputable section
namespace Cert.KernelIdeal.R2
open Cert.KernelIdeal Cert.KernelIdeal.Gen Idealize.ShloMosaic
open Cert.Spec

/-- The greatest of the remaining scores. -/
theorem pay12_at (v : FVec Ideal S4x5760 .f32) (b : Fin 4) (z : Fin 1) :
    k2_pay12 v (ix2 b z) = Finset.fold max (Ideal.ofBits .f32 0xFF800000#32) (fun n : Fin 5760 => (v (ix2 b n) : EReal)) Finset.univ := by
  unfold k2_pay12
  pointwise
/-- The first place of the greatest remaining score. -/
theorem pay13_at (v : FVec Ideal S4x5760 .f32) (b : Fin 4) (z : Fin 1) :
    k2_pay13 (iota .tc S4x5760 32 [1] iota_S4x5760_d1_w32) v (ix2 b z)
      = Finset.fold IntOp.minsi 2147483647#32 (fun x : Fin 5760 => if (v (ix2 b x) : EReal) = k2_pay12 v (ix2 b 0) then BitVec.ofNat 32 x.val else 5760#32) Finset.univ := by
  unfold k2_pay13
  pointwise
/-- The first word of the span at that place. -/
theorem pay14_at (v : FVec Ideal S4x5760 .f32) (b : Fin 4) (z : Fin 1) :
    k2_pay14 (iota .tc S4x5760 32 [1] iota_S4x5760_d1_w32) v (ix2 b z) = startW (k2_pay13 (iota .tc S4x5760 32 [1] iota_S4x5760_d1_w32) v (ix2 b z)) := by
  unfold k2_pay14
  pointwise
/-- The remainder of that place. -/
theorem pay15_at (v : FVec Ideal S4x5760 .f32) (b : Fin 4) (z : Fin 1) :
    k2_pay15 (iota .tc S4x5760 32 [1] iota_S4x5760_d1_w32) v (ix2 b z) = IntOp.remsi .vector (k2_pay13 (iota .tc S4x5760 32 [1] iota_S4x5760_d1_w32) v (ix2 b z)) twelve := by
  unfold k2_pay15
  pointwise
/-- Whether the remainder is not zero. -/
theorem pay16_at (v : FVec Ideal S4x5760 .f32) (b : Fin 4) (z : Fin 1) :
    k2_pay16 (iota .tc S4x5760 32 [1] iota_S4x5760_d1_w32) v (ix2 b z) = IntOp.cmpi .ne (k2_pay15 (iota .tc S4x5760 32 [1] iota_S4x5760_d1_w32) v (ix2 b z)) 0#32 := by
  unfold k2_pay16
  pointwise
/-- Whether the remainder is negative. -/
theorem pay17_at (v : FVec Ideal S4x5760 .f32) (b : Fin 4) (z : Fin 1) :
    k2_pay17 (iota .tc S4x5760 32 [1] iota_S4x5760_d1_w32) v (ix2 b z) = IntOp.cmpi .slt (k2_pay15 (iota .tc S4x5760 32 [1] iota_S4x5760_d1_w32) v (ix2 b z)) 0#32 := by
  unfold k2_pay17
  pointwise
/-- Whether twelve is negative. -/
theorem pay18_at (b : Fin 4) (z : Fin 1) : k2_pay18 (ix2 b z) = Scalar.cmpi .slt twelve 0#32 := by
  unfold k2_pay18
  pointwise
/-- Whether a word lies in the span. -/
theorem pay4_at (v49 : IVec S4x1 32) (v51 : BitVec 32) (v53 : IVec S4x1 32) (v55 : IVec S4x1 1) (v57 : IVec S4x1 1) (v60 : IVec S4x1 1) (b : Fin 4) (w : Fin 480) :
    k2_pay4 v49 v51 v53 v55 v57 v60 (ix2 b w) = IntOp.andi (IntOp.cmpi .sge (BitVec.ofNat 32 w.val) (v49 (ix2 b 0)))
      (IntOp.cmpi .sle (BitVec.ofNat 32 w.val) (IntOp.addi (v49 (ix2 b 0)) (Scalar.select (IntOp.andi (IntOp.xori (v57 (ix2 b 0)) (v60 (ix2 b 0))) (v55 (ix2 b 0))) (IntOp.addi (v53 (ix2 b 0)) v51) (v53 (ix2 b 0))))) := by
  unfold k2_pay4
  pointwise
/-- Whether the span is taken. -/
theorem pay5_at (cv : FVec Ideal S4x480 .f32) (v19 : FVec Ideal S4x1 .f32) (v49 : IVec S4x1 32) (v51 : BitVec 32) (v53 : IVec S4x1 32) (v55 : IVec S4x1 1) (v57 : IVec S4x1 1) (v60 : IVec S4x1 1) (b : Fin 4) (z : Fin 1) :
    k2_pay5 cv v19 v49 v51 v53 v55 v57 v60 (ix2 b z) = IntOp.andi (BitVec.ofBool (decide (Ideal.ofBits .f32 1056964608#32 < (v19 (ix2 b z) : EReal))))
      (BitVec.ofBool (decide (Finset.fold max (Ideal.ofBits .f32 4286578688#32) (fun x : Fin 480 => Scalar.select (k2_pay4 v49 v51 v53 v55 v57 v60 (ix2 b x)) (cv (ix2 b x) : EReal) 0) Finset.univ = 0))) := by
  unfold k2_pay5
  pointwise
/-- The words covered after the trip. -/
theorem pay6_at (cv : FVec Ideal S4x480 .f32) (v19 : FVec Ideal S4x1 .f32) (v49 : IVec S4x1 32) (v51 : BitVec 32) (v53 : IVec S4x1 32) (v55 : IVec S4x1 1) (v57 : IVec S4x1 1) (v60 : IVec S4x1 1) (b : Fin 4) (w : Fin 480) :
    (k2_pay6 cv v19 v49 v51 v53 v55 v57 v60 (ix2 b w) : EReal) = Scalar.select (IntOp.andi (k2_pay4 v49 v51 v53 v55 v57 v60 (ix2 b w)) (k2_pay5 cv v19 v49 v51 v53 v55 v57 v60 (ix2 b 0))) 1 (cv (ix2 b w)) := by
  unfold k2_pay6
  pointwise
/-- The scores left after the trip. -/
theorem pay7_at (v : FVec Ideal S4x5760 .f32) (v25 : IVec S4x1 32) (b : Fin 4) (n : Fin 5760) :
    (k2_pay7 v v25 (ix2 b n) : EReal) = Scalar.select (IntOp.cmpi .eq (BitVec.ofNat 32 n.val) (v25 (ix2 b 0))) (Ideal.ofBits .f32 3221225472#32) (v (ix2 b n)) := by
  unfold k2_pay7
  pointwise
/-- The places written so far. -/
theorem pay9_at (v : FVec Ideal S4x512 .f32) (a4 : BitVec 32) (v25 : IVec S4x1 32) (b : Fin 4) (j : Fin 512) :
    (k2_pay9 v a4 v25 (ix2 b j) : EReal) = Scalar.select (IntOp.cmpi .eq (BitVec.ofNat 32 j.val) a4) (FloatOps.sitofp (F := Ideal) .f32 (v25 (ix2 b 0))) (v (ix2 b j)) := by
  unfold k2_pay9 k2_pay8
  pointwise
/-- The choices written so far. -/
theorem pay10_at (cv : FVec Ideal S4x480 .f32) (v : FVec Ideal S4x512 .f32) (a4 : BitVec 32) (v19 : FVec Ideal S4x1 .f32) (v49 : IVec S4x1 32) (v51 : BitVec 32) (v53 : IVec S4x1 32) (v55 : IVec S4x1 1) (v57 : IVec S4x1 1) (v60 : IVec S4x1 1) (b : Fin 4) (j : Fin 512) :
    (k2_pay10 cv v a4 v19 v49 v51 v53 v55 v57 v60 (ix2 b j) : EReal)
      = Scalar.select (IntOp.cmpi .eq (BitVec.ofNat 32 j.val) a4) (FloatOps.sitofp (F := Ideal) .f32 ((k2_pay5 cv v19 v49 v51 v53 v55 v57 v60 (ix2 b 0)).setWidth 32)) (v (ix2 b j)) := by
  unfold k2_pay10 k2_pay8
  pointwise
/-- The scores written so far. -/
theorem pay11_at (v : FVec Ideal S4x512 .f32) (a4 : BitVec 32) (v19 : FVec Ideal S4x1 .f32) (b : Fin 4) (j : Fin 512) :
    (k2_pay11 v a4 v19 (ix2 b j) : EReal) = Scalar.select (IntOp.cmpi .eq (BitVec.ofNat 32 j.val) a4) (v19 (ix2 b 0)) (v (ix2 b j)) := by
  unfold k2_pay11 k2_pay8
  pointwise
/-- The key a score is ranked by. -/
def key (v : EReal) : EReal := if Ideal.ofBits .f32 0x3F000000#32 < v then v else Ideal.ofBits .f32 0xBF800000#32
/-- The scores the loop starts from. -/
theorem pay1_at (v : FVec Ideal S4x5760 .f32) (b : Fin 4) (n : Fin 5760) :
    (k2_pay1 (F := Ideal) v v (ix2 b n) : EReal) = key (v (ix2 b n)) := by
  unfold k2_pay1
  pointwise
  rfl
/-- No word is covered at the start. -/
theorem pay3_at (b : Fin 4) (w : Fin 480) : (k2_pay3 (F := Ideal) (ix2 b w) : EReal) = 0 := by
  unfold k2_pay3
  pointwise
/-- The results start at zero. -/
theorem pay2_at (b : Fin 4) (j : Fin 512) : (k2_pay2 (F := Ideal) (ix2 b j) : EReal) = 0 := by
  unfold k2_pay2
  pointwise
/-- The threshold of a span. -/
theorem half_eq : Ideal.ofBits .f32 0x3F000000#32 = (((1 : ℝ) / 2 : ℝ) : EReal) := by
  simp [Ideal.ofBits, Ideal.ieee, -EReal.coe_mul]; norm_num
/-- The key of a score below the threshold. -/
theorem neg_one_eq : Ideal.ofBits .f32 0xBF800000#32 = ((-(1 : ℝ) : ℝ) : EReal) := by
  simp [Ideal.ofBits, Ideal.ieee, -EReal.coe_mul]; norm_num
/-- The mark of a removed score. -/
theorem neg_two_eq : Ideal.ofBits .f32 3221225472#32 = ((-(2 : ℝ) : ℝ) : EReal) := by
  simp [Ideal.ofBits, Ideal.ieee, -EReal.coe_mul]; norm_num
/-- The mark of a removed score lies below every key. -/
theorem lo_lt (v : EReal) : Ideal.ofBits .f32 3221225472#32 < key v := by
  have h1 : Ideal.ofBits .f32 3221225472#32 < Ideal.ofBits .f32 0xBF800000#32 := by
    rw [neg_one_eq, neg_two_eq, EReal.coe_lt_coe_iff]; norm_num
  have h2 : Ideal.ofBits .f32 3221225472#32 < Ideal.ofBits .f32 0x3F000000#32 := by
    rw [half_eq, neg_two_eq, EReal.coe_lt_coe_iff]; norm_num
  unfold key
  split
  · exact h2.trans (by assumption)
  · exact h1
/-- The start of a greatest-value fold is the least value. -/
theorem bot_eq : Ideal.ofBits .f32 4286578688#32 = (⊥ : EReal) := by
  simp [Ideal.ofBits, Ideal.ieee]

/-- Trips with a span above the threshold. -/
def hi (x : Fin 5760 → EReal) (q : ℕ → Fin 5760) (t : ℕ) : Prop := Ideal.ofBits .f32 0x3F000000#32 < key (x (q t))
/-- The words of the trip's span. -/
def sp (q : ℕ → Fin 5760) (t w : ℕ) : Prop := first (q t) ≤ w ∧ w ≤ last (q t)

/-- The greatest of zeros and ones is zero when there is no one. -/
theorem fold_ones (p : Fin 480 → Prop) [DecidablePred p] :
    Finset.fold max (⊥ : EReal) (fun w => if p w then (1 : EReal) else 0) Finset.univ = 0 ↔ ∀ w, ¬ p w := by
  constructor
  · intro h w hw
    have h1 : (1 : EReal) ≤ 0 := h ▸ (Finset.le_fold_max _).mpr (Or.inr ⟨w, Finset.mem_univ _, by rw [if_pos hw]⟩)
    exact absurd h1 (not_le.mpr zero_lt_one)
  · intro h
    refine le_antisymm ((Finset.fold_max_le _).mpr ⟨bot_le, fun w _ => by rw [if_neg (h w)]⟩) ?_
    exact (Finset.le_fold_max _).mpr (Or.inr ⟨0, Finset.mem_univ _, by rw [if_neg (h 0)]⟩)

section Trip
open Classical
variable (x : Fin 5760 → EReal) (q : ℕ → Fin 5760) (hq : Ranks (fun n => key (x n)) q) (b : Fin 4) (t : ℕ) (ht : t < 5760)
  (v : FVec Ideal S4x5760 .f32) (hv : ∀ n : Fin 5760, (v (ix2 b n) : EReal) = rest (Ideal.ofBits .f32 3221225472#32) (fun n => key (x n)) q t n)
include hq ht hv
/-- The trip's greatest score. -/
theorem max_at (z : Fin 1) : (k2_pay12 v (ix2 b z) : EReal) = key (x (q t)) := by
  refine (pay12_at v b z).trans ?_
  rw [funext hv, bot_eq]
  exact rest_max hq (fun n => lo_lt _) ht bot_le
/-- The trip's place. -/
theorem place_at (z : Fin 1) : k2_pay13 (iota .tc S4x5760 32 [1] iota_S4x5760_d1_w32) v (ix2 b z) = BitVec.ofNat 32 (q t).val := by
  refine (pay13_at v b z).trans (rest_arg hq (fun n => lo_lt _) ht _ fun n => ?_)
  rw [max_at x q hq b t ht v hv, hv]
/-- The words of the trip's span, as bits. -/
theorem word_at (w : Fin 480) :
    k2_pay4 (k2_pay14 (iota .tc S4x5760 32 [1] iota_S4x5760_d1_w32) v) twelve (k2_pay15 (iota .tc S4x5760 32 [1] iota_S4x5760_d1_w32) v)
      (k2_pay16 (iota .tc S4x5760 32 [1] iota_S4x5760_d1_w32) v) (k2_pay17 (iota .tc S4x5760 32 [1] iota_S4x5760_d1_w32) v) k2_pay18 (ix2 b w)
      = BitVec.ofBool (decide (sp q t w.val)) := by
  refine (pay4_at _ _ _ _ _ _ b w).trans ?_
  rw [pay17_at, pay18_at, pay16_at, pay15_at, pay14_at, place_at x q hq b t ht v hv, startW_at]
  rw [lastW_at, span_bit]
  exact congrArg BitVec.ofBool (decide_eq_decide.mpr Iff.rfl)
variable (cv : FVec Ideal S4x480 .f32) (hc : ∀ w : Fin 480, (cv (ix2 b w) : EReal) = if cov (hi x q) (sp q) t w.val then 1 else 0)
include hc
/-- Whether the trip's span is taken. -/
theorem take_at (z : Fin 1) :
    k2_pay5 cv (k2_pay12 v) (k2_pay14 (iota .tc S4x5760 32 [1] iota_S4x5760_d1_w32) v) twelve (k2_pay15 (iota .tc S4x5760 32 [1] iota_S4x5760_d1_w32) v)
      (k2_pay16 (iota .tc S4x5760 32 [1] iota_S4x5760_d1_w32) v) (k2_pay17 (iota .tc S4x5760 32 [1] iota_S4x5760_d1_w32) v) k2_pay18 (ix2 b z)
      = BitVec.ofBool (decide (taken (hi x q) (sp q) t)) := by
  refine (pay5_at _ _ _ _ _ _ _ _ b z).trans ((and_bits _ _).trans (congrArg BitVec.ofBool (decide_eq_decide.mpr ?_)))
  rw [max_at x q hq b t ht v hv, bot_eq]
  refine and_congr Iff.rfl ?_
  have hf : (fun w : Fin 480 => Scalar.select (k2_pay4 (k2_pay14 (iota .tc S4x5760 32 [1] iota_S4x5760_d1_w32) v) twelve (k2_pay15 (iota .tc S4x5760 32 [1] iota_S4x5760_d1_w32) v)
      (k2_pay16 (iota .tc S4x5760 32 [1] iota_S4x5760_d1_w32) v) (k2_pay17 (iota .tc S4x5760 32 [1] iota_S4x5760_d1_w32) v) k2_pay18 (ix2 b w)) (cv (ix2 b w) : EReal) 0)
      = fun w : Fin 480 => if sp q t w.val ∧ cov (hi x q) (sp q) t w.val then (1 : EReal) else 0 := by
    funext w
    rw [word_at x q hq b t ht v hv w, select_bit, hc w, ite_and]
  rw [hf, fold_ones]
  exact ⟨fun h w hw hs hcv => h ⟨w, hw⟩ ⟨hs, hcv⟩, fun h w hw => h w.val w.isLt hw.1 hw.2⟩
end Trip

/-- What the loop carries for one sample before trip `t`. -/
structure Inv (x : Fin 5760 → EReal) (q : ℕ → Fin 5760) (b : Fin 4) (t : ℕ) (a : Car Ideal) : Prop where
  left : ∀ n : Fin 5760, (a.1 (ix2 b n) : EReal) = rest (Ideal.ofBits .f32 3221225472#32) (fun n => key (x n)) q t n
  words : open Classical in ∀ w : Fin 480, (a.2.1 (ix2 b w) : EReal) = if cov (hi x q) (sp q) t w.val then 1 else 0
  places : ∀ j : Fin 512, j.val < t → (a.2.2.1 (ix2 b j) : EReal) = FloatOps.sitofp (F := Ideal) .f32 (BitVec.ofNat 32 (q j.val).val)
  takes : open Classical in ∀ j : Fin 512, j.val < t → (a.2.2.2.1 (ix2 b j) : EReal) = FloatOps.sitofp (F := Ideal) .f32 ((BitVec.ofBool (decide (taken (hi x q) (sp q) j.val))).setWidth 32)
  scores : ∀ j : Fin 512, j.val < t → (a.2.2.2.2 (ix2 b j) : EReal) = key (x (q j.val))

/-- The scores a trip leaves. -/
theorem trip_left (k : Fin k2_t1_loop.trips) (a : Car Ideal) : (trip k a).1 = k2_pay7 a.1 (k2_pay13 (iota .tc S4x5760 32 [1] iota_S4x5760_d1_w32) a.1) := by
  unfold trip; dsimp only
/-- One trip keeps it. -/
theorem Inv.step {x : Fin 5760 → EReal} {q : ℕ → Fin 5760} (hq : Ranks (fun n => key (x n)) q) {b : Fin 4} (k : Fin k2_t1_loop.trips) (hk : k.val < 512) {a : Car Ideal}
    (h : Inv x q b k.val a) : Inv x q b (k.val + 1) (trip k a) := by
  classical
  have ht : k.val < 5760 := by omega
  refine ⟨fun n => ?_, fun w => ?_, fun j hj => ?_, fun j hj => ?_, fun j hj => ?_⟩
  · refine (congrFun (trip_left k a) (ix2 b n)).trans ?_
    refine Eq.trans (pay7_at a.1 (k2_pay13 (iota .tc S4x5760 32 [1] iota_S4x5760_d1_w32) a.1) b n) ?_
    rw [place_at x q hq b k.val ht a.1 h.left, eq_at _ _ (by omega) (by omega), select_bit, h.left, ← rest_succ]
    exact if_congr Fin.ext_iff.symm rfl rfl
  · refine (pay6_at a.2.1 _ _ _ _ _ _ _ b w).trans ?_
    refine Eq.trans (congrArg₂ (fun u u' => Scalar.select (IntOp.andi u u') (1 : EReal) (a.2.1 (ix2 b w)))
      (word_at x q hq b k.val ht a.1 h.left w) (take_at x q hq b k.val ht a.1 h.left a.2.1 h.words 0)) ?_
    rw [and_bits, select_bit, h.words]
    exact (ite_or _ _ _ _).symm.trans (if_congr Iff.rfl rfl rfl)
  · refine (pay9_at a.2.2.1 _ _ b j).trans ((column k.val hk j _ _).trans ?_)
    split
    · rename_i e; rw [place_at x q hq b k.val ht a.1 h.left, e]
    · exact h.places j (by omega)
  · refine (pay10_at a.2.1 a.2.2.2.1 _ _ _ _ _ _ _ _ b j).trans ((column k.val hk j _ _).trans ?_)
    split
    · rename_i e
      refine (congrArg (fun u : BitVec 1 => FloatOps.sitofp (F := Ideal) .f32 (u.setWidth 32)) (take_at x q hq b k.val ht a.1 h.left a.2.1 h.words 0)).trans ?_
      rw [e]
    · exact h.takes j (by omega)
  · refine (pay11_at a.2.2.2.2 _ _ b j).trans ((column k.val hk j _ _).trans ?_)
    split
    · rename_i e; rw [max_at x q hq b k.val ht a.1 h.left, e]
    · exact h.scores j (by omega)

/-- The loop makes 512 trips. -/
theorem trips_eq : k2_t1_loop.trips = 512 := by decide +kernel
/-- The whole input is read. -/
theorem ld_all (X : FVec Ideal S4x5760 .f32) : View.ld (Val := Elt Ideal) (e' := .f32) X rIn = X :=
  View.ld_unit_zero (Val := Elt Ideal) (e := .f32) (S := S4x5760) (off := ![0, 0]) (funext fun a => by revert a; decide) inb_S4x5760_S4x5760_0_0 X
/-- It holds before every trip. -/
theorem Inv.all (X : FVec Ideal S4x5760 .f32) {q : ℕ → Fin 5760} (b : Fin 4) (hq : Ranks (fun n => key (X (ix2 b n))) q) (t : ℕ) (ht : t ≤ 512) :
    Inv (fun n => X (ix2 b n)) q b t (car (F := Ideal) X t) := by
  classical
  induction t with
  | zero =>
    have hX := ld_all X
    refine ⟨fun n => ?_, fun w => ?_, fun j hj => absurd hj (Nat.not_lt_zero _), fun j hj => absurd hj (Nat.not_lt_zero _), fun j hj => absurd hj (Nat.not_lt_zero _)⟩
    · rw [rest_zero]
      exact (congrFun (congrArg₂ (fun u u' => k2_pay1 (F := Ideal) u u') hX hX) (ix2 b n)).trans (pay1_at X b n)
    · exact (pay3_at b w).trans (if_neg (fun h : cov _ _ 0 w.val => h)).symm
  | succ t ih =>
    have h : t < k2_t1_loop.trips := by rw [trips_eq]; omega
    have e : car (F := Ideal) X (t + 1) = trip ⟨t, h⟩ (car X t) := by
      show (if h : t < k2_t1_loop.trips then trip ⟨t, h⟩ (car (F := Ideal) X t) else car X t) = _
      rw [dif_pos h]
    rw [e]
    exact (ih (by omega)).step hq ⟨t, h⟩ (by show t < 512; omega)
end Cert.KernelIdeal.R2
-- ==== Proof.KVal2.lean ====
module
public import proofs.«01_k».proof.Proof.KHost
public import proofs.«01_k».proof.Proof.KDec
@[expose] public section
/-! What region 2 and the host operations after it leave: the ranked places, the choices and their scores. -/
set_option maxRecDepth 16384
noncomputable section
namespace Cert.KernelIdeal.R2
open Cert.KernelIdeal Cert.KernelIdeal.Gen Idealize.ShloMosaic Idealize.ShloMosaic.TcCoe
open Idealize.ShloMosaic.Pipeline (Dat)
open Cert.Spec
variable (W : (c : Dev nD) → (b : Ref sig .tc) → Buf (Elt Ideal) ((c : Thread nD τ).loc b))

/-- The index maps of region 2. -/
theorem idx : ∀ t : Fin cfg2.N, win2_0.index t = ![0, 0] ∧ win2_1.index t = ![0, 0] ∧ win2_2.index t = ![0, 0] ∧ win2_3.index t = ![0, 0] :=
  (by decide +kernel : ∀ t : Fin grid2.N, _)
/-- The one block of the input is the whole input. -/
theorem blk_all (c : Dev nD) (t : Fin cfg2.N) : (iblk W c 0 t : FVec Ideal S4x5760 .f32) = W c main_v13 := by
  obtain ⟨h, -, -, -⟩ := idx t
  funext i
  idx_vars i
  blk_ext [iblk, h]
/-- One store of the whole output leaves what was stored. -/
theorem canon_all (p : FVec Ideal S4x512 .f32) : View.canon (Val := Elt Ideal) (e := .f32) [⟨rOut, p⟩] = p :=
  View.canon_cons_unit_zero (Val := Elt Ideal) (e := .f32) (S := S4x512) (off := ![0, 0]) (funext fun a => by revert a; decide) inb_S4x512_S4x512_0_0 p []

/-- The places after region 2. -/
theorem final1 (c : Dev nD) : (dats W c).arrAt 1 cfg2.N = (car (F := Ideal) (W c main_v13) k2_t1_loop.trips).2.2.1 := by
  refine (dats W c).arrAt_eq_of_covers 1 _ (by decide +kernel) fun t _ y => ?_
  blk_simp
  rw [after2_1, blk_all]
  unfold out2_1
  rw [canon_all]
  obtain ⟨-, h1, -, -⟩ := idx t
  idx_vars y
  blk_ext [h1]
/-- The choices after region 2. -/
theorem final2 (c : Dev nD) : (dats W c).arrAt 2 cfg2.N = (car (F := Ideal) (W c main_v13) k2_t1_loop.trips).2.2.2.1 := by
  refine (dats W c).arrAt_eq_of_covers 2 _ (by decide +kernel) fun t _ y => ?_
  blk_simp
  rw [after2_2, blk_all]
  unfold out2_2
  rw [canon_all]
  obtain ⟨-, -, h2, -⟩ := idx t
  idx_vars y
  blk_ext [h2]
/-- The scores after region 2. -/
theorem final3 (c : Dev nD) : (dats W c).arrAt 3 cfg2.N = (car (F := Ideal) (W c main_v13) k2_t1_loop.trips).2.2.2.2 := by
  refine (dats W c).arrAt_eq_of_covers 3 _ (by decide +kernel) fun t _ y => ?_
  blk_simp
  rw [after2_3, blk_all]
  unfold out2_3
  rw [canon_all]
  obtain ⟨-, -, -, h3⟩ := idx t
  idx_vars y
  blk_ext [h3]
end Cert.KernelIdeal.R2

namespace Cert.KernelIdeal.Whole
open Cert.KernelIdeal Cert.KernelIdeal.Gen Idealize.ShloMosaic Idealize.ShloMosaic.TcCoe
open Cert.Spec
variable (m : (ℓ : Loc nD τ sig) → Buf (Elt Ideal) ℓ)

/-- A place goes to a real and back. -/
theorem place_trip (n : Fin 5760) : FloatOps.fptosi (F := Ideal) (φ := .f32) 32 (FloatOps.sitofp (F := Ideal) .f32 (BitVec.ofNat 32 n.val)) = BitVec.ofNat 32 n.val := by
  have h : FloatOps.sitofp (F := Ideal) .f32 (BitVec.ofNat 32 n.val) = (((n.val : ℝ)) : EReal) := by
    show (((BitVec.ofNat 32 n.val).toInt : ℝ) : EReal) = _
    rw [place_toInt _ (by omega)]
    norm_cast
  rw [h]
  show Ideal.fptosi 32 _ = _
  rw [Ideal.fptosi, Ideal.toIntClamped_coe]
  have h0 : (0 : ℝ) ≤ (n.val : ℝ) := Nat.cast_nonneg _
  rw [if_pos h0, Int.floor_natCast]
  have h1 : max (-((2 ^ (32 - 1) : ℕ) : ℤ)) (min (((2 ^ (32 - 1) : ℕ) : ℤ) - 1) (n.val : ℤ)) = (n.val : ℤ) := by
    have := n.isLt
    omega
  exact (congrArg (BitVec.ofInt 32) h1).trans (BitVec.ofInt_natCast 32 n.val)
/-- A bit read back from the real it was stored as. -/
theorem bit_trip (p : Prop) [Decidable p] :
    FloatOps.cmpf (F := Ideal) (φ := .f32) .ogt (FloatOps.sitofp (F := Ideal) .f32 ((BitVec.ofBool (decide p)).setWidth 32)) (Ideal.ofBits .f32 0x3F000000#32) = BitVec.ofBool (decide p) := by
  by_cases hp : p
  · rw [decide_eq_true hp, R2.half_eq]
    show BitVec.ofBool (decide ((((1 : ℝ) / 2 : ℝ) : EReal) < ((((BitVec.ofBool true).setWidth 32).toInt : ℝ) : EReal))) = _
    refine congrArg BitVec.ofBool (decide_eq_true ?_)
    rw [EReal.coe_lt_coe_iff, show ((BitVec.ofBool true).setWidth 32).toInt = 1 by decide]
    norm_num
  · rw [decide_eq_false hp, R2.half_eq]
    show BitVec.ofBool (decide ((((1 : ℝ) / 2 : ℝ) : EReal) < ((((BitVec.ofBool false).setWidth 32).toInt : ℝ) : EReal))) = _
    refine congrArg BitVec.ofBool (decide_eq_false ?_)
    rw [EReal.coe_lt_coe_iff, show ((BitVec.ofBool false).setWidth 32).toInt = 0 by decide]
    norm_num
variable (W : Valuation τ sig (Elt Ideal))
/-- The places the kernel returns. -/
theorem v19_at (b : Fin 4) (j : Fin 512) : (StableHlo.after hostOps3 W main_v19 : IVec S4x512 32) (ix2 b j)
    = FloatOps.fptosi (F := Ideal) (φ := .f32) 32 ((W main_v18_0 : FVec Ideal S4x512 .f32) (ix2 b j)) := by
  after_reads_at
/-- The choices the kernel returns. -/
theorem v21_at (b : Fin 4) (j : Fin 512) : (StableHlo.after hostOps3 W main_v21 : IVec S4x512 1) (ix2 b j)
    = FloatOps.cmpf (F := Ideal) (φ := .f32) .ogt ((W main_v18_1 : FVec Ideal S4x512 .f32) (ix2 b j)) (Ideal.ofBits .f32 0x3F000000#32) := by
  after_reads_at

/-- The scores the decoding ranks, as the last region reads them. -/
abbrev best (c : Dev nD) (b : Fin 4) (n : Fin 5760) : EReal := (V5 m (outs m) c main_v13 : FVec Ideal S4x5760 .f32) (ix2 b n)
/-- What the loop carries at its end, for any ranking of the scores. -/
theorem carried (c : Dev nD) (b : Fin 4) {q : ℕ → Fin 5760} (hq : Ranks (fun n => R2.key (best m c b n)) q) :
    R2.Inv (fun n => best m c b n) q b 512 (R2.car (F := Ideal) (V5 m (outs m) c main_v13) k2_t1_loop.trips) := by
  rw [R2.trips_eq]
  exact R2.Inv.all (V5 m (outs m) c main_v13) b hq 512 le_rfl
/-- The input of region 2. -/
theorem in2 (c : Dev nD) : asW (V5 m (outsB m)) c main_v13 = V5 m (outs m) c main_v13 := congrFun (U5_eq m c) _
/-- The places the kernel returns. -/
theorem K19 (c : Dev nD) (b : Fin 4) {q : ℕ → Fin 5760} (hq : Ranks (fun n => R2.key (best m c b n)) q) (j : Fin 512) :
    (V7 m (outs m) c main_v19 : IVec S4x512 32) (ix2 b j) = BitVec.ofNat 32 (q j.val).val := by
  refine (v19_at (V6 m (outs m) c) b j).trans ?_
  rw [U6_0]
  refine (congrArg _ ((congrFun (R2.final1 (asW (V5 m (outsB m))) c) (ix2 b j)).trans ?_)).trans (place_trip (q j.val))
  rw [in2]
  exact (carried m c b hq).places j j.isLt
/-- The choices the kernel returns. -/
theorem K21 (c : Dev nD) (b : Fin 4) {q : ℕ → Fin 5760} (hq : Ranks (fun n => R2.key (best m c b n)) q) (j : Fin 512) :
    (V7 m (outs m) c main_v21 : IVec S4x512 1) (ix2 b j)
      = open Classical in BitVec.ofBool (decide (taken (R2.hi (fun n => best m c b n) q) (R2.sp q) j.val)) := by
  classical
  refine (v21_at (V6 m (outs m) c) b j).trans ?_
  rw [U6_1]
  refine (congrArg (fun u => FloatOps.cmpf (F := Ideal) (φ := .f32) .ogt u (Ideal.ofBits .f32 0x3F000000#32)) ((congrFun (R2.final2 (asW (V5 m (outsB m))) c) (ix2 b j)).trans ?_)).trans (bit_trip _)
  rw [in2]
  exact (carried m c b hq).takes j j.isLt
/-- The scores of the ranked places the kernel returns. -/
theorem K18 (c : Dev nD) (b : Fin 4) {q : ℕ → Fin 5760} (hq : Ranks (fun n => R2.key (best m c b n)) q) (j : Fin 512) :
    ((V7 m (outs m) c main_v18_2 : FVec Ideal S4x512 .f32) (ix2 b j) : EReal) = R2.key (best m c b (q j.val)) := by
  rw [V7_of m (outs m) c main_v18_2 (by decide), U6_2]
  refine (congrFun (R2.final3 (asW (V5 m (outsB m))) c) (ix2 b j)).trans ?_
  rw [in2]
  exact (carried m c b hq).scores j j.isLt
end Cert.KernelIdeal.Whole
-- ==== Proof.RRank.lean ====
module
public import proofs.«01_k».proof.Proof.Greedy
public import Idealize.ShloMosaic.Lib.Pointwise
@[expose] public section
/-! The reference's choice of the best spans, as ranks. -/
set_option maxRecDepth 16384
noncomputable section
namespace Cert.ReferenceIdeal.Whole
open Cert.ReferenceIdeal Cert.ReferenceIdeal.Gen Idealize.ShloMosaic
open Cert.Spec

/-- Descending keys, equal keys in ascending order. -/
def Lexi {n : ℕ} (y : Fin n → EReal) (a b : Fin n) : Prop := y b < y a ∨ (y a = y b ∧ a < b)

/-- Inserting the least of the places keeps the order. -/
theorem insert_lexi {n : ℕ} (y : Fin n → EReal) (B : Fin n → Fin n → Bool) (hB : ∀ a b, B a b = true ↔ y a > y b) (a : Fin n) :
    ∀ l : List (Fin n), (∀ b ∈ l, a < b) → l.Pairwise (Lexi y) → (insertBefore B a l).Pairwise (Lexi y)
  | [], _, _ => List.pairwise_singleton _ _
  | b :: l, ha, hl => by
    obtain ⟨hb, hl'⟩ := List.pairwise_cons.mp hl
    unfold insertBefore
    split
    · next h =>
      have h' := (hB _ _).mp h
      refine List.pairwise_cons.mpr ⟨fun z hz => ?_, insert_lexi y B hB a l (fun z hz => ha z (List.mem_cons_of_mem _ hz)) hl'⟩
      rcases List.mem_cons.mp ((perm_insertBefore _ a l).mem_iff.mp hz) with rfl | hz'
      · exact Or.inl h'
      · exact hb z hz'
    · next h =>
      have h' : y b ≤ y a := not_lt.mp fun hh => h ((hB _ _).mpr hh)
      refine List.pairwise_cons.mpr ⟨fun z hz => ?_, hl⟩
      have hz' := ha z hz
      have hle : y z ≤ y a := by
        rcases List.mem_cons.mp hz with rfl | h2
        · exact h'
        · rcases hb z h2 with h3 | ⟨h3, -⟩
          · exact h3.le.trans h'
          · exact h3.ge.trans h'
      rcases lt_or_eq_of_le hle with h3 | h3
      · exact Or.inl h3
      · exact Or.inr ⟨h3.symm, hz'⟩

/-- The stable sort by descending keys is ordered. -/
theorem sort_lexi {n : ℕ} (y : Fin n → EReal) (B : Fin n → Fin n → Bool) (hB : ∀ a b, B a b = true ↔ y a > y b) :
    ∀ l : List (Fin n), l.Pairwise (· < ·) → (stableSort B l).Pairwise (Lexi y)
  | [], _ => List.Pairwise.nil
  | a :: l, h => by
    obtain ⟨ha, hl⟩ := List.pairwise_cons.mp h
    unfold stableSort
    exact insert_lexi y B hB a _ (fun b hb => ha b ((perm_stableSort _ l).mem_iff.mp hb)) (sort_lexi y B hB l hl)

/-- Later sorted places come later in the order. -/
theorem sorted_lexi {n : ℕ} (y : Fin n → EReal) (B : Fin n → Fin n → Bool) (hB : ∀ a b, B a b = true ↔ y a > y b) (i j : Fin n) (hij : i < j) :
    Lexi y (sortedFrom B i) (sortedFrom B j) := by
  have hp := List.pairwise_iff_get.mp (sort_lexi y B hB (List.finRange n) (List.pairwise_lt_finRange n))
  unfold sortedFrom
  exact hp (i.cast (length_sortPositions n B).symm) (j.cast (length_sortPositions n B).symm) hij

/-- Every place is sorted somewhere. -/
theorem sorted_sur {n : ℕ} (B : Fin n → Fin n → Bool) (k : Fin n) : ∃ i, sortedFrom B i = k := by
  have hk : k ∈ sortPositions n B := (perm_stableSort B _).mem_iff.mpr (List.mem_finRange k)
  obtain ⟨i, hi⟩ := List.get_of_mem hk
  exact ⟨i.cast (length_sortPositions n B), hi⟩

/-- Which of two places the sort of sample `b` puts first. -/
def before (x : FVec Ideal S4x5760 .f32) (b : Fin 4) (k k' : Fin 5760) : Bool :=
  FloatOps.cmpfTotal (F := Ideal) (φ := .f32) .gt (x (ix2 b k)) (x (ix2 b k')) == 1#1

/-- The first place is that of the greater entry. -/
theorem before_iff (x : FVec Ideal S4x5760 .f32) (b : Fin 4) (k k' : Fin 5760) : before x b k k' = true ↔ (x (ix2 b k) : EReal) > x (ix2 b k') := by
  unfold before
  show (BitVec.ofBool (decide _) == 1#1) = true ↔ _
  by_cases h : (x (ix2 b k) : EReal) > x (ix2 b k') <;> simp [h]

/-- The places of sample `b` in the order of the sort. -/
def rank (x : FVec Ideal S4x5760 .f32) (b : Fin 4) (j : ℕ) : Fin 5760 := sortedFrom (before x b) ⟨j % 5760, Nat.mod_lt _ (by decide)⟩

/-- They are the ranks. -/
theorem rank_ranks (x : FVec Ideal S4x5760 .f32) (b : Fin 4) : Ranks (fun n => x (ix2 b n)) (rank x b) where
  ord s t hst ht := sorted_lexi (fun n => x (ix2 b n)) _ (before_iff x b) _ _ (by
    show s % 5760 < t % 5760
    rw [Nat.mod_eq_of_lt ht, Nat.mod_eq_of_lt (hst.trans ht)]; exact hst)
  sur n := by
    obtain ⟨i, hi⟩ := sorted_sur (before x b) n
    refine ⟨i.val, i.isLt, ?_⟩
    unfold rank
    rw [← hi]
    exact congrArg _ (Fin.ext (Nat.mod_eq_of_lt i.isLt))

/-- A place moved along the second axis. -/
theorem along_eq (b : Fin 4) (n k : Fin 5760) : ((ix2 b n : S4x5760.Idx).along 1 k : S4x5760.Idx) = ix2 b k := by
  funext a
  fin_cases a <;> rfl

/-- The compare the sort uses. -/
abbrev gtc : EReal × BitVec 32 → EReal × BitVec 32 → BitVec 1 := fun l r => FloatOps.cmpfTotal (F := Ideal) (φ := .f32) .gt l.1 r.1

/-- The sorted entries, at a place. -/
theorem sort_fst (x : FVec Ideal S4x5760 .f32) (y : IVec S4x5760 32) (b : Fin 4) (n : Fin 5760) :
    (Host.sort2 S4x5760 1 gtc x y).1 (ix2 b n) = x (ix2 b (sortedFrom (before x b) n)) := by
  show x ((ix2 b n : S4x5760.Idx).along 1 (sortedFrom (fun k k' => gtc (x ((ix2 b n : S4x5760.Idx).along 1 k), y ((ix2 b n : S4x5760.Idx).along 1 k))
    (x ((ix2 b n : S4x5760.Idx).along 1 k'), y ((ix2 b n : S4x5760.Idx).along 1 k')) == 1#1) n)) = _
  refine congrArg x ((along_eq b n _).trans (congrArg (fun f => (ix2 b (sortedFrom f n) : S4x5760.Idx)) (funext fun k => funext fun k' => ?_)))
  show (FloatOps.cmpfTotal (F := Ideal) (φ := .f32) .gt (x ((ix2 b n : S4x5760.Idx).along 1 k)) (x ((ix2 b n : S4x5760.Idx).along 1 k')) == 1#1) = _
  rw [congrArg x (along_eq b n k), congrArg x (along_eq b n k')]
  rfl

/-- The carried places, at a place. -/
theorem sort_snd (x : FVec Ideal S4x5760 .f32) (y : IVec S4x5760 32) (b : Fin 4) (n : Fin 5760) :
    (Host.sort2 S4x5760 1 gtc x y).2 (ix2 b n) = y (ix2 b (sortedFrom (before x b) n)) := by
  show y ((ix2 b n : S4x5760.Idx).along 1 (sortedFrom (fun k k' => gtc (x ((ix2 b n : S4x5760.Idx).along 1 k), y ((ix2 b n : S4x5760.Idx).along 1 k))
    (x ((ix2 b n : S4x5760.Idx).along 1 k'), y ((ix2 b n : S4x5760.Idx).along 1 k')) == 1#1) n)) = _
  refine congrArg y ((along_eq b n _).trans (congrArg (fun f => (ix2 b (sortedFrom f n) : S4x5760.Idx)) (funext fun k => funext fun k' => ?_)))
  show (FloatOps.cmpfTotal (F := Ideal) (φ := .f32) .gt (x ((ix2 b n : S4x5760.Idx).along 1 k)) (x ((ix2 b n : S4x5760.Idx).along 1 k')) == 1#1) = _
  rw [congrArg x (along_eq b n k), congrArg x (along_eq b n k')]
  rfl

/-- The first ranks, as places of the sort. -/
theorem rank_small (x : FVec Ideal S4x5760 .f32) (b : Fin 4) (j : Fin 512) : rank x b j.val = sortedFrom (before x b) ⟨j.val, by omega⟩ := by
  unfold rank
  exact congrArg _ (Fin.ext (Nat.mod_eq_of_lt (by omega)))

/-- The first entries of a row. -/
theorem slice_at {α : Type} (f : S4x5760.Idx → α) (h : S4x5760.Slices (fun _ => 0) S4x512) (b : Fin 4) (j : Fin 512) :
    extractStridedSlice S4x512 (fun _ => 0) f h (ix2 b j) = f (ix2 b ⟨j.val, by omega⟩) := by
  unfold extractStridedSlice
  refine congrArg f (funext fun a => ?_)
  fin_cases a
  · exact Fin.ext (Nat.zero_add _)
  · exact Fin.ext (Nat.zero_add _)

/-- The places of a row. -/
def places : IVec S4x5760 32 := fun i => iotaInDim S4x5760 32 1 i
/-- The places of a row, at a place. -/
theorem places_at (b : Fin 4) (n : Fin 5760) : places (ix2 b n) = BitVec.ofNat 32 n.val := rfl

/-- The greatest entries are those at the first ranks. -/
theorem topK_values (x : FVec Ideal S4x5760 .f32) (h : S4x5760.Slices (fun _ => 0) S4x512) (b : Fin 4) (j : Fin 512) :
    (Host.topK S4x512 1 (FloatOps.cmpfTotal (F := Ideal) (φ := .f32) .gt) x h).1 (ix2 b j) = x (ix2 b (rank x b j.val)) := by
  show extractStridedSlice S4x512 (fun _ => 0) (Host.sort2 S4x5760 1 gtc x places).1 h (ix2 b j) = _
  rw [rank_small]
  exact (slice_at _ h b j).trans (sort_fst x places b ⟨j.val, by omega⟩)

/-- Their places are the first ranks. -/
theorem topK_places (x : FVec Ideal S4x5760 .f32) (h : S4x5760.Slices (fun _ => 0) S4x512) (b : Fin 4) (j : Fin 512) :
    (Host.topK S4x512 1 (FloatOps.cmpfTotal (F := Ideal) (φ := .f32) .gt) x h).2 (ix2 b j) = BitVec.ofNat 32 (rank x b j.val).val := by
  show extractStridedSlice S4x512 (fun _ => 0) (Host.sort2 S4x5760 1 gtc x places).2 h (ix2 b j) = _
  rw [rank_small]
  exact ((slice_at _ h b j).trans (sort_snd x places b ⟨j.val, by omega⟩)).trans (places_at b _)
end Cert.ReferenceIdeal.Whole
-- ==== Proof.RDec1.lean ====
module
public import proofs.«01_k».proof.Proof.RVal3
public import proofs.«01_k».proof.Proof.RRank
public import proofs.«01_k».proof.Proof.Greedy
@[expose] public section
/-! What the reference's selection loop starts from: the ranked scores, their places and the ends of their spans. -/
set_option maxRecDepth 16384
noncomputable section
namespace Cert.ReferenceIdeal.Whole
open Cert.ReferenceIdeal Cert.ReferenceIdeal.Gen Idealize.ShloMosaic Idealize.ShloMosaic.TcCoe
open Idealize.ShloMosaic.StableHlo
open Cert.Spec
variable (W : Valuation τ sig (Elt Ideal))

/-- The gather of a span's end reads the place of its index. -/
theorem gather_place (x : IVec S5760 32) (idx : IVec S4x512x1 32) (b : Fin 4) (j : Fin 512) (n : Fin 5760)
    (hn : idx (ix3 b j 0) = BitVec.ofNat 32 n.val) :
    Host.gather gather_S5760_S4x512x1_S4x512_n_0_n_n_0_2_1 x idx (ix2 b j) = x (ix1 n) := by
  unfold Host.gather
  refine congrArg x (funext fun a => Fin.ext ?_)
  have hi : (gather_S5760_S4x512x1_S4x512_n_0_n_n_0_2_1).siIdx (ix2 b j) ⟨0, by decide⟩ = ix3 b j 0 := by
    funext a
    match a with
    | ⟨0, _⟩ => rfl
    | ⟨1, _⟩ => rfl
    | ⟨2, _⟩ => rfl
  have hz : (idx (ix3 b j 0)).toInt = (n.val : Int) := by
    have := n.isLt
    rw [hn, StableHlo.Predicate.toInt_ofNat_small _ (by omega)]
  match a with
  | ⟨0, _⟩ =>
    have hs : (gather_S5760_S4x512x1_S4x512_n_0_n_n_0_2_1).start (ix2 b j) idx 0 = n.val := by
      unfold GatherDims.start
      rw [dif_pos (by decide)]
      refine (congrArg (fun i => min (idx i).toInt.toNat (5760 - 1)) hi).trans ?_
      have := n.isLt
      rw [hz]
      omega
    exact congrArg (fun q => q + 0 + 0) hs
/-- The first words of the spans. -/
theorem v180_at (n : Fin 5760) : (after hostOps0_20 W main_v180 : IVec S5760 32) (ix1 n) = BitVec.ofNat 32 (first n) := by
  after_reads_at
  rfl
/-- The last words of the spans. -/
theorem v185_at (n : Fin 5760) : (after hostOps0_20 W main_v185 : IVec S5760 32) (ix1 n) = BitVec.ofNat 32 (last n) := by
  after_reads_at
  unfold last
  exact (BitVec.ofNat_add _ _).symm
/-- The test against the threshold. -/
theorem v232_at (b : Fin 4) (n : Fin 5760) : (after hostOps0_24 W main_v232 : IVec S4x5760 1) (ix2 b n)
    = FloatOps.cmpf (F := Ideal) (φ := .f32) .ogt ((W main_v229 : FVec Ideal S4x5760 .f32) (ix2 b n)) (Ideal.ofBits .f32 0x3F000000#32) := by
  after_reads_at
/-- The value of a span below the threshold. -/
theorem cst35_at : (after hostOps0_24 W main_cst_35 : FVec Ideal S_ .f32) = constant (F := Ideal) S_ .f32 0xBF800000#32 := by
  after_reads_simp
/-- The keys of the ranking. -/
theorem v233_at (b : Fin 4) (n : Fin 5760) : (after hostOps0_25 W main_v233 : FVec Ideal S4x5760 .f32) (ix2 b n)
    = Scalar.select ((W main_v232 : IVec S4x5760 1) (ix2 b n)) ((W main_v229 : FVec Ideal S4x5760 .f32) (ix2 b n)) ((W main_cst_35 : FVec Ideal S_ .f32) (Shape.Idx.first h_S_)) := by
  after_reads_at
  exact congrArg (fun i => Scalar.select _ _ ((W main_cst_35 : FVec Ideal S_ .f32) i)) (funext fun a => a.elim0)
/-- The ranked scores. -/
theorem values_at (b : Fin 4) (j : Fin 512) : (after hostOps0_26 W main_values : FVec Ideal S4x512 .f32) (ix2 b j)
    = (W main_v233 : FVec Ideal S4x5760 .f32) (ix2 b (rank (W main_v233) b j.val)) := by
  after_reads_simp
  exact topK_values _ _ b j
/-- The ranked places. -/
theorem indices_at (b : Fin 4) (j : Fin 512) : (after hostOps0_26 W main_indices : IVec S4x512 32) (ix2 b j)
    = BitVec.ofNat 32 (rank (W main_v233) b j.val).val := by
  after_reads_simp
  exact topK_places _ _ b j
/-- How a place is read before a gather. -/
abbrev wrapW (p : BitVec 32) : BitVec 32 := Scalar.select (IntOp.cmpi .slt p 0#32) (IntOp.addi p 5760#32) p
/-- A nonnegative place is read as it is. -/
theorem wrap_place (n : Fin 5760) : wrapW (BitVec.ofNat 32 n.val) = BitVec.ofNat 32 n.val := by
  revert n; decide +kernel
/-- The places read before a gather. -/
theorem wrap_at (I : IVec S4x512 32) (b : Fin 4) (j : Fin 512) :
    broadcastInDim S4x512x1 ![0, 1] bcast_S4x512_S4x512x1_0_1 (select (cmpi .slt I (broadcastInDim S4x512 ![] bcast_S_S4x512 (constantI S_ 32 0#32)))
      (addi I (broadcastInDim S4x512 ![] bcast_S_S4x512 (constantI S_ 32 5760#32))) I) (ix3 b j 0) = wrapW (I (ix2 b j)) := by
  pointwise []
/-- The first words of the ranked spans. -/
theorem starts_at (b : Fin 4) (j : Fin 512) : (after hostOps0_26 W main_v252_1 : IVec S4x512 32) (ix2 b j)
    = (W main_v180 : IVec S5760 32) (ix1 (rank (W main_v233) b j.val)) := by
  after_reads_simp
  exact gather_place _ _ b j _ ((wrap_at _ b j).trans ((congrArg wrapW (topK_places _ _ b j)).trans (wrap_place _)))
/-- The last words of the ranked spans. -/
theorem ends_at (b : Fin 4) (j : Fin 512) : (after hostOps0_26 W main_v252_2 : IVec S4x512 32) (ix2 b j)
    = (W main_v185 : IVec S5760 32) (ix1 (rank (W main_v233) b j.val)) := by
  after_reads_simp
  exact gather_place _ _ b j _ ((wrap_at _ b j).trans ((congrArg wrapW (topK_places _ _ b j)).trans (wrap_place _)))
/-- The loop's copy of the ranked scores. -/
theorem in0_at : (after hostOps0_26 W main_v252_0 : FVec Ideal S4x512 .f32) = after hostOps0_26 W main_values := by
  after_reads_simp
  rfl
/-- The columns. -/
theorem in3_at (z : Fin 1) (j : Fin 512) : (after hostOps0_26 W main_v252_3 : IVec S1x512 32) (ix2 z j) = BitVec.ofNat 32 j.val := by
  after_reads_at
  rfl
/-- The counter starts at zero. -/
theorem in5_at : (after hostOps0_26 W main_v252_5 : IVec S_ 32) = constantI S_ 32 0#32 := by
  after_reads_simp
  rfl
/-- Nothing is selected. -/
theorem in6_at (b : Fin 4) (j : Fin 512) : (after hostOps0_26 W main_v252_6 : IVec S4x512 1) (ix2 b j) = 0#1 := by
  after_reads_at
  rfl
/-- Nothing is suppressed. -/
theorem in7_at (b : Fin 4) (j : Fin 512) : (after hostOps0_26 W main_v252_7 : IVec S4x512 1) (ix2 b j) = 0#1 := by
  after_reads_at
  rfl
end Cert.ReferenceIdeal.Whole
-- ==== Proof.RDec2.lean ====
module
public import proofs.«01_k».proof.Proof.RDec1
public import Idealize.ShloMosaic.Lib.Routing.OpsOne
@[expose] public section
/-! One trip of the reference's selection loop, entry by entry. -/
set_option maxRecDepth 16384
noncomputable section
namespace Cert.ReferenceIdeal.Whole
open Cert.ReferenceIdeal Cert.ReferenceIdeal.Gen Cert.ReferenceIdeal.Value Idealize.ShloMosaic Idealize.ShloMosaic.TcCoe
open Idealize.ShloMosaic.StableHlo
open Cert.Spec
variable (V : Valuation τ sig (Elt Ideal))

/-- A column of a table, as the loop reads it. -/
abbrev colV {α : Type} (X : S4x512.Idx → α) (I : IVec S_ 32) : S4.Idx → α :=
  shapeCast S4 (Host.dynamicSlice S4x1 X (fun k => ((![select (cmpi .slt (constantI S_ 32 0#32) (constantI S_ 32 0#32)) (addi (constantI S_ 32 0#32) (constantI S_ 32 4#32)) (constantI S_ 32 0#32),
    select (cmpi .slt I (constantI S_ 32 0#32)) (addi I (constantI S_ 32 512#32)) I] : Fin 2 → IVec S_ 32) k (Shape.Idx.first h_S_)).toInt) sliceFits_S4x512_S4x1) shapeCasts_S4x1_S4
/-- A small column number is read as it is. -/
theorem wrap_col (t : Fin 512) : Scalar.select (IntOp.cmpi .slt (BitVec.ofNat 32 t.val) 0#32) (IntOp.addi (BitVec.ofNat 32 t.val) 512#32) (BitVec.ofNat 32 t.val) = BitVec.ofNat 32 t.val := by
  revert t; decide +kernel
/-- A slice of one column from the top. -/
theorem slice_col {α : Type} (X : S4x512.Idx → α) (start : Fin 2 → Int) (h0 : start 0 = 0) (t : Fin 512) (h1 : start 1 = (t.val : Int)) (b : Fin 4) :
    Host.dynamicSlice S4x1 X start sliceFits_S4x512_S4x1 (ix2 b 0) = X (ix2 b t) := by
  refine (Host.dynamicSlice_apply X start sliceFits_S4x512_S4x1 (ix2 b 0)).trans ?_
  have hc0 : Host.clampedStart S4x512 S4x1 sliceFits_S4x512_S4x1.1 start 0 = 0 := Host.clampedStart_of_le (s := S4x512) (t := S4x1) _ start 0 0 h0 (by show 0 + 4 ≤ 4; omega)
  have hc1 : Host.clampedStart S4x512 S4x1 sliceFits_S4x512_S4x1.1 start 1 = t.val :=
    Host.clampedStart_of_le (s := S4x512) (t := S4x1) _ start 1 t.val h1 (by have := t.isLt; show t.val + 1 ≤ 512; omega)
  refine congrArg X (funext fun a => Fin.ext ?_)
  match a with
  | ⟨0, _⟩ => exact (congrArg (fun q : ℕ => q + b.val) hc0).trans (Nat.zero_add _)
  | ⟨1, _⟩ => exact (congrArg (fun q : ℕ => q + 0) hc1).trans (Nat.add_zero _)
/-- A column as a vector. -/
theorem cast_col {α : Type} (Y : S4x1.Idx → α) (b : Fin 4) : shapeCast S4 Y shapeCasts_S4x1_S4 (ix1 b) = Y (ix2 b 0) := by
  pointwise []
/-- The column's entry. -/
theorem colV_at {α : Type} (X : S4x512.Idx → α) (t : Fin 512) (b : Fin 4) : colV X (constantI S_ 32 (BitVec.ofNat 32 t.val)) (ix1 b) = X (ix2 b t) := by
  have h1 : (Scalar.select (IntOp.cmpi .slt (BitVec.ofNat 32 t.val) 0#32) (IntOp.addi (BitVec.ofNat 32 t.val) 512#32) (BitVec.ofNat 32 t.val)).toInt = (t.val : Int) := by
    rw [wrap_col, place_toInt _ (by omega)]
  have h0 : (Scalar.select (IntOp.cmpi .slt 0#32 0#32) (IntOp.addi 0#32 4#32) 0#32).toInt = 0 := by decide
  exact (cast_col _ b).trans (slice_col X _ h0 t h1 b)
/-- Whether the trip's span is selected. -/
theorem can_at (t : Fin 512) (hi : (V main_v252_5 : IVec S_ 32) = constantI S_ 32 (BitVec.ofNat 32 t.val)) (b : Fin 4) :
    (res_main_while0b_v275 V : IVec S4 1) (ix1 b) = IntOp.andi (~~~ (V main_v252_7 : IVec S4x512 1) (ix2 b t))
      (FloatOps.cmpf (F := Ideal) (φ := .f32) .ogt ((V main_v252_0 : FVec Ideal S4x512 .f32) (ix2 b t)) (Ideal.ofBits .f32 0x3F000000#32)) := by
  have h1 := colV_at (V main_v252_7 : IVec S4x512 1) t b
  have h2 := colV_at (V main_v252_0 : FVec Ideal S4x512 .f32) t b
  rw [← hi] at h1 h2
  exact congrArg₂ (fun p q => IntOp.andi (~~~ p) (FloatOps.cmpf (F := Ideal) (φ := .f32) .ogt q (Ideal.ofBits .f32 0x3F000000#32))) h1 h2
/-- The update of the suppressed spans at an entry. -/
theorem mix_at (S : IVec S4x512 1) (C : IVec S4 1) (E A : IVec S4x512 32) (a e : IVec S4 32) (I : IVec S1x512 32) (k : IVec S_ 32) (b : Fin 4) (j : Fin 512) :
    ori S (andi (broadcastInDim S4x512 ![0, 1] bcast_S4x1_S4x512_0_1 (broadcastInDim S4x1 ![0] bcast_S4_S4x1_0 C))
      (andi (noti (ori (cmpi .slt E (broadcastInDim S4x512 ![0, 1] bcast_S4x1_S4x512_0_1 (broadcastInDim S4x1 ![0] bcast_S4_S4x1_0 a)))
        (cmpi .slt (broadcastInDim S4x512 ![0, 1] bcast_S4x1_S4x512_0_1 (broadcastInDim S4x1 ![0] bcast_S4_S4x1_0 e)) A)))
        (broadcastInDim S4x512 ![0, 1] bcast_S1x512_S4x512_0_1 (cmpi .sgt I (broadcastInDim S1x512 ![] bcast_S_S1x512 k))))) (ix2 b j)
    = IntOp.ori (S (ix2 b j)) (IntOp.andi (C (ix1 b)) (IntOp.andi (~~~ (IntOp.ori (IntOp.cmpi .slt (E (ix2 b j)) (a (ix1 b))) (IntOp.cmpi .slt (e (ix1 b)) (A (ix2 b j)))))
        (IntOp.cmpi .sgt (I (ix2 0 j)) (k ix0)))) := by
  pointwise []
/-- The suppressed spans after a trip. -/
theorem step7_at (t : Fin 512) (hi : (V main_v252_5 : IVec S_ 32) = constantI S_ 32 (BitVec.ofNat 32 t.val)) (b : Fin 4) (j : Fin 512) :
    (step_main_v252_7 V : IVec S4x512 1) (ix2 b j) = IntOp.ori ((V main_v252_7 : IVec S4x512 1) (ix2 b j)) (IntOp.andi ((res_main_while0b_v275 V : IVec S4 1) (ix1 b))
      (IntOp.andi (~~~ (IntOp.ori (IntOp.cmpi .slt ((V main_v252_2 : IVec S4x512 32) (ix2 b j)) ((V main_v252_1 : IVec S4x512 32) (ix2 b t)))
        (IntOp.cmpi .slt ((V main_v252_2 : IVec S4x512 32) (ix2 b t)) ((V main_v252_1 : IVec S4x512 32) (ix2 b j)))))
        (IntOp.cmpi .sgt ((V main_v252_3 : IVec S1x512 32) (ix2 0 j)) (BitVec.ofNat 32 t.val)))) := by
  have h1 := colV_at (V main_v252_1 : IVec S4x512 32) t b
  have h2 := colV_at (V main_v252_2 : IVec S4x512 32) t b
  have h3 := mix_at (V main_v252_7) (res_main_while0b_v275 V) (V main_v252_2) (V main_v252_1) (colV (V main_v252_1) (V main_v252_5)) (colV (V main_v252_2) (V main_v252_5))
    (V main_v252_3) (V main_v252_5) b j
  rw [← hi] at h1 h2
  rw [h1, h2] at h3
  unfold step_main_v252_7 res_main_while0b_v282 res_main_while0b_v294
  refine h3.trans ?_
  rw [hi]
  rfl
/-- The selected spans after a trip. -/
theorem step6_at (t : Fin 512) (hi : (V main_v252_5 : IVec S_ 32) = constantI S_ 32 (BitVec.ofNat 32 t.val)) (b : Fin 4) (j : Fin 512) :
    (step_main_v252_6 V : IVec S4x512 1) (ix2 b j) = if j = t then (res_main_while0b_v275 V : IVec S4 1) (ix1 b) else (V main_v252_6 : IVec S4x512 1) (ix2 b j) := by
  unfold step_main_v252_6
  rw [hi]
  have hidx : (((broadcastInDim S1 ![] bcast_S_S1 (id (select (cmpi .slt (constantI S_ 32 (BitVec.ofNat 32 t.val)) (constantI S_ 32 0#32)) (addi (constantI S_ 32 (BitVec.ofNat 32 t.val)) (constantI S_ 32 512#32))
      (constantI S_ 32 (BitVec.ofNat 32 t.val))))) : IVec S1 32) (ix1 0)).toInt = (t.val : Int) := by
    pointwise []
    exact (congrArg BitVec.toInt (wrap_col t)).trans (place_toInt _ (by omega))
  by_cases h : j = t
  · rw [if_pos h]
    refine Routing.scatter_set_hit scatter_S4x512_S1_S4_0_1_1_0 _ _ _ (ix2 b j) _ (fun k hk => ?_) (ix1 b) ((Routing.lands_col scatter_S4x512_S1_S4_0_1_1_0 rfl rfl _ t hidx b b j).2 ⟨rfl, h⟩)
    rw [eq_ix1 k] at hk ⊢
    rw [((Routing.lands_col scatter_S4x512_S1_S4_0_1_1_0 rfl rfl _ t hidx _ b j).1 hk).1]
  · rw [if_neg h]
    refine Routing.scatter_set_miss scatter_S4x512_S1_S4_0_1_1_0 _ _ _ (ix2 b j) fun k hk => h ?_
    rw [eq_ix1 k] at hk
    exact ((Routing.lands_col scatter_S4x512_S1_S4_0_1_1_0 rfl rfl _ t hidx _ b j).1 hk).2
end Cert.ReferenceIdeal.Whole
-- ==== Proof.RDec3.lean ====
module
public import proofs.«01_k».proof.Proof.RDec2
public import proofs.«01_k».proof.Proof.KDec
@[expose] public section
/-! The reference's selection loop: what it has selected and suppressed before each trip. -/
set_option maxRecDepth 16384
noncomputable section
namespace Cert.ReferenceIdeal.Whole
open Cert.ReferenceIdeal Cert.ReferenceIdeal.Gen Cert.ReferenceIdeal.Value Idealize.ShloMosaic Idealize.ShloMosaic.TcCoe
open Idealize.ShloMosaic.StableHlo
open Cert.Spec
open Classical

/-- Comparing small words strictly. -/
theorem slt_at (m n : ℕ) (hm : m < 2 ^ 31) (hn : n < 2 ^ 31) : IntOp.cmpi .slt (BitVec.ofNat 32 m) (BitVec.ofNat 32 n) = BitVec.ofBool (decide (m < n)) := by
  show BitVec.ofBool (decide ((BitVec.ofNat 32 m).toInt < (BitVec.ofNat 32 n).toInt)) = _
  rw [place_toInt m hm, place_toInt n hn]
  exact congrArg BitVec.ofBool (decide_eq_decide.mpr Nat.cast_lt)
/-- The disjunction of two decided bits. -/
theorem or_bits (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]
/-- The negation of a decided bit. -/
theorem not_bit (p : Prop) [Decidable p] : ~~~ (BitVec.ofBool (decide p)) = BitVec.ofBool (decide (¬ p)) := by
  by_cases hp : p <;> simp [hp]

/-- Ranks above the threshold, the scores being those of the ranked places. -/
def above (k : Fin 5760 → EReal) (q : ℕ → Fin 5760) (t : ℕ) : Prop := Ideal.ofBits .f32 0x3F000000#32 < k (q t)
/-- Ranks whose spans share a word. -/
def meets (q : ℕ → Fin 5760) (t j : ℕ) : Prop := ¬ (last (q j) < first (q t) ∨ last (q t) < first (q j))

/-- What the loop carries before trip `t`. -/
structure Sel (k : Fin 4 → Fin 5760 → EReal) (q : Fin 4 → ℕ → Fin 5760) (t : ℕ) (V : Valuation τ sig (Elt Ideal)) : Prop where
  vals : ∀ (b : Fin 4) (j : Fin 512), ((V main_v252_0 : FVec Ideal S4x512 .f32) (ix2 b j) : EReal) = k b (q b j.val)
  starts : ∀ (b : Fin 4) (j : Fin 512), (V main_v252_1 : IVec S4x512 32) (ix2 b j) = BitVec.ofNat 32 (first (q b j.val))
  ends : ∀ (b : Fin 4) (j : Fin 512), (V main_v252_2 : IVec S4x512 32) (ix2 b j) = BitVec.ofNat 32 (last (q b j.val))
  cols : ∀ j : Fin 512, (V main_v252_3 : IVec S1x512 32) (ix2 0 j) = BitVec.ofNat 32 j.val
  count : (V main_v252_5 : IVec S_ 32) = constantI S_ 32 (BitVec.ofNat 32 t)
  sel : ∀ (b : Fin 4) (j : Fin 512), (V main_v252_6 : IVec S4x512 1) (ix2 b j) = BitVec.ofBool (decide (j.val < t ∧ chosen (above (k b) (q b)) (meets (q b)) j.val))
  sup : ∀ (b : Fin 4) (j : Fin 512), (V main_v252_7 : IVec S4x512 1) (ix2 b j) = BitVec.ofBool (decide (supp (above (k b) (q b)) (meets (q b)) t j.val))

variable {k : Fin 4 → Fin 5760 → EReal} {q : Fin 4 → ℕ → Fin 5760} {V : Valuation τ sig (Elt Ideal)}
/-- Whether the trip's span is selected. -/
theorem Sel.can (t : Fin 512) (h : Sel k q t.val V) (b : Fin 4) :
    (res_main_while0b_v275 V : IVec S4 1) (ix1 b) = BitVec.ofBool (decide (chosen (above (k b) (q b)) (meets (q b)) t.val)) := by
  refine (can_at V t h.count b).trans ?_
  rw [h.sup, not_bit]
  refine Eq.trans (congrArg (fun u : EReal => IntOp.andi _ (BitVec.ofBool (decide (Ideal.ofBits .f32 0x3F000000#32 < u)))) (h.vals b t)) ?_
  rw [Cert.KernelIdeal.R2.and_bits]
  exact congrArg BitVec.ofBool (decide_eq_decide.mpr Iff.rfl)
/-- One trip keeps it. -/
theorem Sel.step (t : Fin 512) (h : Sel k q t.val V) : Sel k q (t.val + 1) (STEP V) := by
  refine ⟨fun b j => ?_, fun b j => ?_, fun b j => ?_, fun j => ?_, ?_, fun b j => ?_, fun b j => ?_⟩
  · rw [STEP_main_v252_0]; exact h.vals b j
  · rw [STEP_main_v252_1]; exact h.starts b j
  · rw [STEP_main_v252_2]; exact h.ends b j
  · rw [STEP_main_v252_3]; exact h.cols j
  · rw [STEP_main_v252_5]
    unfold step_main_v252_5
    rw [h.count]
    funext i
    show IntOp.addi (BitVec.ofNat 32 t.val) 1#32 = BitVec.ofNat 32 (t.val + 1)
    exact (BitVec.ofNat_add _ _).symm
  · rw [STEP_main_v252_6]
    refine (step6_at V t h.count b j).trans ?_
    rw [h.can, h.sel]
    split
    · rename_i e
      subst e
      exact congrArg BitVec.ofBool (decide_eq_decide.mpr ⟨fun hc => ⟨Nat.lt_succ_self _, hc⟩, fun hc => hc.2⟩)
    · rename_i e
      have e' : j.val ≠ t.val := fun hh => e (Fin.ext hh)
      exact congrArg BitVec.ofBool (decide_eq_decide.mpr (and_congr_left' (by omega)))
  · rw [STEP_main_v252_7]
    refine (step7_at V t h.count b j).trans ?_
    have b1 : ∀ n : Fin 5760, first n < 2 ^ 31 := fun n => by unfold first; omega
    have b2 : ∀ n : Fin 5760, last n < 2 ^ 31 := fun n => by unfold last; omega
    rw [h.can, h.sup, h.ends, h.ends, h.starts, h.starts, h.cols, slt_at _ _ (b2 _) (b1 _), slt_at _ _ (b2 _) (b1 _), or_bits, not_bit]
    have hg : IntOp.cmpi .sgt (BitVec.ofNat 32 j.val) (BitVec.ofNat 32 t.val) = BitVec.ofBool (decide (t.val < j.val)) := slt_at t.val j.val (by omega) (by omega)
    rw [hg, Cert.KernelIdeal.R2.and_bits, Cert.KernelIdeal.R2.and_bits, or_bits]
    exact congrArg BitVec.ofBool (decide_eq_decide.mpr Iff.rfl)
/-- It holds before every trip. -/
theorem Sel.all (h : Sel k q 0 V) (t : ℕ) (ht : t ≤ 512) : Sel k q t (STEP^[t] V) := by
  induction t with
  | zero => exact h
  | succ t ih =>
    rw [Function.iterate_succ_apply']
    exact Sel.step ⟨t, by omega⟩ (ih (by omega))

variable (m : (ℓ : Loc nD τ sig) → Buf (Elt Ideal) ℓ)
/-- The keys the reference ranks. -/
abbrev keys (c : Dev nD) : FVec Ideal S4x5760 .f32 := U26 m c main_v233
/-- It holds at the loop's entry. -/
theorem Sel.entry (c : Dev nD) : Sel (fun b n => keys m c (ix2 b n)) (fun b => rank (keys m c) b) 0 (U27 m c) where
  vals b j := by
    have h0 := in0_at (U26 m c)
    exact (congrArg (fun z : FVec Ideal S4x512 .f32 => (z (ix2 b j) : EReal)) h0).trans (values_at (U26 m c) b j)
  starts b j := by
    refine (starts_at (U26 m c) b j).trans ?_
    have hk : U26 m c main_v180 = U21 m c main_v180 :=
      ((((U26_of m c main_v180 (by decide)).trans (U25_of m c main_v180 (by decide))).trans (U24_of m c main_v180 (by decide))).trans (U23_of m c main_v180 (by decide))).trans (U22_of m c main_v180 (by decide))
    rw [hk]
    exact v180_at (U20 m c) _
  ends b j := by
    refine (ends_at (U26 m c) b j).trans ?_
    have hk : U26 m c main_v185 = U21 m c main_v185 :=
      ((((U26_of m c main_v185 (by decide)).trans (U25_of m c main_v185 (by decide))).trans (U24_of m c main_v185 (by decide))).trans (U23_of m c main_v185 (by decide))).trans (U22_of m c main_v185 (by decide))
    rw [hk]
    exact v185_at (U20 m c) _
  cols j := in3_at (U26 m c) 0 j
  count := in5_at (U26 m c)
  sel b j := by
    refine (in6_at (U26 m c) b j).trans ?_
    rw [decide_eq_false (fun hh => absurd hh.1 (Nat.not_lt_zero _))]
    rfl
  sup b j := by
    refine (in7_at (U26 m c) b j).trans ?_
    rw [decide_eq_false (fun hh : supp _ _ 0 j.val => hh)]
    rfl
/-- Choosing a score above the threshold, the low key otherwise. -/
theorem choose_at (x : EReal) : Scalar.select (FloatOps.cmpf (F := Ideal) (φ := .f32) .ogt x (Ideal.ofBits .f32 0x3F000000#32)) x (Ideal.ofBits .f32 0xBF800000#32) = Cert.KernelIdeal.R2.key x := by
  unfold Cert.KernelIdeal.R2.key
  generalize Ideal.ofBits .f32 0x3F000000#32 = u
  generalize Ideal.ofBits .f32 0xBF800000#32 = w
  show Scalar.select (BitVec.ofBool (decide (u < x))) x w = _
  by_cases h : u < x
  · rw [if_pos h, decide_eq_true h]; rfl
  · rw [if_neg h, decide_eq_false h]; rfl
/-- The keys, from the best scores. -/
theorem keys_at (c : Dev nD) (b : Fin 4) (n : Fin 5760) : (keys m c (ix2 b n) : EReal)
    = Cert.KernelIdeal.R2.key ((U23 m c main_v229 : FVec Ideal S4x5760 .f32) (ix2 b n)) := by
  refine (v233_at (U25 m c) b n).trans ?_
  rw [keep_v229_25]
  have h1 := v232_at (U24 m c) b n
  have h2 := cst35_at (U24 m c)
  rw [U24_of m c main_v229 (by decide)] at h1
  refine Eq.trans (congrArg₂ (fun p (z : FVec Ideal S_ .f32) => Scalar.select p _ (z (Shape.Idx.first h_S_))) h1 h2) ?_
  exact choose_at _
end Cert.ReferenceIdeal.Whole
-- ==== Proof.Agree2.lean ====
module
public import proofs.«01_k».proof.Proof.Agree
public import proofs.«01_k».proof.Proof.KVal2
public import proofs.«01_k».proof.Proof.RDec3
@[expose] public section
/-! The selected spans of the kernel against the reference's, over equal arguments. -/
set_option maxRecDepth 16384
noncomputable section
namespace Cert.Proof
open Idealize.ShloMosaic Idealize.ShloMosaic.TcCoe Idealize.ShloMosaic.StableHlo Idealize.SL.Sem
open Cert.Spec

variable {m : MemK} {m' : MemR} {c : Dev Cert.KernelIdeal.nD}

/-- The greatest of 25 scores is the first of the greatest. -/
theorem fold_first (s : Fin 25 → EReal) (e : Fin 25) (he : Cert.ReferenceIdeal.Whole.First s e) : Finset.fold max (⊥ : EReal) s Finset.univ = s e :=
  le_antisymm ((Finset.fold_max_le _).mpr ⟨bot_le, fun x _ => he.top x⟩) ((Finset.le_fold_max _).mpr (Or.inr ⟨e, Finset.mem_univ _, le_refl _⟩))

/-- The best scores agree. -/
theorem best_agree (h : Same m m' c) (b : Fin 4) (n : Fin 5760) :
    ((Cert.ReferenceIdeal.Whole.U23 m' c Cert.ReferenceIdeal.main_v229 : FVec Ideal ⟨2, ![4, 5760]⟩ .f32) (ix2 b n) : EReal) = Cert.KernelIdeal.Whole.best m c b n := by
  obtain ⟨e, he, -⟩ := Cert.ReferenceIdeal.Whole.U24_v230 m' c h.masks b n
  refine Eq.trans ?_ (Cert.KernelIdeal.Whole.K13 m c b n).symm
  rw [← logits_eq h, Cert.ReferenceIdeal.Whole.ker_top _ _ e he]
  refine (Cert.ReferenceIdeal.Whole.v229_at (Cert.ReferenceIdeal.Whole.U22 m' c) b n).trans ?_
  have hs := funext fun e => Cert.ReferenceIdeal.Whole.U23_v228 m' c h.masks b n e
  refine Eq.trans (congrArg (fun f : Fin 25 → EReal => Finset.fold max (Ideal.ofBits .f32 4286578688#32) f Finset.univ) hs) ?_
  rw [Cert.KernelIdeal.R2.bot_eq]
  exact fold_first _ e he

/-- The keys agree. -/
theorem keys_agree (h : Same m m' c) (b : Fin 4) (n : Fin 5760) :
    (Cert.ReferenceIdeal.Whole.keys m' c (ix2 b n) : EReal) = Cert.KernelIdeal.R2.key (Cert.KernelIdeal.Whole.best m c b n) :=
  (Cert.ReferenceIdeal.Whole.keys_at m' c b n).trans (congrArg Cert.KernelIdeal.R2.key (best_agree h b n))

/-- The reference's ranks are those of the kernel's keys. -/
theorem ranks_agree (h : Same m m' c) (b : Fin 4) :
    Ranks (fun n => Cert.KernelIdeal.R2.key (Cert.KernelIdeal.Whole.best m c b n)) (Cert.ReferenceIdeal.Whole.rank (Cert.ReferenceIdeal.Whole.keys m' c) b) := by
  have hk := funext fun n => keys_agree h b n
  rw [← hk]
  exact Cert.ReferenceIdeal.Whole.rank_ranks (Cert.ReferenceIdeal.Whole.keys m' c) b

/-- What the reference leaves outside its loop is what it entered with. -/
theorem final_entry (r : Ref Cert.ReferenceIdeal.sig .tc) (hr : r ∉ Cert.ReferenceIdeal.Whole.loopW) : RF m' c r = Cert.ReferenceIdeal.Whole.U27 m' c r :=
  (Cert.ReferenceIdeal.Whole.final_of m' c r hr).trans (congrFun (Cert.ReferenceIdeal.Whole.entry_eq m' c) r)

/-- The ranked places agree. -/
theorem places_agree (h : Same m m' c) (i : (⟨2, ![4, 512]⟩ : Shape).Idx) :
    (KF m c Cert.KernelIdeal.main_v19 : IVec ⟨2, ![4, 512]⟩ 32) i = (RF m' c Cert.ReferenceIdeal.main_indices : IVec ⟨2, ![4, 512]⟩ 32) i := by
  obtain ⟨b, j, rfl⟩ : ∃ b j, i = ix2 b j := ⟨_, _, eq_ix2 i⟩
  have hr : RF m' c Cert.ReferenceIdeal.main_indices = Cert.ReferenceIdeal.Whole.U27 m' c Cert.ReferenceIdeal.main_indices := final_entry _ (by decide)
  refine (Cert.KernelIdeal.Whole.K19 m c b (ranks_agree h b) j).trans (Eq.symm ((congrFun hr _).trans ?_))
  exact Cert.ReferenceIdeal.Whole.indices_at (Cert.ReferenceIdeal.Whole.U26 m' c) b j

/-- The ranked scores agree. -/
theorem values_agree (h : Same m m' c) (i : (⟨2, ![4, 512]⟩ : Shape).Idx) :
    (KF m c Cert.KernelIdeal.main_v18_2 : FVec Ideal ⟨2, ![4, 512]⟩ .f32) i = (RF m' c Cert.ReferenceIdeal.main_values : FVec Ideal ⟨2, ![4, 512]⟩ .f32) i := by
  obtain ⟨b, j, rfl⟩ : ∃ b j, i = ix2 b j := ⟨_, _, eq_ix2 i⟩
  have hr : RF m' c Cert.ReferenceIdeal.main_values = Cert.ReferenceIdeal.Whole.U27 m' c Cert.ReferenceIdeal.main_values := final_entry _ (by decide)
  refine (Cert.KernelIdeal.Whole.K18 m c b (ranks_agree h b) j).trans (Eq.symm ((congrFun hr _).trans ?_))
  exact (Cert.ReferenceIdeal.Whole.values_at (Cert.ReferenceIdeal.Whole.U26 m' c) b j).trans (keys_agree h b _)

open Classical in
/-- The selections agree. -/
theorem selections_agree (h : Same m m' c) (i : (⟨2, ![4, 512]⟩ : Shape).Idx) :
    (KF m c Cert.KernelIdeal.main_v21 : IVec ⟨2, ![4, 512]⟩ 1) i = (RF m' c Cert.ReferenceIdeal.main_v252_6 : IVec ⟨2, ![4, 512]⟩ 1) i := by
  obtain ⟨b, j, rfl⟩ : ∃ b j, i = ix2 b j := ⟨_, _, eq_ix2 i⟩
  have hr : RF m' c Cert.ReferenceIdeal.main_v252_6 = Cert.ReferenceIdeal.Value.STEP^[512] (Cert.ReferenceIdeal.Whole.U27 m' c) Cert.ReferenceIdeal.main_v252_6 := by
    refine (Cert.ReferenceIdeal.Whole.final_carried m' c Cert.ReferenceIdeal.main_v252_6 (by decide) (by decide)).trans ?_
    rw [Cert.ReferenceIdeal.Whole.entry_eq m' c]
  refine (Cert.KernelIdeal.Whole.K21 m c b (ranks_agree h b) j).trans (Eq.symm ((congrFun hr _).trans ?_))
  refine (((Cert.ReferenceIdeal.Whole.Sel.entry m' c).all 512 (le_refl _)).sel b j).trans ?_
  have ha : Cert.ReferenceIdeal.Whole.above (fun n => Cert.ReferenceIdeal.Whole.keys m' c (ix2 b n)) (Cert.ReferenceIdeal.Whole.rank (Cert.ReferenceIdeal.Whole.keys m' c) b)
      = Cert.KernelIdeal.R2.hi (fun n => Cert.KernelIdeal.Whole.best m c b n) (Cert.ReferenceIdeal.Whole.rank (Cert.ReferenceIdeal.Whole.keys m' c) b) := by
    funext t
    exact congrArg (fun u : EReal => Ideal.ofBits .f32 0x3F000000#32 < u) (keys_agree h b _)
  rw [ha]
  refine congrArg BitVec.ofBool (decide_eq_decide.mpr ?_)
  have ht := taken_iff (hi := Cert.KernelIdeal.R2.hi (fun n => Cert.KernelIdeal.Whole.best m c b n) (Cert.ReferenceIdeal.Whole.rank (Cert.ReferenceIdeal.Whole.keys m' c) b))
    (ov := Cert.ReferenceIdeal.Whole.meets (Cert.ReferenceIdeal.Whole.rank (Cert.ReferenceIdeal.Whole.keys m' c) b))
    (sp := Cert.KernelIdeal.R2.sp (Cert.ReferenceIdeal.Whole.rank (Cert.ReferenceIdeal.Whole.keys m' c) b)) (fun s t => share _ _) j.val
  exact ⟨fun hh => ht.mpr hh.2, fun hh => ⟨j.isLt, ht.mp hh⟩⟩
end Cert.Proof
-- ==== Proof.Values.lean ====
module
public import proofs.«01_k».proof.Defs
public import proofs.«01_k».proof.Proof.Agree2
@[expose] public section
/-! The value claim, from the two runs. -/
set_option maxRecDepth 16384
noncomputable section
namespace Cert.Proof
open Idealize.ShloMosaic Idealize.ShloMosaic.TcCoe Idealize.ShloMosaic.StableHlo Idealize.SL.Sem

/-- The value claim. -/
theorem values : Cert.algebraic_KernelIdeal_ReferenceIdeal_pre_masks_as_drawn (hKernelIdeal := Cert.KernelIdeal.Gen.facts)
    (hReferenceIdeal := Cert.ReferenceIdeal.Gen.facts) (hPre_masks_as_drawn := preFacts) := by
  intro m g m' g' hpre hargs
  have hs : ∀ c, Same m m' c := fun c => by
    obtain ⟨h0, h1, h2, h3, h4, h5, h6, h7, h8, h9, h10, h11⟩ := hargs c
    refine ⟨h0, h1, h2, h3, h4, h5, h6, h7, h8, h9, h10, h11, ?_⟩
    unfold Cert.ReferenceIdeal.Whole.Drawn3
    rw [h1, h2, h3]
    exact masks_of _ _ _ _ _ _ _ _ _ _ _ _ (hpre c)
  refine ⟨fun c => RF m' c Cert.ReferenceIdeal.main_v228, fun c => RF m' c Cert.ReferenceIdeal.main_indices, fun c => RF m' c Cert.ReferenceIdeal.main_v252_6,
    fun c => RF m' c Cert.ReferenceIdeal.main_values, fun c => RF m' c Cert.ReferenceIdeal.main_v230, ?_, ?_⟩
  · refine (θ_run (Cert.KernelIdeal.defs (F := Ideal)) (onTc (τ := Cert.KernelIdeal.τ) (Cert.KernelIdeal.main (F := Ideal))) ⟨m, fun _ => 0, g⟩).mono
      (fun r h c => ⟨?_, ?_, ?_, ?_, ?_,
        (Cert.KernelIdeal.Whole.mem_of m (h.1 c) Cert.KernelIdeal.main_arg0 (Finset.mem_filter.mpr ⟨StableHlo.devRef_mem_tcRefs _, by decide⟩)).trans (Cert.KernelIdeal.Gen.V7_main_arg0 m _ c),
      (Cert.KernelIdeal.Whole.mem_of m (h.1 c) Cert.KernelIdeal.main_arg1 (Finset.mem_filter.mpr ⟨StableHlo.devRef_mem_tcRefs _, by decide⟩)).trans (Cert.KernelIdeal.Gen.V7_main_arg1 m _ c),
      (Cert.KernelIdeal.Whole.mem_of m (h.1 c) Cert.KernelIdeal.main_arg2 (Finset.mem_filter.mpr ⟨StableHlo.devRef_mem_tcRefs _, by decide⟩)).trans (Cert.KernelIdeal.Gen.V7_main_arg2 m _ c),
      (Cert.KernelIdeal.Whole.mem_of m (h.1 c) Cert.KernelIdeal.main_arg3 (Finset.mem_filter.mpr ⟨StableHlo.devRef_mem_tcRefs _, by decide⟩)).trans (Cert.KernelIdeal.Gen.V7_main_arg3 m _ c),
      (Cert.KernelIdeal.Whole.mem_of m (h.1 c) Cert.KernelIdeal.main_arg4 (Finset.mem_filter.mpr ⟨StableHlo.devRef_mem_tcRefs _, by decide⟩)).trans (Cert.KernelIdeal.Gen.V7_main_arg4 m _ c),
      (Cert.KernelIdeal.Whole.mem_of m (h.1 c) Cert.KernelIdeal.main_arg5 (Finset.mem_filter.mpr ⟨StableHlo.devRef_mem_tcRefs _, by decide⟩)).trans (Cert.KernelIdeal.Gen.V7_main_arg5 m _ c),
      (Cert.KernelIdeal.Whole.mem_of m (h.1 c) Cert.KernelIdeal.main_arg6 (Finset.mem_filter.mpr ⟨StableHlo.devRef_mem_tcRefs _, by decide⟩)).trans (Cert.KernelIdeal.Gen.V7_main_arg6 m _ c),
      (Cert.KernelIdeal.Whole.mem_of m (h.1 c) Cert.KernelIdeal.main_arg7 (Finset.mem_filter.mpr ⟨StableHlo.devRef_mem_tcRefs _, by decide⟩)).trans (Cert.KernelIdeal.Gen.V7_main_arg7 m _ c),
      (Cert.KernelIdeal.Whole.mem_of m (h.1 c) Cert.KernelIdeal.main_arg8 (Finset.mem_filter.mpr ⟨StableHlo.devRef_mem_tcRefs _, by decide⟩)).trans (Cert.KernelIdeal.Gen.V7_main_arg8 m _ c),
      (Cert.KernelIdeal.Whole.mem_of m (h.1 c) Cert.KernelIdeal.main_arg9 (Finset.mem_filter.mpr ⟨StableHlo.devRef_mem_tcRefs _, by decide⟩)).trans (Cert.KernelIdeal.Gen.V7_main_arg9 m _ c),
      (Cert.KernelIdeal.Whole.mem_of m (h.1 c) Cert.KernelIdeal.main_arg10 (Finset.mem_filter.mpr ⟨StableHlo.devRef_mem_tcRefs _, by decide⟩)).trans (Cert.KernelIdeal.Gen.V7_main_arg10 m _ c),
      (Cert.KernelIdeal.Whole.mem_of m (h.1 c) Cert.KernelIdeal.main_arg11 (Finset.mem_filter.mpr ⟨StableHlo.devRef_mem_tcRefs _, by decide⟩)).trans (Cert.KernelIdeal.Gen.V7_main_arg11 m _ c)⟩)
      (Cert.KernelIdeal.Whole.run m g)
    · exact (Cert.KernelIdeal.Whole.mem_of m (h.1 c) Cert.KernelIdeal.main_v10 (Finset.mem_filter.mpr ⟨StableHlo.devRef_mem_tcRefs _, by decide⟩)).trans (funext fun i => scores_agree (hs c) i)
    · exact (Cert.KernelIdeal.Whole.mem_of m (h.1 c) Cert.KernelIdeal.main_v19 (Finset.mem_filter.mpr ⟨StableHlo.devRef_mem_tcRefs _, by decide⟩)).trans (funext fun i => places_agree (hs c) i)
    · exact (Cert.KernelIdeal.Whole.mem_of m (h.1 c) Cert.KernelIdeal.main_v21 (Finset.mem_filter.mpr ⟨StableHlo.devRef_mem_tcRefs _, by decide⟩)).trans (funext fun i => selections_agree (hs c) i)
    · exact (Cert.KernelIdeal.Whole.mem_of m (h.1 c) Cert.KernelIdeal.main_v18_2 (Finset.mem_filter.mpr ⟨StableHlo.devRef_mem_tcRefs _, by decide⟩)).trans (funext fun i => values_agree (hs c) i)
    · exact (Cert.KernelIdeal.Whole.mem_of m (h.1 c) Cert.KernelIdeal.main_v17 (Finset.mem_filter.mpr ⟨StableHlo.devRef_mem_tcRefs _, by decide⟩)).trans (funext fun i => rows_agree (hs c) i)
  · exact (θ_run (Cert.ReferenceIdeal.defs (F := Ideal)) (onTc (τ := Cert.ReferenceIdeal.τ) (Cert.ReferenceIdeal.main (F := Ideal))) ⟨m', fun _ => 0, g'⟩).mono
      (fun r h c => ⟨h.1 c Cert.ReferenceIdeal.main_v228 (by decide), h.1 c Cert.ReferenceIdeal.main_indices (by decide), h.1 c Cert.ReferenceIdeal.main_v252_6 (by decide), h.1 c Cert.ReferenceIdeal.main_values (by decide), h.1 c Cert.ReferenceIdeal.main_v230 (by decide),
        (h.1 c Cert.ReferenceIdeal.main_arg0 (by decide)).trans (Cert.ReferenceIdeal.Whole.final_arg m' c Cert.ReferenceIdeal.main_arg0 (by decide) (by decide)),
      (h.1 c Cert.ReferenceIdeal.main_arg1 (by decide)).trans (Cert.ReferenceIdeal.Whole.final_arg m' c Cert.ReferenceIdeal.main_arg1 (by decide) (by decide)),
      (h.1 c Cert.ReferenceIdeal.main_arg2 (by decide)).trans (Cert.ReferenceIdeal.Whole.final_arg m' c Cert.ReferenceIdeal.main_arg2 (by decide) (by decide)),
      (h.1 c Cert.ReferenceIdeal.main_arg3 (by decide)).trans (Cert.ReferenceIdeal.Whole.final_arg m' c Cert.ReferenceIdeal.main_arg3 (by decide) (by decide)),
      (h.1 c Cert.ReferenceIdeal.main_arg4 (by decide)).trans (Cert.ReferenceIdeal.Whole.final_arg m' c Cert.ReferenceIdeal.main_arg4 (by decide) (by decide)),
      (h.1 c Cert.ReferenceIdeal.main_arg5 (by decide)).trans (Cert.ReferenceIdeal.Whole.final_arg m' c Cert.ReferenceIdeal.main_arg5 (by decide) (by decide)),
      (h.1 c Cert.ReferenceIdeal.main_arg6 (by decide)).trans (Cert.ReferenceIdeal.Whole.final_arg m' c Cert.ReferenceIdeal.main_arg6 (by decide) (by decide)),
      (h.1 c Cert.ReferenceIdeal.main_arg7 (by decide)).trans (Cert.ReferenceIdeal.Whole.final_arg m' c Cert.ReferenceIdeal.main_arg7 (by decide) (by decide)),
      (h.1 c Cert.ReferenceIdeal.main_arg8 (by decide)).trans (Cert.ReferenceIdeal.Whole.final_arg m' c Cert.ReferenceIdeal.main_arg8 (by decide) (by decide)),
      (h.1 c Cert.ReferenceIdeal.main_arg9 (by decide)).trans (Cert.ReferenceIdeal.Whole.final_arg m' c Cert.ReferenceIdeal.main_arg9 (by decide) (by decide)),
      (h.1 c Cert.ReferenceIdeal.main_arg10 (by decide)).trans (Cert.ReferenceIdeal.Whole.final_arg m' c Cert.ReferenceIdeal.main_arg10 (by decide) (by decide)),
      (h.1 c Cert.ReferenceIdeal.main_arg11 (by decide)).trans (Cert.ReferenceIdeal.Whole.final_arg m' c Cert.ReferenceIdeal.main_arg11 (by decide) (by decide))⟩)
      (Cert.ReferenceIdeal.Whole.run m' g')

end Cert.Proof
-- ==== Proof.lean ====
module

public import proofs.«01_k».proof.Defs
public import proofs.«01_k».proof.Proof.Frames
public import proofs.«01_k».proof.Proof.Values

@[expose] public section

noncomputable section

namespace Cert.Proof

/-- Everything the certificate claims. -/
theorem claim : Cert.Claim := ⟨Cert.Kernel.Gen.facts, Cert.KernelIdeal.Gen.facts, Cert.ReferenceIdeal.Gen.facts, preFacts,
  frame_Kernel, frame_KernelIdeal, fun m g _ => frame_KernelIdeal m g trivial, frame_ReferenceIdeal, fun m g _ => frame_ReferenceIdeal m g trivial, trivial, values⟩

end Cert.Proof

end
